-- ==== Defs.lean ====
def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_gqa_finite [hPre_gqa_finite : Cert.Pre_gqa_finite.Facts] (m : (ℓ : Loc Cert.GqaIdeal.nD Cert.GqaIdeal.τ Cert.GqaIdeal.sig) → Buf (Elt Ideal) ℓ) : Prop :=
  ∀ c : Dev Cert.GqaIdeal.nD,
    (Cert.Pre_gqa_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2))) = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_gqa_finite [hPre_gqa_finite : Cert.Pre_gqa_finite.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_gqa_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2))) = (fun _ => 1#1)

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite [hPre_mla_finite : Cert.Pre_mla_finite.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite [hPre_mla_finite : Cert.Pre_mla_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_Experts [hPre_tables_in_range : Cert.Pre_tables_in_range.Facts] (m : (ℓ : Loc Cert.Experts.nD Cert.Experts.τ Cert.Experts.sig) → Buf (Elt Bits) ℓ) : Prop :=
  ∀ c : Dev Cert.Experts.nD,
    (Cert.Pre_tables_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_tables_in_range : Cert.Pre_tables_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_tables_in_range [hPre_tables_in_range : Cert.Pre_tables_in_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_tables_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaIdeal_pre_gqa_finite [hGqaIdeal : Cert.GqaIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_gqa_finite m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_GqaRefIdeal_pre_gqa_finite [hGqaRefIdeal : Cert.GqaRefIdeal.Facts] [hPre_gqa_finite : Cert.Pre_gqa_finite.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_gqa_finite m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_mla_finite [hMlaIdeal : Cert.MlaIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MlaRefIdeal_pre_mla_finite [hMlaRefIdeal : Cert.MlaRefIdeal.Facts] [hPre_mla_finite : Cert.Pre_mla_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12)
      ∧ r.2.mem ((c.tc : Thread Cert.Tail.nD Cert.Tail.τ).loc Cert.Tail.main_arg13) = m ((c.tc : Thread Cert.Tail.nD Cert.Tail.τ).loc Cert.Tail.main_arg13)
      ∧ r.2.mem ((c.tc : Thread Cert.Tail.nD Cert.Tail.τ).loc Cert.Tail.main_arg14) = m ((c.tc : Thread Cert.Tail.nD Cert.Tail.τ).loc Cert.Tail.main_arg14))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
      ∧ r.2.mem ((c.tc : Thread Cert.TailIdeal.nD Cert.TailIdeal.τ).loc Cert.TailIdeal.main_arg14) = m ((c.tc : Thread Cert.TailIdeal.nD Cert.TailIdeal.τ).loc Cert.TailIdeal.main_arg14))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11)
      ∧ r.2.mem ((c.tc : Thread Cert.TailRefIdeal.nD Cert.TailRefIdeal.τ).loc Cert.TailRefIdeal.main_arg12) = m ((c.tc : Thread Cert.TailRefIdeal.nD Cert.TailRefIdeal.τ).loc Cert.TailRefIdeal.main_arg12)
      ∧ r.2.mem ((c.tc : Thread Cert.TailRefIdeal.nD Cert.TailRefIdeal.τ).loc Cert.TailRefIdeal.main_arg13) = m ((c.tc : Thread Cert.TailRefIdeal.nD Cert.TailRefIdeal.τ).loc Cert.TailRefIdeal.main_arg13)
      ∧ r.2.mem ((c.tc : Thread Cert.TailRefIdeal.nD Cert.TailRefIdeal.τ).loc Cert.TailRefIdeal.main_arg14) = m ((c.tc : Thread Cert.TailRefIdeal.nD Cert.TailRefIdeal.τ).loc Cert.TailRefIdeal.main_arg14))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)
      ∧ r.2.mem ((c.tc : Thread Cert.Combine.nD Cert.Combine.τ).loc Cert.Combine.main_arg6) = m ((c.tc : Thread Cert.Combine.nD Cert.Combine.τ).loc Cert.Combine.main_arg6)
      ∧ r.2.mem ((c.tc : Thread Cert.Combine.nD Cert.Combine.τ).loc Cert.Combine.main_arg7) = m ((c.tc : Thread Cert.Combine.nD Cert.Combine.τ).loc Cert.Combine.main_arg7)
      ∧ r.2.mem ((c.tc : Thread Cert.Combine.nD Cert.Combine.τ).loc Cert.Combine.main_arg8) = m ((c.tc : Thread Cert.Combine.nD Cert.Combine.τ).loc Cert.Combine.main_arg8))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
      ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
      ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5)
      ∧ r.2.mem ((c.tc : Thread Cert.CombineRefIdeal.nD Cert.CombineRefIdeal.τ).loc Cert.CombineRefIdeal.main_arg6) = m ((c.tc : Thread Cert.CombineRefIdeal.nD Cert.CombineRefIdeal.τ).loc Cert.CombineRefIdeal.main_arg6)
      ∧ r.2.mem ((c.tc : Thread Cert.CombineRefIdeal.nD Cert.CombineRefIdeal.τ).loc Cert.CombineRefIdeal.main_arg7) = m ((c.tc : Thread Cert.CombineRefIdeal.nD Cert.CombineRefIdeal.τ).loc Cert.CombineRefIdeal.main_arg7)
      ∧ r.2.mem ((c.tc : Thread Cert.CombineRefIdeal.nD Cert.CombineRefIdeal.τ).loc Cert.CombineRefIdeal.main_arg8) = m ((c.tc : Thread Cert.CombineRefIdeal.nD Cert.CombineRefIdeal.τ).loc Cert.CombineRefIdeal.main_arg8))
      ∧ r.2.sem = fun _ => 0)

def quiescent_Experts [hExperts : Cert.Experts.Facts] [hPre_tables_in_range : Cert.Pre_tables_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_tables_in_range : Cert.Pre_tables_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_ExpertsRefIdeal_pre_tables_in_range [hExpertsRefIdeal : Cert.ExpertsRefIdeal.Facts] [hPre_tables_in_range : Cert.Pre_tables_in_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_tables_in_range m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def preserves_Gqa_GqaIdeal : Prop :=
  True

def algebraic_GqaIdeal_GqaRefIdeal_pre_gqa_finite [hGqaIdeal : Cert.GqaIdeal.Facts] [hGqaRefIdeal : Cert.GqaRefIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_gqa_finite m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)) →
    ∃ (v0 : (c : Dev Cert.GqaIdeal.nD) → Buf (Elt Ideal) ((c.tc : Thread Cert.GqaIdeal.nD Cert.GqaIdeal.τ).loc Cert.GqaIdeal.main_v15)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v15) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v19) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2))

def preserves_Mla_MlaIdeal : Prop :=
  True

def algebraic_MlaIdeal_MlaRefIdeal_pre_mla_finite [hMlaIdeal : Cert.MlaIdeal.Facts] [hMlaRefIdeal : Cert.MlaRefIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v17)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v17) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v17) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)
      ∧ m' ((c.tc : Thread Cert.TailRefIdeal.nD Cert.TailRefIdeal.τ).loc Cert.TailRefIdeal.main_arg11) = m ((c.tc : Thread Cert.TailIdeal.nD Cert.TailIdeal.τ).loc Cert.TailIdeal.main_arg11)
      ∧ m' ((c.tc : Thread Cert.TailRefIdeal.nD Cert.TailRefIdeal.τ).loc Cert.TailRefIdeal.main_arg12) = m ((c.tc : Thread Cert.TailIdeal.nD Cert.TailIdeal.τ).loc Cert.TailIdeal.main_arg12)
      ∧ m' ((c.tc : Thread Cert.TailRefIdeal.nD Cert.TailRefIdeal.τ).loc Cert.TailRefIdeal.main_arg13) = m ((c.tc : Thread Cert.TailIdeal.nD Cert.TailIdeal.τ).loc Cert.TailIdeal.main_arg13)
      ∧ m' ((c.tc : Thread Cert.TailRefIdeal.nD Cert.TailRefIdeal.τ).loc Cert.TailRefIdeal.main_arg14) = m ((c.tc : Thread Cert.TailIdeal.nD Cert.TailIdeal.τ).loc Cert.TailIdeal.main_arg14)) →
    ∃ (v0 : (c : Dev Cert.TailIdeal.nD) → Buf (Elt Ideal) ((c.tc : Thread Cert.TailIdeal.nD Cert.TailIdeal.τ).loc Cert.TailIdeal.main_v48)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v48) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
          ∧ r.2.mem ((c.tc : Thread Cert.TailIdeal.nD Cert.TailIdeal.τ).loc Cert.TailIdeal.main_arg14) = m ((c.tc : Thread Cert.TailIdeal.nD Cert.TailIdeal.τ).loc Cert.TailIdeal.main_arg14))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v103) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10)
          ∧ r.2.mem ((c.tc : Thread Cert.TailRefIdeal.nD Cert.TailRefIdeal.τ).loc Cert.TailRefIdeal.main_arg11) = m' ((c.tc : Thread Cert.TailRefIdeal.nD Cert.TailRefIdeal.τ).loc Cert.TailRefIdeal.main_arg11)
          ∧ r.2.mem ((c.tc : Thread Cert.TailRefIdeal.nD Cert.TailRefIdeal.τ).loc Cert.TailRefIdeal.main_arg12) = m' ((c.tc : Thread Cert.TailRefIdeal.nD Cert.TailRefIdeal.τ).loc Cert.TailRefIdeal.main_arg12)
          ∧ r.2.mem ((c.tc : Thread Cert.TailRefIdeal.nD Cert.TailRefIdeal.τ).loc Cert.TailRefIdeal.main_arg13) = m' ((c.tc : Thread Cert.TailRefIdeal.nD Cert.TailRefIdeal.τ).loc Cert.TailRefIdeal.main_arg13)
          ∧ r.2.mem ((c.tc : Thread Cert.TailRefIdeal.nD Cert.TailRefIdeal.τ).loc Cert.TailRefIdeal.main_arg14) = m' ((c.tc : Thread Cert.TailRefIdeal.nD Cert.TailRefIdeal.τ).loc Cert.TailRefIdeal.main_arg14))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)
      ∧ m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)
      ∧ m' ((c.tc : Thread Cert.CombineRefIdeal.nD Cert.CombineRefIdeal.τ).loc Cert.CombineRefIdeal.main_arg6) = m ((c.tc : Thread Cert.CombineIdeal.nD Cert.CombineIdeal.τ).loc Cert.CombineIdeal.main_arg6)
      ∧ m' ((c.tc : Thread Cert.CombineRefIdeal.nD Cert.CombineRefIdeal.τ).loc Cert.CombineRefIdeal.main_arg7) = m ((c.tc : Thread Cert.CombineIdeal.nD Cert.CombineIdeal.τ).loc Cert.CombineIdeal.main_arg7)
      ∧ m' ((c.tc : Thread Cert.CombineRefIdeal.nD Cert.CombineRefIdeal.τ).loc Cert.CombineRefIdeal.main_arg8) = m ((c.tc : Thread Cert.CombineIdeal.nD Cert.CombineIdeal.τ).loc Cert.CombineIdeal.main_arg8)) →
    ∃ (v0 : (c : Dev Cert.CombineIdeal.nD) → Buf (Elt Ideal) ((c.tc : Thread Cert.CombineIdeal.nD Cert.CombineIdeal.τ).loc Cert.CombineIdeal.main_v23)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v23) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
          ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
          ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
          ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v66) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4)
          ∧ r.2.mem ((c.tc : Thread Cert.CombineRefIdeal.nD Cert.CombineRefIdeal.τ).loc Cert.CombineRefIdeal.main_arg5) = m' ((c.tc : Thread Cert.CombineRefIdeal.nD Cert.CombineRefIdeal.τ).loc Cert.CombineRefIdeal.main_arg5)
          ∧ r.2.mem ((c.tc : Thread Cert.CombineRefIdeal.nD Cert.CombineRefIdeal.τ).loc Cert.CombineRefIdeal.main_arg6) = m' ((c.tc : Thread Cert.CombineRefIdeal.nD Cert.CombineRefIdeal.τ).loc Cert.CombineRefIdeal.main_arg6)
          ∧ r.2.mem ((c.tc : Thread Cert.CombineRefIdeal.nD Cert.CombineRefIdeal.τ).loc Cert.CombineRefIdeal.main_arg7) = m' ((c.tc : Thread Cert.CombineRefIdeal.nD Cert.CombineRefIdeal.τ).loc Cert.CombineRefIdeal.main_arg7)
          ∧ r.2.mem ((c.tc : Thread Cert.CombineRefIdeal.nD Cert.CombineRefIdeal.τ).loc Cert.CombineRefIdeal.main_arg8) = m' ((c.tc : Thread Cert.CombineRefIdeal.nD Cert.CombineRefIdeal.τ).loc Cert.CombineRefIdeal.main_arg8))

def preserves_Experts_ExpertsIdeal : Prop :=
  True

def algebraic_ExpertsIdeal_ExpertsRefIdeal [hExpertsIdeal : Cert.ExpertsIdeal.Facts] [hExpertsRefIdeal : Cert.ExpertsRefIdeal.Facts] [hPre_tables_in_range : Cert.Pre_tables_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v62) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def Claim : Prop :=
  ∃ (hGqa : Cert.Gqa.Facts) (hGqaIdeal : Cert.GqaIdeal.Facts) (hGqaRefIdeal : Cert.GqaRefIdeal.Facts) (hMla : Cert.Mla.Facts) (hMlaIdeal : Cert.MlaIdeal.Facts) (hMlaRefIdeal : Cert.MlaRefIdeal.Facts) (hTail : Cert.Tail.Facts) (hTailIdeal : Cert.TailIdeal.Facts) (hTailRefIdeal : Cert.TailRefIdeal.Facts) (hCombine : Cert.Combine.Facts) (hCombineIdeal : Cert.CombineIdeal.Facts) (hCombineRefIdeal : Cert.CombineRefIdeal.Facts) (hExperts : Cert.Experts.Facts) (hExpertsIdeal : Cert.ExpertsIdeal.Facts) (hExpertsRefIdeal : Cert.ExpertsRefIdeal.Facts) (hPre_gqa_finite : Cert.Pre_gqa_finite.Facts) (hPre_mla_finite : Cert.Pre_mla_finite.Facts) (hPre_tables_in_range : Cert.Pre_tables_in_range.Facts),
    quiescent_Gqa (hGqa := hGqa)
    ∧ quiescent_GqaIdeal (hGqaIdeal := hGqaIdeal)
    ∧ quiescent_GqaIdeal_pre_gqa_finite (hGqaIdeal := hGqaIdeal) (hPre_gqa_finite := hPre_gqa_finite)
    ∧ quiescent_GqaRefIdeal (hGqaRefIdeal := hGqaRefIdeal)
    ∧ quiescent_GqaRefIdeal_pre_gqa_finite (hGqaRefIdeal := hGqaRefIdeal) (hPre_gqa_finite := hPre_gqa_finite)
    ∧ quiescent_Mla (hMla := hMla)
    ∧ quiescent_MlaIdeal (hMlaIdeal := hMlaIdeal)
    ∧ quiescent_MlaIdeal_pre_mla_finite (hMlaIdeal := hMlaIdeal) (hPre_mla_finite := hPre_mla_finite)
    ∧ quiescent_MlaRefIdeal (hMlaRefIdeal := hMlaRefIdeal)
    ∧ quiescent_MlaRefIdeal_pre_mla_finite (hMlaRefIdeal := hMlaRefIdeal) (hPre_mla_finite := hPre_mla_finite)
    ∧ quiescent_Tail (hTail := hTail)
    ∧ quiescent_TailIdeal (hTailIdeal := hTailIdeal)
    ∧ quiescent_TailRefIdeal (hTailRefIdeal := hTailRefIdeal)
    ∧ quiescent_Combine (hCombine := hCombine)
    ∧ quiescent_CombineIdeal (hCombineIdeal := hCombineIdeal)
    ∧ quiescent_CombineRefIdeal (hCombineRefIdeal := hCombineRefIdeal)
    ∧ quiescent_Experts (hExperts := hExperts) (hPre_tables_in_range := hPre_tables_in_range)
    ∧ quiescent_ExpertsIdeal (hExpertsIdeal := hExpertsIdeal) (hPre_tables_in_range := hPre_tables_in_range)
    ∧ quiescent_ExpertsRefIdeal (hExpertsRefIdeal := hExpertsRefIdeal)
    ∧ quiescent_ExpertsRefIdeal_pre_tables_in_range (hExpertsRefIdeal := hExpertsRefIdeal) (hPre_tables_in_range := hPre_tables_in_range)
    ∧ preserves_Gqa_GqaIdeal
    ∧ algebraic_GqaIdeal_GqaRefIdeal_pre_gqa_finite (hGqaIdeal := hGqaIdeal) (hGqaRefIdeal := hGqaRefIdeal) (hPre_gqa_finite := hPre_gqa_finite)
    ∧ preserves_Mla_MlaIdeal
    ∧ algebraic_MlaIdeal_MlaRefIdeal_pre_mla_finite (hMlaIdeal := hMlaIdeal) (hMlaRefIdeal := hMlaRefIdeal) (hPre_mla_finite := hPre_mla_finite)
    ∧ preserves_Tail_TailIdeal
    ∧ algebraic_TailIdeal_TailRefIdeal (hTailIdeal := hTailIdeal) (hTailRefIdeal := hTailRefIdeal)
    ∧ preserves_Combine_CombineIdeal
    ∧ algebraic_CombineIdeal_CombineRefIdeal (hCombineIdeal := hCombineIdeal) (hCombineRefIdeal := hCombineRefIdeal)
    ∧ preserves_Experts_ExpertsIdeal
    ∧ algebraic_ExpertsIdeal_ExpertsRefIdeal (hExpertsIdeal := hExpertsIdeal) (hExpertsRefIdeal := hExpertsRefIdeal) (hPre_tables_in_range := hPre_tables_in_range)
-- ==== Pre_gqa_finite.lean ====
abbrev S16x2048x2x4x64 : Shape := ⟨5, ![16, 2048, 2, 4, 64]⟩
abbrev S16x2048x2x64 : Shape := ⟨4, ![16, 2048, 2, 64]⟩
abbrev S_ : Shape := ⟨0, ![]⟩

class Facts : Prop where
  bcast_S_S16x2048x2x4x64 : S_.BroadcastsInDim S16x2048x2x4x64 (![] : Fin 0 → Fin S16x2048x2x4x64.rank)
  reducesTo_S16x2048x2x4x64_S_d0_1_2_3_4 : S16x2048x2x4x64.ReducesTo [0, 1, 2, 3, 4] S_
  h_S_ : 0 < S_.numel
  bcast_S_S16x2048x2x64 : S_.BroadcastsInDim S16x2048x2x64 (![] : Fin 0 → Fin S16x2048x2x64.rank)
  reducesTo_S16x2048x2x64_S_d0_1_2_3 : S16x2048x2x64.ReducesTo [0, 1, 2, 3] S_

variable [Facts]

def fn {F : FTy → Type} [FloatOps F] (main_arg0 : FVec F S16x2048x2x4x64 .f32) (main_arg1 : FVec F S16x2048x2x64 .f32) (main_arg2 : FVec F S16x2048x2x64 .f32) : IVec S_ 1 :=
  let main_v0 : FVec F S16x2048x2x4x64 .f32 := Host.absf main_arg0
  let main_cst : FVec F S_ .f32 := constant S_ .f32 0x7F800000#32
  let main_v1 : FVec F S16x2048x2x4x64 .f32 := broadcastInDim S16x2048x2x4x64 ![] bcast_S_S16x2048x2x4x64 main_cst
  let main_v2 : IVec S16x2048x2x4x64 1 := cmpf .olt main_v0 main_v1
  let main_c : IVec S_ 1 := constantI S_ 1 1#1
  let main_v3 : IVec S_ 1 := (fun x v => Host.reduce IntOp.andi x v reducesTo_S16x2048x2x4x64_S_d0_1_2_3_4 h_S_) main_v2 main_c
  let main_v4 : FVec F S16x2048x2x64 .f32 := Host.absf main_arg1
  let main_cst_0 : FVec F S_ .f32 := constant S_ .f32 0x7F800000#32
  let main_v5 : FVec F S16x2048x2x64 .f32 := broadcastInDim S16x2048x2x64 ![] bcast_S_S16x2048x2x64 main_cst_0
  let main_v6 : IVec S16x2048x2x64 1 := cmpf .olt main_v4 main_v5
  let main_c_1 : IVec S_ 1 := constantI S_ 1 1#1
  let main_v7 : IVec S_ 1 := (fun x v => Host.reduce IntOp.andi x v reducesTo_S16x2048x2x64_S_d0_1_2_3 h_S_) main_v6 main_c_1
  let main_v8 : IVec S_ 1 := andi main_v3 main_v7
  main_v8
-- ==== Pre_mla_finite.lean ====
abbrev S16x2048x8x96 : Shape := ⟨4, ![16, 2048, 8, 96]⟩
abbrev S16x2048x8x64 : Shape := ⟨4, ![16, 2048, 8, 64]⟩
abbrev S_ : Shape := ⟨0, ![]⟩

class Facts : Prop where
  bcast_S_S16x2048x8x96 : S_.BroadcastsInDim S16x2048x8x96 (![] : Fin 0 → Fin S16x2048x8x96.rank)
  reducesTo_S16x2048x8x96_S_d0_1_2_3 : S16x2048x8x96.ReducesTo [0, 1, 2, 3] S_
  h_S_ : 0 < S_.numel

variable [Facts]

def fn {F : FTy → Type} [FloatOps F] (main_arg0 : FVec F S16x2048x8x96 .f32) (main_arg1 : FVec F S16x2048x8x96 .f32) (main_arg2 : FVec F S16x2048x8x64 .f32) : IVec S_ 1 :=
  let main_v0 : FVec F S16x2048x8x96 .f32 := Host.absf main_arg0
  let main_cst : FVec F S_ .f32 := constant S_ .f32 0x7F800000#32
  let main_v1 : FVec F S16x2048x8x96 .f32 := broadcastInDim S16x2048x8x96 ![] bcast_S_S16x2048x8x96 main_cst
  let main_v2 : IVec S16x2048x8x96 1 := cmpf .olt main_v0 main_v1
  let main_c : IVec S_ 1 := constantI S_ 1 1#1
  let main_v3 : IVec S_ 1 := (fun x v => Host.reduce IntOp.andi x v reducesTo_S16x2048x8x96_S_d0_1_2_3 h_S_) main_v2 main_c
  let main_v4 : FVec F S16x2048x8x96 .f32 := Host.absf main_arg1
  let main_cst_0 : FVec F S_ .f32 := constant S_ .f32 0x7F800000#32
  let main_v5 : FVec F S16x2048x8x96 .f32 := broadcastInDim S16x2048x8x96 ![] bcast_S_S16x2048x8x96 main_cst_0
  let main_v6 : IVec S16x2048x8x96 1 := cmpf .olt main_v4 main_v5
  let main_c_1 : IVec S_ 1 := constantI S_ 1 1#1
  let main_v7 : IVec S_ 1 := (fun x v => Host.reduce IntOp.andi x v reducesTo_S16x2048x8x96_S_d0_1_2_3 h_S_) main_v6 main_c_1
  let main_v8 : IVec S_ 1 := andi main_v3 main_v7
  main_v8
-- ==== Pre_tables_in_range.lean ====
abbrev S72 : Shape := ⟨1, ![72]⟩
abbrev S73728x1024 : Shape := ⟨2, ![73728, 1024]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S72 : S_.BroadcastsInDim S72 (![] : Fin 0 → Fin S72.rank)

variable [Facts]

def fn {F : FTy → Type} [FloatOps F] (main_arg0 : IVec S72 32) (main_arg1 : IVec S72 32) (main_arg2 : FVec F S73728x1024 .bf16) (main_arg3 : FVec F S8x1024x3584 .f32) (main_arg4 : FVec F S8x1024x3584 .f32) (main_arg5 : FVec F S8x3584x1024 .f32) : IVec S72 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 7#32
  let main_v2 : IVec S72 32 := broadcastInDim S72 ![] bcast_S_S72 main_c_0
  let main_v3 : IVec S72 1 := cmpi .sle main_arg0 main_v2
  let main_v4 : IVec S72 1 := andi main_v1 main_v3
  let main_c_1 : IVec S_ 32 := constantI S_ 32 0#32
  let main_v5 : IVec S72 32 := broadcastInDim S72 ![] bcast_S_S72 main_c_1
  let main_v6 : IVec S72 1 := cmpi .sge main_arg1 main_v5
  let main_v7 : IVec S72 1 := andi main_v4 main_v6
  let main_c_2 : IVec S_ 32 := constantI S_ 32 1#32
  let main_v8 : IVec S72 32 := broadcastInDim S72 ![] bcast_S_S72 main_c_2
  let main_v9 : IVec S72 1 := cmpi .sle main_arg1 main_v8
  let main_v10 : IVec S72 1 := andi main_v7 main_v9
  main_v10
-- ==== Gqa.lean ====
abbrev S16x2048x2x4x64 : Shape := ⟨5, ![16, 2048, 2, 4, 64]⟩
abbrev S16x2048x2x64 : Shape := ⟨4, ![16, 2048, 2, 64]⟩
abbrev S_ : Shape := ⟨0, ![]⟩
abbrev S16x2048x4x2x64 : Shape := ⟨5, ![16, 2048, 4, 2, 64]⟩
abbrev S32768x512 : Shape := ⟨2, ![32768, 512]⟩
abbrev S32768x128 : Shape := ⟨2, ![32768, 128]⟩
abbrev S16x2048x128 : Shape := ⟨3, ![16, 2048, 128]⟩
abbrev S16x128x2048 : Shape := ⟨3, ![16, 128, 2048]⟩
abbrev S16x16x2048 : Shape := ⟨3, ![16, 16, 2048]⟩
abbrev S16x144x2048 : Shape := ⟨3, ![16, 144, 2048]⟩
abbrev S1024x128 : Shape := ⟨2, ![1024, 128]⟩
abbrev S2048x128 : Shape := ⟨2, ![2048, 128]⟩
abbrev S1x144x2048 : Shape := ⟨3, ![1, 144, 2048]⟩
abbrev S128x1024 : Shape := ⟨2, ![128, 1024]⟩
abbrev S128x2048 : Shape := ⟨2, ![128, 2048]⟩
abbrev S256x128 : Shape := ⟨2, ![256, 128]⟩
abbrev S256x2048 : Shape := ⟨2, ![256, 2048]⟩
abbrev S2048 : Shape := ⟨1, ![2048]⟩
abbrev S1x2048 : Shape := ⟨2, ![1, 2048]⟩
abbrev S1x144x256 : Shape := ⟨3, ![1, 144, 256]⟩
abbrev S144x256 : Shape := ⟨2, ![144, 256]⟩
abbrev S144x2048 : Shape := ⟨2, ![144, 2048]⟩

abbrev nBuf : Space → Nat
  | .hbm => 22
  | .vmem => 8
  | .smem => 0
  | _ => 0

abbrev bufTy : (tb : Table) → Fin (tcTables nBuf tb) → BufTy
  | .hbm, ⟨0, _⟩ => ⟨S16x2048x2x4x64, .f32⟩
  | .hbm, ⟨1, _⟩ => ⟨S16x2048x2x64, .f32⟩
  | .hbm, ⟨2, _⟩ => ⟨S16x2048x2x64, .f32⟩
  | .hbm, ⟨3, _⟩ => ⟨S_, .f32⟩
  | .hbm, ⟨4, _⟩ => ⟨S16x2048x2x4x64, .f32⟩
  | .hbm, ⟨5, _⟩ => ⟨S16x2048x2x4x64, .f32⟩
  | .hbm, ⟨6, _⟩ => ⟨S_, .f32⟩
  | .hbm, ⟨7, _⟩ => ⟨S_, .f32⟩
  | .hbm, ⟨8, _⟩ => ⟨S16x2048x2x4x64, .f32⟩
  | .hbm, ⟨9, _⟩ => ⟨S16x2048x2x4x64, .f32⟩
  | .hbm, ⟨10, _⟩ => ⟨S16x2048x4x2x64, .f32⟩
  | .hbm, ⟨11, _⟩ => ⟨S32768x512, .f32⟩
  | .hbm, ⟨12, _⟩ => ⟨S32768x512, .bf16⟩
  | .hbm, ⟨13, _⟩ => ⟨S32768x128, .f32⟩
  | .hbm, ⟨14, _⟩ => ⟨S32768x128, .bf16⟩
  | .hbm, ⟨15, _⟩ => ⟨S16x2048x128, .f32⟩
  | .hbm, ⟨16, _⟩ => ⟨S16x128x2048, .f32⟩
  | .hbm, ⟨17, _⟩ => ⟨S_, .f32⟩
  | .hbm, ⟨18, _⟩ => ⟨S16x16x2048, .f32⟩
  | .hbm, ⟨19, _⟩ => ⟨S16x144x2048, .f32⟩
  | .hbm, ⟨20, _⟩ => ⟨S16x144x2048, .bf16⟩
  | .hbm, ⟨21, _⟩ => ⟨S32768x512, .bf16⟩
  | .local _ .vmem, ⟨0, _⟩ => ⟨S1024x128, .bf16⟩
  | .local _ .vmem, ⟨1, _⟩ => ⟨S1024x128, .bf16⟩
  | .local _ .vmem, ⟨2, _⟩ => ⟨S2048x128, .bf16⟩
  | .local _ .vmem, ⟨3, _⟩ => ⟨S2048x128, .bf16⟩
  | .local _ .vmem, ⟨4, _⟩ => ⟨S1x144x2048, .bf16⟩
  | .local _ .vmem, ⟨5, _⟩ => ⟨S1x144x2048, .bf16⟩
  | .local _ .vmem, ⟨6, _⟩ => ⟨S1024x128, .bf16⟩
  | .local _ .vmem, ⟨7, _⟩ => ⟨S1024x128, .bf16⟩
  | _, _ => ⟨S16x2048x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![v1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![v1.toNat, arg2.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x144x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== GqaRefIdeal.lean ====
abbrev S16x2048x2x4x64 : Shape := ⟨5, ![16, 2048, 2, 4, 64]⟩
abbrev S16x2048x2x64 : Shape := ⟨4, ![16, 2048, 2, 64]⟩
abbrev S16x2x2048x2048x4 : Shape := ⟨5, ![16, 2, 2048, 2048, 4]⟩
abbrev S16x2x4x2048x2048 : Shape := ⟨5, ![16, 2, 4, 2048, 2048]⟩
abbrev S_ : Shape := ⟨0, ![]⟩
abbrev S16x2x4x2048 : Shape := ⟨4, ![16, 2, 4, 2048]⟩
abbrev S16x2x4x2048x1 : Shape := ⟨5, ![16, 2, 4, 2048, 1]⟩
abbrev S16x2x64x4x2048 : Shape := ⟨5, ![16, 2, 64, 4, 2048]⟩
abbrev S16x2048x4x2x64 : Shape := ⟨5, ![16, 2048, 4, 2, 64]⟩
abbrev S32768x512 : Shape := ⟨2, ![32768, 512]⟩

abbrev nBuf : Space → Nat
  | .hbm => 27
  | .vmem => 0
  | .smem => 0
  | _ => 0

abbrev bufTy : (tb : Table) → Fin (tcTables nBuf tb) → BufTy
  | .hbm, ⟨0, _⟩ => ⟨S16x2048x2x4x64, .f32⟩
  | .hbm, ⟨1, _⟩ => ⟨S16x2048x2x64, .f32⟩
  | .hbm, ⟨2, _⟩ => ⟨S16x2048x2x64, .f32⟩
  | .hbm, ⟨3, _⟩ => ⟨S16x2x2048x2048x4, .f32⟩
  | .hbm, ⟨4, _⟩ => ⟨S16x2x4x2048x2048, .f32⟩
  | .hbm, ⟨5, _⟩ => ⟨S_, .f32⟩
  | .hbm, ⟨6, _⟩ => ⟨S16x2x4x2048x2048, .f32⟩
  | .hbm, ⟨7, _⟩ => ⟨S16x2x4x2048x2048, .f32⟩
  | .hbm, ⟨8, _⟩ => ⟨S_, .f32⟩
  | .hbm, ⟨9, _⟩ => ⟨S16x2x4x2048, .f32⟩
  | .hbm, ⟨10, _⟩ => ⟨S_, .f32⟩
  | .hbm, ⟨11, _⟩ => ⟨S16x2x4x2048, .f32⟩
  | .hbm, ⟨12, _⟩ => ⟨S16x2x4x2048, .f32⟩
  | .hbm, ⟨13, _⟩ => ⟨S16x2x4x2048x1, .f32⟩
  | .hbm, ⟨14, _⟩ => ⟨S16x2x4x2048x2048, .f32⟩
  | .hbm, ⟨15, _⟩ => ⟨S16x2x4x2048x2048, .f32⟩
  | .hbm, ⟨16, _⟩ => ⟨S16x2x4x2048x2048, .f32⟩
  | .hbm, ⟨17, _⟩ => ⟨S_, .f32⟩
  | .hbm, ⟨18, _⟩ => ⟨S16x2x4x2048, .f32⟩
  | .hbm, ⟨19, _⟩ => ⟨S16x2x4x2048x1, .f32⟩
  | .hbm, ⟨20, _⟩ => ⟨S16x2x4x2048x2048, .f32⟩
  | .hbm, ⟨21, _⟩ => ⟨S16x2x4x2048x2048, .f32⟩
  | .hbm, ⟨22, _⟩ => ⟨S16x2x64x4x2048, .f32⟩
  | .hbm, ⟨23, _⟩ => ⟨S16x2048x2x4x64, .f32⟩
  | .hbm, ⟨24, _⟩ => ⟨S16x2048x4x2x64, .f32⟩
  | .hbm, ⟨25, _⟩ => ⟨S32768x512, .f32⟩
  | .hbm, ⟨26, _⟩ => ⟨S32768x512, .bf16⟩
  | _, _ => ⟨S16x2048x2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Mla.lean ====
abbrev S16x2048x8x96 : Shape := ⟨4, ![16, 2048, 8, 96]⟩
abbrev S16x2048x8x64 : Shape := ⟨4, ![16, 2048, 8, 64]⟩
abbrev S_ : Shape := ⟨0, ![]⟩
abbrev S16x2048x8x128 : Shape := ⟨4, ![16, 2048, 8, 128]⟩
abbrev S32768x1024 : Shape := ⟨2, ![32768, 1024]⟩
abbrev S16x2048x4x128 : Shape := ⟨4, ![16, 2048, 4, 128]⟩
abbrev S16x4x128x2048 : Shape := ⟨4, ![16, 4, 128, 2048]⟩
abbrev S16x4x16x2048 : Shape := ⟨4, ![16, 4, 16, 2048]⟩
abbrev S16x4x144x2048 : Shape := ⟨4, ![16, 4, 144, 2048]⟩
abbrev S16x576x2048 : Shape := ⟨3, ![16, 576, 2048]⟩
abbrev S32768x512 : Shape := ⟨2, ![32768, 512]⟩
abbrev S1024x256 : Shape := ⟨2, ![1024, 256]⟩
abbrev S2048x256 : Shape := ⟨2, ![2048, 256]⟩
abbrev S1x144x2048 : Shape := ⟨3, ![1, 144, 2048]⟩
abbrev S1024x128 : Shape := ⟨2, ![1024, 128]⟩
abbrev S128x1024 : Shape := ⟨2, ![128, 1024]⟩
abbrev S256x128 : Shape := ⟨2, ![256, 128]⟩
abbrev S256x1024 : Shape := ⟨2, ![256, 1024]⟩
abbrev S256x2048 : Shape := ⟨2, ![256, 2048]⟩
abbrev S2048 : Shape := ⟨1, ![2048]⟩
abbrev S1x2048 : Shape := ⟨2, ![1, 2048]⟩
abbrev S1x144x256 : Shape := ⟨3, ![1, 144, 256]⟩
abbrev S144x256 : Shape := ⟨2, ![144, 256]⟩
abbrev S144x2048 : Shape := ⟨2, ![144, 2048]⟩
abbrev S128x2048 : Shape := ⟨2, ![128, 2048]⟩

abbrev nBuf : Space → Nat
  | .hbm => 28
  | .vmem => 8
  | .smem => 0
  | _ => 0

abbrev bufTy : (tb : Table) → Fin (tcTables nBuf tb) → BufTy
  | .hbm, ⟨0, _⟩ => ⟨S16x2048x8x96, .f32⟩
  | .hbm, ⟨1, _⟩ => ⟨S16x2048x8x96, .f32⟩
  | .hbm, ⟨2, _⟩ => ⟨S16x2048x8x64, .f32⟩
  | .hbm, ⟨3, _⟩ => ⟨S_, .f32⟩
  | .hbm, ⟨4, _⟩ => ⟨S16x2048x8x96, .f32⟩
  | .hbm, ⟨5, _⟩ => ⟨S16x2048x8x96, .f32⟩
  | .hbm, ⟨6, _⟩ => ⟨S_, .f32⟩
  | .hbm, ⟨7, _⟩ => ⟨S_, .f32⟩
  | .hbm, ⟨8, _⟩ => ⟨S16x2048x8x96, .f32⟩
  | .hbm, ⟨9, _⟩ => ⟨S16x2048x8x96, .f32⟩
  | .hbm, ⟨10, _⟩ => ⟨S_, .i32⟩
  | .hbm, ⟨11, _⟩ => ⟨S_, .f32⟩
  | .hbm, ⟨12, _⟩ => ⟨S16x2048x8x128, .f32⟩
  | .hbm, ⟨13, _⟩ => ⟨S32768x1024, .f32⟩
  | .hbm, ⟨14, _⟩ => ⟨S32768x1024, .bf16⟩
  | .hbm, ⟨15, _⟩ => ⟨S_, .i32⟩
  | .hbm, ⟨16, _⟩ => ⟨S_, .f32⟩
  | .hbm, ⟨17, _⟩ => ⟨S16x2048x8x128, .f32⟩
  | .hbm, ⟨18, _⟩ => ⟨S32768x1024, .f32⟩
  | .hbm, ⟨19, _⟩ => ⟨S32768x1024, .bf16⟩
  | .hbm, ⟨20, _⟩ => ⟨S16x2048x4x128, .f32⟩
  | .hbm, ⟨21, _⟩ => ⟨S16x4x128x2048, .f32⟩
  | .hbm, ⟨22, _⟩ => ⟨S_, .f32⟩
  | .hbm, ⟨23, _⟩ => ⟨S16x4x16x2048, .f32⟩
  | .hbm, ⟨24, _⟩ => ⟨S16x4x144x2048, .f32⟩
  | .hbm, ⟨25, _⟩ => ⟨S16x576x2048, .f32⟩
  | .hbm, ⟨26, _⟩ => ⟨S16x576x2048, .bf16⟩
  | .hbm, ⟨27, _⟩ => ⟨S32768x512, .bf16⟩
  | .local _ .vmem, ⟨0, _⟩ => ⟨S1024x256, .bf16⟩
  | .local _ .vmem, ⟨1, _⟩ => ⟨S1024x256, .bf16⟩
  | .local _ .vmem, ⟨2, _⟩ => ⟨S2048x256, .bf16⟩
  | .local _ .vmem, ⟨3, _⟩ => ⟨S2048x256, .bf16⟩
  | .local _ .vmem, ⟨4, _⟩ => ⟨S1x144x2048, .bf16⟩
  | .local _ .vmem, ⟨5, _⟩ => ⟨S1x144x2048, .bf16⟩
  | .local _ .vmem, ⟨6, _⟩ => ⟨S1024x128, .bf16⟩
  | .local _ .vmem, ⟨7, _⟩ => ⟨S1024x128, .bf16⟩
  | _, _ => ⟨S16x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![v1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![v1.toNat, arg2.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x144x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MlaRefIdeal.lean ====
abbrev S16x2048x8x96 : Shape := ⟨4, ![16, 2048, 8, 96]⟩
abbrev S16x2048x8x64 : Shape := ⟨4, ![16, 2048, 8, 64]⟩
abbrev S16x8x2048x2048 : Shape := ⟨4, ![16, 8, 2048, 2048]⟩
abbrev S_ : Shape := ⟨0, ![]⟩
abbrev S16x8x2048 : Shape := ⟨3, ![16, 8, 2048]⟩
abbrev S16x8x2048x1 : Shape := ⟨4, ![16, 8, 2048, 1]⟩
abbrev S16x8x64x2048 : Shape := ⟨4, ![16, 8, 64, 2048]⟩
abbrev S32768x512 : Shape := ⟨2, ![32768, 512]⟩

abbrev nBuf : Space → Nat
  | .hbm => 25
  | .vmem => 0
  | .smem => 0
  | _ => 0

abbrev bufTy : (tb : Table) → Fin (tcTables nBuf tb) → BufTy
  | .hbm, ⟨0, _⟩ => ⟨S16x2048x8x96, .f32⟩
  | .hbm, ⟨1, _⟩ => ⟨S16x2048x8x96, .f32⟩
  | .hbm, ⟨2, _⟩ => ⟨S16x2048x8x64, .f32⟩
  | .hbm, ⟨3, _⟩ => ⟨S16x8x2048x2048, .f32⟩
  | .hbm, ⟨4, _⟩ => ⟨S_, .f32⟩
  | .hbm, ⟨5, _⟩ => ⟨S16x8x2048x2048, .f32⟩
  | .hbm, ⟨6, _⟩ => ⟨S16x8x2048x2048, .f32⟩
  | .hbm, ⟨7, _⟩ => ⟨S_, .f32⟩
  | .hbm, ⟨8, _⟩ => ⟨S16x8x2048, .f32⟩
  | .hbm, ⟨9, _⟩ => ⟨S_, .f32⟩
  | .hbm, ⟨10, _⟩ => ⟨S16x8x2048, .f32⟩
  | .hbm, ⟨11, _⟩ => ⟨S16x8x2048, .f32⟩
  | .hbm, ⟨12, _⟩ => ⟨S16x8x2048x1, .f32⟩
  | .hbm, ⟨13, _⟩ => ⟨S16x8x2048x2048, .f32⟩
  | .hbm, ⟨14, _⟩ => ⟨S16x8x2048x2048, .f32⟩
  | .hbm, ⟨15, _⟩ => ⟨S16x8x2048x2048, .f32⟩
  | .hbm, ⟨16, _⟩ => ⟨S_, .f32⟩
  | .hbm, ⟨17, _⟩ => ⟨S16x8x2048, .f32⟩
  | .hbm, ⟨18, _⟩ => ⟨S16x8x2048x1, .f32⟩
  | .hbm, ⟨19, _⟩ => ⟨S16x8x2048x2048, .f32⟩
  | .hbm, ⟨20, _⟩ => ⟨S16x8x2048x2048, .f32⟩
  | .hbm, ⟨21, _⟩ => ⟨S16x8x64x2048, .f32⟩
  | .hbm, ⟨22, _⟩ => ⟨S16x2048x8x64, .f32⟩
  | .hbm, ⟨23, _⟩ => ⟨S32768x512, .f32⟩
  | .hbm, ⟨24, _⟩ => ⟨S32768x512, .bf16⟩
  | _, _ => ⟨S16x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Tail.lean ====
abbrev S16x2048x1024 : Shape := ⟨3, ![16, 2048, 1024]⟩
abbrev S2x16x2048x256 : Shape := ⟨4, ![2, 16, 2048, 256]⟩
abbrev S16x2048x512 : Shape := ⟨3, ![16, 2048, 512]⟩
abbrev S1024x1024 : Shape := ⟨2, ![1024, 1024]⟩
abbrev S2x1024 : Shape := ⟨2, ![2, 1024]⟩
abbrev S1x1024x3584 : Shape := ⟨3, ![1, 1024, 3584]⟩
abbrev S1x3584x1024 : Shape := ⟨3, ![1, 3584, 1024]⟩
abbrev S2x1024x1024 : Shape := ⟨3, ![2, 1024, 1024]⟩
abbrev S2x256x1024 : Shape := ⟨3, ![2, 256, 1024]⟩
abbrev S8 : Shape := ⟨1, ![8]⟩
abbrev S32768x1024 : Shape := ⟨2, ![32768, 1024]⟩
abbrev S2x32768x256 : Shape := ⟨3, ![2, 32768, 256]⟩
abbrev S512x1024 : Shape := ⟨2, ![512, 1024]⟩
abbrev S8x64x1024 : Shape := ⟨3, ![8, 64, 1024]⟩
abbrev S_ : Shape := ⟨0, ![]⟩
abbrev S8x1 : Shape := ⟨2, ![8, 1]⟩
abbrev S16x2048x2x4x64 : Shape := ⟨5, ![16, 2048, 2, 4, 64]⟩
abbrev S16x2048x4x2x64 : Shape := ⟨5, ![16, 2048, 4, 2, 64]⟩
abbrev S32768x512 : Shape := ⟨2, ![32768, 512]⟩
abbrev S1x1024 : Shape := ⟨2, ![1, 1024]⟩
abbrev S1024 : Shape := ⟨1, ![1024]⟩
abbrev S1024x3584 : Shape := ⟨2, ![1024, 3584]⟩
abbrev S3584x1024 : Shape := ⟨2, ![3584, 1024]⟩
abbrev S1x1024x1024 : Shape := ⟨3, ![1, 1024, 1024]⟩
abbrev S1x256x1024 : Shape := ⟨3, ![1, 256, 1024]⟩
abbrev S256x1024 : Shape := ⟨2, ![256, 1024]⟩
abbrev S1024x512 : Shape := ⟨2, ![1024, 512]⟩
abbrev S1x1024x256 : Shape := ⟨3, ![1, 1024, 256]⟩
abbrev S256x512 : Shape := ⟨2, ![256, 512]⟩
abbrev S256 : Shape := ⟨1, ![256]⟩
abbrev S256x1 : Shape := ⟨2, ![256, 1]⟩
abbrev S1x256x256 : Shape := ⟨3, ![1, 256, 256]⟩
abbrev S256x256 : Shape := ⟨2, ![256, 256]⟩

abbrev nBuf : Space → Nat
  | .hbm => 67
  | .vmem => 26
  | .smem => 0
  | _ => 0

abbrev bufTy : (tb : Table) → Fin (tcTables nBuf tb) → BufTy
  | .hbm, ⟨0, _⟩ => ⟨S16x2048x1024, .f32⟩
  | .hbm, ⟨1, _⟩ => ⟨S2x16x2048x256, .f32⟩
  | .hbm, ⟨2, _⟩ => ⟨S16x2048x512, .f32⟩
  | .hbm, ⟨3, _⟩ => ⟨S16x2048x512, .f32⟩
  | .hbm, ⟨4, _⟩ => ⟨S1024x1024, .f32⟩
  | .hbm, ⟨5, _⟩ => ⟨S2x1024, .f32⟩
  | .hbm, ⟨6, _⟩ => ⟨S2x1024, .f32⟩
  | .hbm, ⟨7, _⟩ => ⟨S1x1024x3584, .f32⟩
  | .hbm, ⟨8, _⟩ => ⟨S1x1024x3584, .f32⟩
  | .hbm, ⟨9, _⟩ => ⟨S1x3584x1024, .f32⟩
  | .hbm, ⟨10, _⟩ => ⟨S2x1024, .f32⟩
  | .hbm, ⟨11, _⟩ => ⟨S2x1024, .f32⟩
  | .hbm, ⟨12, _⟩ => ⟨S2x1024x1024, .f32⟩
  | .hbm, ⟨13, _⟩ => ⟨S2x256x1024, .f32⟩
  | .hbm, ⟨14, _⟩ => ⟨S2x1024, .f32⟩
  | .hbm, ⟨15, _⟩ => ⟨S8, .i32⟩
  | .hbm, ⟨16, _⟩ => ⟨S32768x1024, .f32⟩
  | .hbm, ⟨17, _⟩ => ⟨S2x32768x256, .f32⟩
  | .hbm, ⟨18, _⟩ => ⟨S512x1024, .f32⟩
  | .hbm, ⟨19, _⟩ => ⟨S8x64x1024, .f32⟩
  | .hbm, ⟨20, _⟩ => ⟨S_, .i32⟩
  | .hbm, ⟨21, _⟩ => ⟨S8, .i32⟩
  | .hbm, ⟨22, _⟩ => ⟨S8, .i1⟩
  | .hbm, ⟨23, _⟩ => ⟨S_, .i32⟩
  | .hbm, ⟨24, _⟩ => ⟨S8, .i32⟩
  | .hbm, ⟨25, _⟩ => ⟨S8, .i32⟩
  | .hbm, ⟨26, _⟩ => ⟨S8, .i32⟩
  | .hbm, ⟨27, _⟩ => ⟨S8x1, .i32⟩
  | .hbm, ⟨28, _⟩ => ⟨S8x64x1024, .f32⟩
  | .hbm, ⟨29, _⟩ => ⟨S512x1024, .f32⟩
  | .hbm, ⟨30, _⟩ => ⟨S512x1024, .f32⟩
  | .hbm, ⟨31, _⟩ => ⟨S1024x1024, .f32⟩
  | .hbm, ⟨32, _⟩ => ⟨S1024x1024, .bf16⟩
  | .hbm, ⟨33, _⟩ => ⟨S16x2048x2x4x64, .f32⟩
  | .hbm, ⟨34, _⟩ => ⟨S16x2048x4x2x64, .f32⟩
  | .hbm, ⟨35, _⟩ => ⟨S32768x512, .f32⟩
  | .hbm, ⟨36, _⟩ => ⟨S32768x512, .bf16⟩
  | .hbm, ⟨37, _⟩ => ⟨S32768x512, .f32⟩
  | .hbm, ⟨38, _⟩ => ⟨S32768x512, .bf16⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S1x1024, .f32⟩
  | .hbm, ⟨43, _⟩ => ⟨S1024, .f32⟩
  | .hbm, ⟨44, _⟩ => ⟨S1x1024, .f32⟩
  | .hbm, ⟨45, _⟩ => ⟨S1024x3584, .f32⟩
  | .hbm, ⟨46, _⟩ => ⟨S1024x3584, .bf16⟩
  | .hbm, ⟨47, _⟩ => ⟨S1024x3584, .f32⟩
  | .hbm, ⟨48, _⟩ => ⟨S1024x3584, .bf16⟩
  | .hbm, ⟨49, _⟩ => ⟨S3584x1024, .f32⟩
  | .hbm, ⟨50, _⟩ => ⟨S3584x1024, .bf16⟩
  | .hbm, ⟨51, _⟩ => ⟨S1x1024, .f32⟩
  | .hbm, ⟨52, _⟩ => ⟨S1024, .f32⟩
  | .hbm, ⟨53, _⟩ => ⟨S1x1024, .f32⟩
  | .hbm, ⟨54, _⟩ => ⟨S1x1024, .f32⟩
  | .hbm, ⟨55, _⟩ => ⟨S1024, .f32⟩
  | .hbm, ⟨56, _⟩ => ⟨S1x1024, .f32⟩
  | .hbm, ⟨57, _⟩ => ⟨S1x1024x1024, .f32⟩
  | .hbm, ⟨58, _⟩ => ⟨S1024x1024, .f32⟩
  | .hbm, ⟨59, _⟩ => ⟨S1024x1024, .bf16⟩
  | .hbm, ⟨60, _⟩ => ⟨S1x256x1024, .f32⟩
  | .hbm, ⟨61, _⟩ => ⟨S256x1024, .f32⟩
  | .hbm, ⟨62, _⟩ => ⟨S256x1024, .bf16⟩
  | .hbm, ⟨63, _⟩ => ⟨S1x1024, .f32⟩
  | .hbm, ⟨64, _⟩ => ⟨S1024, .f32⟩
  | .hbm, ⟨65, _⟩ => ⟨S1x1024, .f32⟩
  | .hbm, ⟨66, _⟩ => ⟨S32768x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024x256, .f32⟩
  | .local _ .vmem, ⟨17, _⟩ => ⟨S1x1024x256, .f32⟩
  | .local _ .vmem, ⟨18, _⟩ => ⟨S1x1024, .f32⟩
  | .local _ .vmem, ⟨19, _⟩ => ⟨S1024x1024, .bf16⟩
  | .local _ .vmem, ⟨20, _⟩ => ⟨S256x1024, .bf16⟩
  | .local _ .vmem, ⟨21, _⟩ => ⟨S1x1024, .f32⟩
  | .local _ .vmem, ⟨22, _⟩ => ⟨S1024x1024, .f32⟩
  | .local _ .vmem, ⟨23, _⟩ => ⟨S1024x1024, .f32⟩
  | .local _ .vmem, ⟨24, _⟩ => ⟨S1024x1024, .bf16⟩
  | .local _ .vmem, ⟨25, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_c_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![32, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c6_i32 : BitVec 32 := 6#32
  let v28 : BitVec 1 := Scalar.cmpi .eq arg1 c6_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== TailRefIdeal.lean ====
abbrev S16x2048x1024 : Shape := ⟨3, ![16, 2048, 1024]⟩
abbrev S2x16x2048x256 : Shape := ⟨4, ![2, 16, 2048, 256]⟩
abbrev S16x2048x512 : Shape := ⟨3, ![16, 2048, 512]⟩
abbrev S1024x1024 : Shape := ⟨2, ![1024, 1024]⟩
abbrev S2x1024 : Shape := ⟨2, ![2, 1024]⟩
abbrev S1x1024x3584 : Shape := ⟨3, ![1, 1024, 3584]⟩
abbrev S1x3584x1024 : Shape := ⟨3, ![1, 3584, 1024]⟩
abbrev S2x1024x1024 : Shape := ⟨3, ![2, 1024, 1024]⟩
abbrev S2x256x1024 : Shape := ⟨3, ![2, 256, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x3584 : Shape := ⟨2, ![1024, 3584]⟩
abbrev S3584x1024 : Shape := ⟨2, ![3584, 1024]⟩
abbrev S16x2048x3584 : Shape := ⟨3, ![16, 2048, 3584]⟩
abbrev S1x1024x1024 : Shape := ⟨3, ![1, 1024, 1024]⟩
abbrev S1x16x2048x256 : Shape := ⟨4, ![1, 16, 2048, 256]⟩
abbrev S16x2048x256 : Shape := ⟨3, ![16, 2048, 256]⟩
abbrev S1x256x1024 : Shape := ⟨3, ![1, 256, 1024]⟩
abbrev S256x1024 : Shape := ⟨2, ![256, 1024]⟩
abbrev S32768x1024 : Shape := ⟨2, ![32768, 1024]⟩

abbrev nBuf : Space → Nat
  | .hbm => 144
  | .vmem => 0
  | .smem => 0
  | _ => 0

abbrev hbmTy0_0 (i : Nat) : BufTy := match i % 128 with
  | 0 => ⟨S16x2048x1024, .f32⟩
  | 1 => ⟨S2x16x2048x256, .f32⟩
  | 2 => ⟨S16x2048x512, .f32⟩
  | 3 => ⟨S16x2048x512, .f32⟩
  | 4 => ⟨S1024x1024, .f32⟩
  | 5 => ⟨S2x1024, .f32⟩
  | 6 => ⟨S2x1024, .f32⟩
  | 7 => ⟨S1x1024x3584, .f32⟩
  | 8 => ⟨S1x1024x3584, .f32⟩
  | 9 => ⟨S1x3584x1024, .f32⟩
  | 10 => ⟨S2x1024, .f32⟩
  | 11 => ⟨S2x1024, .f32⟩
  | 12 => ⟨S2x1024x1024, .f32⟩
  | 13 => ⟨S2x256x1024, .f32⟩
  | 14 => ⟨S2x1024, .f32⟩
  | 15 => ⟨S16x2048x1024, .f32⟩
  | 16 => ⟨S16x2048x1024, .f32⟩
  | 17 => ⟨S1x1024, .f32⟩
  | 18 => ⟨S1024, .f32⟩
  | 19 => ⟨S16x2048x1024, .f32⟩
  | 20 => ⟨S_, .f32⟩
  | 21 => ⟨S16x2048, .f32⟩
  | 22 => ⟨S16x2048x1, .f32⟩
  | 23 => ⟨S_, .f32⟩
  | 24 => ⟨S16x2048x1, .f32⟩
  | 25 => ⟨S16x2048x1, .f32⟩
  | 26 => ⟨S_, .f32⟩
  | 27 => ⟨S16x2048x1, .f32⟩
  | 28 => ⟨S16x2048x1, .f32⟩
  | 29 => ⟨S16x2048x1, .f32⟩
  | 30 => ⟨S16x2048x1024, .f32⟩
  | 31 => ⟨S16x2048x1024, .f32⟩
  | 32 => ⟨S1x1x1024, .f32⟩
  | 33 => ⟨S16x2048x1024, .f32⟩
  | 34 => ⟨S16x2048x1024, .f32⟩
  | 35 => ⟨S16x2048x1024, .f32⟩
  | 36 => ⟨S1x1024, .f32⟩
  | 37 => ⟨S1024, .f32⟩
  | 38 => ⟨S16x2048x1024, .f32⟩
  | 39 => ⟨S_, .f32⟩
  | 40 => ⟨S16x2048, .f32⟩
  | 41 => ⟨S16x2048x1, .f32⟩
  | 42 => ⟨S_, .f32⟩
  | 43 => ⟨S16x2048x1, .f32⟩
  | 44 => ⟨S16x2048x1, .f32⟩
  | 45 => ⟨S_, .f32⟩
  | 46 => ⟨S16x2048x1, .f32⟩
  | 47 => ⟨S16x2048x1, .f32⟩
  | 48 => ⟨S16x2048x1, .f32⟩
  | 49 => ⟨S16x2048x1024, .f32⟩
  | 50 => ⟨S16x2048x1024, .f32⟩
  | 51 => ⟨S1x1x1024, .f32⟩
  | 52 => ⟨S16x2048x1024, .f32⟩
  | 53 => ⟨S16x2048x1024, .f32⟩
  | 54 => ⟨S1024x3584, .f32⟩
  | 55 => ⟨S1024x3584, .f32⟩
  | 56 => ⟨S3584x1024, .f32⟩
  | 57 => ⟨S16x2048x3584, .f32⟩
  | 58 => ⟨S16x2048x3584, .f32⟩
  | 59 => ⟨S16x2048x3584, .f32⟩
  | 60 => ⟨S_, .f32⟩
  | 61 => ⟨S16x2048x3584, .f32⟩
  | 62 => ⟨S16x2048x3584, .f32⟩
  | 63 => ⟨S_, .f32⟩
  | 64 => ⟨S16x2048x3584, .f32⟩
  | 65 => ⟨S16x2048x3584, .f32⟩
  | 66 => ⟨S16x2048x3584, .f32⟩
  | 67 => ⟨S16x2048x3584, .f32⟩
  | 68 => ⟨S16x2048x3584, .f32⟩
  | 69 => ⟨S16x2048x1024, .f32⟩
  | 70 => ⟨S1x1024, .f32⟩
  | 71 => ⟨S1024, .f32⟩
  | 72 => ⟨S16x2048x1024, .f32⟩
  | 73 => ⟨S_, .f32⟩
  | 74 => ⟨S16x2048, .f32⟩
  | 75 => ⟨S16x2048x1, .f32⟩
  | 76 => ⟨S_, .f32⟩
  | 77 => ⟨S16x2048x1, .f32⟩
  | 78 => ⟨S16x2048x1, .f32⟩
  | 79 => ⟨S_, .f32⟩
  | 80 => ⟨S16x2048x1, .f32⟩
  | 81 => ⟨S16x2048x1, .f32⟩
  | 82 => ⟨S16x2048x1, .f32⟩
  | 83 => ⟨S16x2048x1024, .f32⟩
  | 84 => ⟨S16x2048x1024, .f32⟩
  | 85 => ⟨S1x1x1024, .f32⟩
  | 86 => ⟨S16x2048x1024, .f32⟩
  | 87 => ⟨S16x2048x1024, .f32⟩
  | 88 => ⟨S16x2048x1024, .f32⟩
  | 89 => ⟨S1x1024, .f32⟩
  | 90 => ⟨S1024, .f32⟩
  | 91 => ⟨S16x2048x1024, .f32⟩
  | 92 => ⟨S_, .f32⟩
  | 93 => ⟨S16x2048, .f32⟩
  | 94 => ⟨S16x2048x1, .f32⟩
  | 95 => ⟨S_, .f32⟩
  | 96 => ⟨S16x2048x1, .f32⟩
  | 97 => ⟨S16x2048x1, .f32⟩
  | 98 => ⟨S_, .f32⟩
  | 99 => ⟨S16x2048x1, .f32⟩
  | 100 => ⟨S16x2048x1, .f32⟩
  | 101 => ⟨S16x2048x1, .f32⟩
  | 102 => ⟨S16x2048x1024, .f32⟩
  | 103 => ⟨S16x2048x1024, .f32⟩
  | 104 => ⟨S1x1x1024, .f32⟩
  | 105 => ⟨S16x2048x1024, .f32⟩
  | 106 => ⟨S16x2048x1024, .f32⟩
  | 107 => ⟨S1x1024x1024, .f32⟩
  | 108 => ⟨S1024x1024, .f32⟩
  | 109 => ⟨S16x2048x1024, .f32⟩
  | 110 => ⟨S16x2048x1024, .f32⟩
  | 111 => ⟨S16x2048x1024, .f32⟩
  | 112 => ⟨S_, .f32⟩
  | 113 => ⟨S16x2048x1024, .f32⟩
  | 114 => ⟨S16x2048x1024, .f32⟩
  | 115 => ⟨S_, .f32⟩
  | 116 => ⟨S16x2048x1024, .f32⟩
  | 117 => ⟨S16x2048x1024, .f32⟩
  | 118 => ⟨S1x16x2048x256, .f32⟩
  | 119 => ⟨S16x2048x256, .f32⟩
  | 120 => ⟨S1x256x1024, .f32⟩
  | 121 => ⟨S256x1024, .f32⟩
  | 122 => ⟨S16x2048x1024, .f32⟩
  | 123 => ⟨S16x2048x1024, .f32⟩
  | 124 => ⟨S1x1024, .f32⟩
  | 125 => ⟨S1024, .f32⟩
  | 126 => ⟨S16x2048x1024, .f32⟩
  | 127 => ⟨S_, .f32⟩
  | _ => ⟨S16x2048x1024, .f32⟩

abbrev hbmTy0_1 (i : Nat) : BufTy := match i % 128 with
  | 0 => ⟨S16x2048, .f32⟩
  | 1 => ⟨S16x2048x1, .f32⟩
  | 2 => ⟨S_, .f32⟩
  | 3 => ⟨S16x2048x1, .f32⟩
  | 4 => ⟨S16x2048x1, .f32⟩
  | 5 => ⟨S_, .f32⟩
  | 6 => ⟨S16x2048x1, .f32⟩
  | 7 => ⟨S16x2048x1, .f32⟩
  | 8 => ⟨S16x2048x1, .f32⟩
  | 9 => ⟨S16x2048x1024, .f32⟩
  | 10 => ⟨S16x2048x1024, .f32⟩
  | 11 => ⟨S1x1x1024, .f32⟩
  | 12 => ⟨S16x2048x1024, .f32⟩
  | 13 => ⟨S16x2048x1024, .f32⟩
  | 14 => ⟨S16x2048x1024, .f32⟩
  | 15 => ⟨S32768x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_5 : Ref sig .tc := ⟨.hbm, 73, rfl⟩
abbrev main_v44 : Ref sig .tc := ⟨.hbm, 74, rfl⟩
abbrev main_v45 : Ref sig .tc := ⟨.hbm, 75, rfl⟩
abbrev main_cst_6 : Ref sig .tc := ⟨.hbm, 76, rfl⟩
abbrev main_v46 : Ref sig .tc := ⟨.hbm, 77, rfl⟩
abbrev main_v47 : Ref sig .tc := ⟨.hbm, 78, rfl⟩
abbrev main_cst_7 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_8 : Ref sig .tc := ⟨.hbm, 92, rfl⟩
abbrev main_v60 : Ref sig .tc := ⟨.hbm, 93, rfl⟩
abbrev main_v61 : Ref sig .tc := ⟨.hbm, 94, rfl⟩
abbrev main_cst_9 : Ref sig .tc := ⟨.hbm, 95, rfl⟩
abbrev main_v62 : Ref sig .tc := ⟨.hbm, 96, rfl⟩
abbrev main_v63 : Ref sig .tc := ⟨.hbm, 97, rfl⟩
abbrev main_cst_10 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_11 : Ref sig .tc := ⟨.hbm, 112, rfl⟩
abbrev main_v77 : Ref sig .tc := ⟨.hbm, 113, rfl⟩
abbrev main_v78 : Ref sig .tc := ⟨.hbm, 114, rfl⟩
abbrev main_cst_12 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_13 : Ref sig .tc := ⟨.hbm, 127, rfl⟩
abbrev main_v90 : Ref sig .tc := ⟨.hbm, 128, rfl⟩
abbrev main_v91 : Ref sig .tc := ⟨.hbm, 129, rfl⟩
abbrev main_cst_14 : Ref sig .tc := ⟨.hbm, 130, rfl⟩
abbrev main_v92 : Ref sig .tc := ⟨.hbm, 131, rfl⟩
abbrev main_v93 : Ref sig .tc := ⟨.hbm, 132, rfl⟩
abbrev main_cst_15 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩

abbrev nD : Nat := 1
abbrev τ : Topo := Topo.v7x

variable {F : FTy → Type} [FloatOps F]
-- ==== Combine.lean ====
abbrev S16x2048x1024 : Shape := ⟨3, ![16, 2048, 1024]⟩
abbrev S2x16x2048x256 : Shape := ⟨4, ![2, 16, 2048, 256]⟩
abbrev S16x2048x2x1024 : Shape := ⟨4, ![16, 2048, 2, 1024]⟩
abbrev S16x2048x2 : Shape := ⟨3, ![16, 2048, 2]⟩
abbrev S2x1024 : Shape := ⟨2, ![2, 1024]⟩
abbrev S2x1024x1024 : Shape := ⟨3, ![2, 1024, 1024]⟩
abbrev S2x256x1024 : Shape := ⟨3, ![2, 256, 1024]⟩
abbrev S2x32768x256 : Shape := ⟨3, ![2, 32768, 256]⟩
abbrev S32768x2x1024 : Shape := ⟨3, ![32768, 2, 1024]⟩
abbrev S2x32768x1024 : Shape := ⟨3, ![2, 32768, 1024]⟩
abbrev S65536x1024 : Shape := ⟨2, ![65536, 1024]⟩
abbrev S32768x2 : Shape := ⟨2, ![32768, 2]⟩
abbrev S_ : Shape := ⟨0, ![]⟩
abbrev S32768x128 : Shape := ⟨2, ![32768, 128]⟩
abbrev S1x1024 : Shape := ⟨2, ![1, 1024]⟩
abbrev S1024 : Shape := ⟨1, ![1024]⟩
abbrev S32768x1024 : Shape := ⟨2, ![32768, 1024]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S512x1024 : Shape := ⟨2, ![512, 1024]⟩
abbrev S512x128 : Shape := ⟨2, ![512, 128]⟩
abbrev S1x512x256 : Shape := ⟨3, ![1, 512, 256]⟩
abbrev S512x1 : Shape := ⟨2, ![512, 1]⟩
abbrev S512 : Shape := ⟨1, ![512]⟩
abbrev S512x256 : Shape := ⟨2, ![512, 256]⟩

abbrev nBuf : Space → Nat
  | .hbm => 35
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S2x16x2048x256, .f32⟩
  | .hbm, ⟨2, _⟩ => ⟨S16x2048x2x1024, .f32⟩
  | .hbm, ⟨3, _⟩ => ⟨S16x2048x2, .f32⟩
  | .hbm, ⟨4, _⟩ => ⟨S2x1024, .f32⟩
  | .hbm, ⟨5, _⟩ => ⟨S2x1024, .f32⟩
  | .hbm, ⟨6, _⟩ => ⟨S2x1024x1024, .f32⟩
  | .hbm, ⟨7, _⟩ => ⟨S2x256x1024, .f32⟩
  | .hbm, ⟨8, _⟩ => ⟨S2x1024, .f32⟩
  | .hbm, ⟨9, _⟩ => ⟨S2x32768x256, .f32⟩
  | .hbm, ⟨10, _⟩ => ⟨S32768x2x1024, .f32⟩
  | .hbm, ⟨11, _⟩ => ⟨S2x32768x1024, .f32⟩
  | .hbm, ⟨12, _⟩ => ⟨S65536x1024, .f32⟩
  | .hbm, ⟨13, _⟩ => ⟨S65536x1024, .bf16⟩
  | .hbm, ⟨14, _⟩ => ⟨S32768x2, .f32⟩
  | .hbm, ⟨15, _⟩ => ⟨S_, .i32⟩
  | .hbm, ⟨16, _⟩ => ⟨S_, .f32⟩
  | .hbm, ⟨17, _⟩ => ⟨S32768x128, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S32768x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1x1024x1024, .f32⟩
  | .hbm, ⟨26, _⟩ => ⟨S1024x1024, .f32⟩
  | .hbm, ⟨27, _⟩ => ⟨S1024x1024, .bf16⟩
  | .hbm, ⟨28, _⟩ => ⟨S1x256x1024, .f32⟩
  | .hbm, ⟨29, _⟩ => ⟨S256x1024, .f32⟩
  | .hbm, ⟨30, _⟩ => ⟨S256x1024, .bf16⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x128, .f32⟩
  | .local _ .vmem, ⟨5, _⟩ => ⟨S512x128, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x512x256, .f32⟩
  | .local _ .vmem, ⟨10, _⟩ => ⟨S1x512x256, .f32⟩
  | .local _ .vmem, ⟨11, _⟩ => ⟨S1x1024, .f32⟩
  | .local _ .vmem, ⟨12, _⟩ => ⟨S1024x1024, .bf16⟩
  | .local _ .vmem, ⟨13, _⟩ => ⟨S256x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== CombineRefIdeal.lean ====
abbrev S16x2048x1024 : Shape := ⟨3, ![16, 2048, 1024]⟩
abbrev S2x16x2048x256 : Shape := ⟨4, ![2, 16, 2048, 256]⟩
abbrev S16x2048x2x1024 : Shape := ⟨4, ![16, 2048, 2, 1024]⟩
abbrev S16x2048x2 : Shape := ⟨3, ![16, 2048, 2]⟩
abbrev S2x1024 : Shape := ⟨2, ![2, 1024]⟩
abbrev S2x1024x1024 : Shape := ⟨3, ![2, 1024, 1024]⟩
abbrev S2x256x1024 : Shape := ⟨3, ![2, 256, 1024]⟩
abbrev S16x2048x2x1 : Shape := ⟨4, ![16, 2048, 2, 1]⟩
abbrev S_ : Shape := ⟨0, ![]⟩
abbrev S1x1024 : Shape := ⟨2, ![1, 1024]⟩
abbrev S1024 : Shape := ⟨1, ![1024]⟩
abbrev S16x2048 : Shape := ⟨2, ![16, 2048]⟩
abbrev S16x2048x1 : Shape := ⟨3, ![16, 2048, 1]⟩
abbrev S1x1x1024 : Shape := ⟨3, ![1, 1, 1024]⟩
abbrev S1x1024x1024 : Shape := ⟨3, ![1, 1024, 1024]⟩
abbrev S1024x1024 : Shape := ⟨2, ![1024, 1024]⟩
abbrev S1x16x2048x256 : Shape := ⟨4, ![1, 16, 2048, 256]⟩
abbrev S16x2048x256 : Shape := ⟨3, ![16, 2048, 256]⟩
abbrev S1x256x1024 : Shape := ⟨3, ![1, 256, 1024]⟩
abbrev S256x1024 : Shape := ⟨2, ![256, 1024]⟩
abbrev S32768x1024 : Shape := ⟨2, ![32768, 1024]⟩

abbrev nBuf : Space → Nat
  | .hbm => 88
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x16x2048x256, .f32⟩
  | .hbm, ⟨2, _⟩ => ⟨S16x2048x2x1024, .f32⟩
  | .hbm, ⟨3, _⟩ => ⟨S16x2048x2, .f32⟩
  | .hbm, ⟨4, _⟩ => ⟨S2x1024, .f32⟩
  | .hbm, ⟨5, _⟩ => ⟨S2x1024, .f32⟩
  | .hbm, ⟨6, _⟩ => ⟨S2x1024x1024, .f32⟩
  | .hbm, ⟨7, _⟩ => ⟨S2x256x1024, .f32⟩
  | .hbm, ⟨8, _⟩ => ⟨S2x1024, .f32⟩
  | .hbm, ⟨9, _⟩ => ⟨S16x2048x2x1, .f32⟩
  | .hbm, ⟨10, _⟩ => ⟨S16x2048x2x1024, .f32⟩
  | .hbm, ⟨11, _⟩ => ⟨S16x2048x2x1024, .f32⟩
  | .hbm, ⟨12, _⟩ => ⟨S_, .f32⟩
  | .hbm, ⟨13, _⟩ => ⟨S16x2048x1024, .f32⟩
  | .hbm, ⟨14, _⟩ => ⟨S1x1024, .f32⟩
  | .hbm, ⟨15, _⟩ => ⟨S1024, .f32⟩
  | .hbm, ⟨16, _⟩ => ⟨S16x2048x1024, .f32⟩
  | .hbm, ⟨17, _⟩ => ⟨S_, .f32⟩
  | .hbm, ⟨18, _⟩ => ⟨S16x2048, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S16x2048x1, .f32⟩
  | .hbm, ⟨27, _⟩ => ⟨S16x2048x1024, .f32⟩
  | .hbm, ⟨28, _⟩ => ⟨S16x2048x1024, .f32⟩
  | .hbm, ⟨29, _⟩ => ⟨S1x1x1024, .f32⟩
  | .hbm, ⟨30, _⟩ => ⟨S16x2048x1024, .f32⟩
  | .hbm, ⟨31, _⟩ => ⟨S16x2048x1024, .f32⟩
  | .hbm, ⟨32, _⟩ => ⟨S16x2048x1024, .f32⟩
  | .hbm, ⟨33, _⟩ => ⟨S1x1024, .f32⟩
  | .hbm, ⟨34, _⟩ => ⟨S1024, .f32⟩
  | .hbm, ⟨35, _⟩ => ⟨S16x2048x1024, .f32⟩
  | .hbm, ⟨36, _⟩ => ⟨S_, .f32⟩
  | .hbm, ⟨37, _⟩ => ⟨S16x2048, .f32⟩
  | .hbm, ⟨38, _⟩ => ⟨S16x2048x1, .f32⟩
  | .hbm, ⟨39, _⟩ => ⟨S_, .f32⟩
  | .hbm, ⟨40, _⟩ => ⟨S16x2048x1, .f32⟩
  | .hbm, ⟨41, _⟩ => ⟨S16x2048x1, .f32⟩
  | .hbm, ⟨42, _⟩ => ⟨S_, .f32⟩
  | .hbm, ⟨43, _⟩ => ⟨S16x2048x1, .f32⟩
  | .hbm, ⟨44, _⟩ => ⟨S16x2048x1, .f32⟩
  | .hbm, ⟨45, _⟩ => ⟨S16x2048x1, .f32⟩
  | .hbm, ⟨46, _⟩ => ⟨S16x2048x1024, .f32⟩
  | .hbm, ⟨47, _⟩ => ⟨S16x2048x1024, .f32⟩
  | .hbm, ⟨48, _⟩ => ⟨S1x1x1024, .f32⟩
  | .hbm, ⟨49, _⟩ => ⟨S16x2048x1024, .f32⟩
  | .hbm, ⟨50, _⟩ => ⟨S16x2048x1024, .f32⟩
  | .hbm, ⟨51, _⟩ => ⟨S1x1024x1024, .f32⟩
  | .hbm, ⟨52, _⟩ => ⟨S1024x1024, .f32⟩
  | .hbm, ⟨53, _⟩ => ⟨S16x2048x1024, .f32⟩
  | .hbm, ⟨54, _⟩ => ⟨S16x2048x1024, .f32⟩
  | .hbm, ⟨55, _⟩ => ⟨S16x2048x1024, .f32⟩
  | .hbm, ⟨56, _⟩ => ⟨S_, .f32⟩
  | .hbm, ⟨57, _⟩ => ⟨S16x2048x1024, .f32⟩
  | .hbm, ⟨58, _⟩ => ⟨S16x2048x1024, .f32⟩
  | .hbm, ⟨59, _⟩ => ⟨S_, .f32⟩
  | .hbm, ⟨60, _⟩ => ⟨S16x2048x1024, .f32⟩
  | .hbm, ⟨61, _⟩ => ⟨S16x2048x1024, .f32⟩
  | .hbm, ⟨62, _⟩ => ⟨S1x16x2048x256, .f32⟩
  | .hbm, ⟨63, _⟩ => ⟨S16x2048x256, .f32⟩
  | .hbm, ⟨64, _⟩ => ⟨S1x256x1024, .f32⟩
  | .hbm, ⟨65, _⟩ => ⟨S256x1024, .f32⟩
  | .hbm, ⟨66, _⟩ => ⟨S16x2048x1024, .f32⟩
  | .hbm, ⟨67, _⟩ => ⟨S16x2048x1024, .f32⟩
  | .hbm, ⟨68, _⟩ => ⟨S1x1024, .f32⟩
  | .hbm, ⟨69, _⟩ => ⟨S1024, .f32⟩
  | .hbm, ⟨70, _⟩ => ⟨S16x2048x1024, .f32⟩
  | .hbm, ⟨71, _⟩ => ⟨S_, .f32⟩
  | .hbm, ⟨72, _⟩ => ⟨S16x2048, .f32⟩
  | .hbm, ⟨73, _⟩ => ⟨S16x2048x1, .f32⟩
  | .hbm, ⟨74, _⟩ => ⟨S_, .f32⟩
  | .hbm, ⟨75, _⟩ => ⟨S16x2048x1, .f32⟩
  | .hbm, ⟨76, _⟩ => ⟨S16x2048x1, .f32⟩
  | .hbm, ⟨77, _⟩ => ⟨S_, .f32⟩
  | .hbm, ⟨78, _⟩ => ⟨S16x2048x1, .f32⟩
  | .hbm, ⟨79, _⟩ => ⟨S16x2048x1, .f32⟩
  | .hbm, ⟨80, _⟩ => ⟨S16x2048x1, .f32⟩
  | .hbm, ⟨81, _⟩ => ⟨S16x2048x1024, .f32⟩
  | .hbm, ⟨82, _⟩ => ⟨S16x2048x1024, .f32⟩
  | .hbm, ⟨83, _⟩ => ⟨S1x1x1024, .f32⟩
  | .hbm, ⟨84, _⟩ => ⟨S16x2048x1024, .f32⟩
  | .hbm, ⟨85, _⟩ => ⟨S16x2048x1024, .f32⟩
  | .hbm, ⟨86, _⟩ => ⟨S16x2048x1024, .f32⟩
  | .hbm, ⟨87, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩

abbrev nD : Nat := 1
abbrev τ : Topo := Topo.v7x

variable {F : FTy → Type} [FloatOps F]
-- ==== Experts.lean ====
abbrev S72 : Shape := ⟨1, ![72]⟩
abbrev S73728x1024 : Shape := ⟨2, ![73728, 1024]⟩
abbrev S8x1024x3584 : Shape := ⟨3, ![8, 1024, 3584]⟩
abbrev S8x3584x1024 : Shape := ⟨3, ![8, 3584, 1024]⟩
abbrev S1024x1024 : Shape := ⟨2, ![1024, 1024]⟩
abbrev S1x1024x512 : Shape := ⟨3, ![1, 1024, 512]⟩
abbrev S1 : Shape := ⟨1, ![1]⟩
abbrev S1x512x1024 : Shape := ⟨3, ![1, 512, 1024]⟩
abbrev S4x1024x1024 : Shape := ⟨3, ![4, 1024, 1024]⟩
abbrev S1x1024x1024 : Shape := ⟨3, ![1, 1024, 1024]⟩
abbrev S1024x512 : Shape := ⟨2, ![1024, 512]⟩
abbrev S512x1024 : Shape := ⟨2, ![512, 1024]⟩

abbrev nBuf : Space → Nat
  | .hbm => 5
  | .vmem => 11
  | .smem => 2
  | _ => 0

abbrev bufTy : (tb : Table) → Fin (tcTables nBuf tb) → BufTy
  | .hbm, ⟨0, _⟩ => ⟨S73728x1024, .bf16⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S73728x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S1024x1024, .bf16⟩
  | .local _ .vmem, ⟨9, _⟩ => ⟨S1024x1024, .bf16⟩
  | .local _ .vmem, ⟨10, _⟩ => ⟨S4x1024x1024, .f32⟩
  | .local _ .smem, ⟨0, _⟩ => ⟨S72, .i32⟩
  | .local _ .smem, ⟨1, _⟩ => ⟨S72, .i32⟩
  | _, _ => ⟨S73728x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![18, 7, 4], ![false, false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c4_i32 : BitVec 32 := 4#32
  let v0 : BitVec 32 := Scalar.muli arg0 c4_i32
  let arg2 : BitVec 32 := BitVec.ofNat 32 (i 2).val
  let v1 : BitVec 32 := Scalar.addi v0 arg2
  let v2 : Index := Scalar.indexCast v1
  ![v2.toNat]
def k0_off2 (i : grid0.Coords) : Fin 3 → Nat :=
  let arg2 : BitVec 32 := BitVec.ofNat 32 (i 2).val
  let v21 : Index := Scalar.indexCast arg2
  let c0 : Index := 0#32
  let c0_6 : Index := 0#32
  ![v21.toNat, 0, 0]
def k0_off3 (i : grid0.Coords) : Fin 3 → Nat :=
  let arg2 : BitVec 32 := BitVec.ofNat 32 (i 2).val
  let v29 : Index := Scalar.indexCast arg2
  let c0_14 : Index := 0#32
  let c0_15 : Index := 0#32
  ![v29.toNat, 0, 0]
def k0_off4 (i : grid0.Coords) : Fin 3 → Nat :=
  let arg2 : BitVec 32 := BitVec.ofNat 32 (i 2).val
  let v20 : Index := Scalar.indexCast arg2
  let c0 : Index := 0#32
  let c0_6 : Index := 0#32
  ![v20.toNat, 0, 0]
def k0_cond3 (i : grid0.Coords) (v3 : BitVec 32) : BitVec 1 :=
  let c0_i32 : BitVec 32 := 0#32
  let v4 : BitVec 1 := Scalar.cmpi .sgt v3 c0_i32
  let arg1 : BitVec 32 := BitVec.ofNat 32 (i 1).val
  let c6_i32 : BitVec 32 := 6#32
  let v11 : BitVec 1 := Scalar.cmpi .eq arg1 c6_i32
  let v12 : BitVec 1 := Scalar.andi v4 v11
  let v13 : BitVec 32 := Scalar.extui v12
  let c0_i32_3 : BitVec 32 := 0#32
  let v14 : BitVec 1 := Scalar.cmpi .ne v13 c0_i32_3
  v14

def k0_cond4 (i : grid0.Coords) (v3 : BitVec 32) : BitVec 1 :=
  let c0_i32 : BitVec 32 := 0#32
  let v4 : BitVec 1 := Scalar.cmpi .sgt v3 c0_i32
  let v_true : BitVec 1 := 1#1
  let v15 : BitVec 1 := Scalar.xori v4 v_true
  let arg1 : BitVec 32 := BitVec.ofNat 32 (i 1).val
  let c6_i32_4 : BitVec 32 := 6#32
  let v16 : BitVec 1 := Scalar.cmpi .eq arg1 c6_i32_4
  let v17 : BitVec 1 := Scalar.andi v15 v16
  let v18 : BitVec 32 := Scalar.extui v17
  let c0_i32_5 : BitVec 32 := 0#32
  let v19 : BitVec 1 := Scalar.cmpi .ne v18 c0_i32_5
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let v2 : Index := Scalar.indexCast v1
  let v3 : BitVec 32 := pf.at 0 (Rect.unit (s := S72) ![v2.toNat] S1.size (k0_off1_inb i)) numel1_S1
  let c4_i32_0 : BitVec 32 := 4#32
  let v4 : BitVec 32 := Scalar.muli arg0 c4_i32_0
  let v5 : BitVec 32 := Scalar.addi v4 arg2
  let v6 : Index := Scalar.indexCast v5
  let v7 : BitVec 32 := pf.at 1 (Rect.unit (s := S72) ![v6.toNat] S1.size (k0_off1_inb i)) numel1_S1
  let v8 : BitVec 32 := Scalar.muli arg1 v7
  let c0_i32 : BitVec 32 := 0#32
  let c0_i32_1 : BitVec 32 := 0#32
  ![v3.toNat, c0_i32.toNat, v8.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let v2 : Index := Scalar.indexCast v1
  let v3 : BitVec 32 := pf.at 0 (Rect.unit (s := S72) ![v2.toNat] S1.size (k0_off1_inb i)) numel1_S1
  let c4_i32_0 : BitVec 32 := 4#32
  let v4 : BitVec 32 := Scalar.muli arg0 c4_i32_0
  let v5 : BitVec 32 := Scalar.addi v4 arg2
  let v6 : Index := Scalar.indexCast v5
  let v7 : BitVec 32 := pf.at 1 (Rect.unit (s := S72) ![v6.toNat] S1.size (k0_off1_inb i)) numel1_S1
  let v8 : BitVec 32 := Scalar.muli arg1 v7
  let c0_i32 : BitVec 32 := 0#32
  let c0_i32_1 : BitVec 32 := 0#32
  ![v3.toNat, c0_i32.toNat, v8.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let v2 : Index := Scalar.indexCast v1
  let v3 : BitVec 32 := pf.at 0 (Rect.unit (s := S72) ![v2.toNat] S1.size (k0_off1_inb i)) numel1_S1
  let c4_i32_0 : BitVec 32 := 4#32
  let v4 : BitVec 32 := Scalar.muli arg0 c4_i32_0
  let v5 : BitVec 32 := Scalar.addi v4 arg2
  let v6 : Index := Scalar.indexCast v5
  let v7 : BitVec 32 := pf.at 1 (Rect.unit (s := S72) ![v6.toNat] S1.size (k0_off1_inb i)) numel1_S1
  let v8 : BitVec 32 := Scalar.muli arg1 v7
  let c0_i32 : BitVec 32 := 0#32
  let c0_i32_1 : BitVec 32 := 0#32
  ![v3.toNat, v8.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 32 := Scalar.addi c0_i32 v0
  let c6_i32 : BitVec 32 := 6#32
  let v2 : BitVec 1 := Scalar.cmpi .eq arg1 c6_i32
  let c0_i32_0 : BitVec 32 := 0#32
  let v3 : BitVec 32 := Scalar.select v2 arg2 c0_i32_0
  let v4 : BitVec 32 := Scalar.addi v1 v3
  let c0_i32_1 : BitVec 32 := 0#32
  let c0_i32_2 : BitVec 32 := 0#32
  ![v4.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ExpertsRefIdeal.lean ====
abbrev S72 : Shape := ⟨1, ![72]⟩
abbrev S73728x1024 : Shape := ⟨2, ![73728, 1024]⟩
abbrev S8x1024x3584 : Shape := ⟨3, ![8, 1024, 3584]⟩
abbrev S8x3584x1024 : Shape := ⟨3, ![8, 3584, 1024]⟩
abbrev S72x1024x1024 : Shape := ⟨3, ![72, 1024, 1024]⟩
abbrev S_ : Shape := ⟨0, ![]⟩
abbrev S72x1 : Shape := ⟨2, ![72, 1]⟩
abbrev S72x3 : Shape := ⟨2, ![72, 3]⟩
abbrev S72x1x1024x3584 : Shape := ⟨4, ![72, 1, 1024, 3584]⟩
abbrev S72x1024x3584 : Shape := ⟨3, ![72, 1024, 3584]⟩
abbrev S72x1x3584x1024 : Shape := ⟨4, ![72, 1, 3584, 1024]⟩
abbrev S72x3584x1024 : Shape := ⟨3, ![72, 3584, 1024]⟩
abbrev S72x1x1 : Shape := ⟨3, ![72, 1, 1]⟩

abbrev nBuf : Space → Nat
  | .hbm => 118
  | .vmem => 0
  | .smem => 0
  | _ => 0

abbrev bufTy : (tb : Table) → Fin (tcTables nBuf tb) → BufTy
  | .hbm, ⟨0, _⟩ => ⟨S72, .i32⟩
  | .hbm, ⟨1, _⟩ => ⟨S72, .i32⟩
  | .hbm, ⟨2, _⟩ => ⟨S73728x1024, .bf16⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S72x1024x1024, .bf16⟩
  | .hbm, ⟨7, _⟩ => ⟨S_, .i32⟩
  | .hbm, ⟨8, _⟩ => ⟨S72, .i32⟩
  | .hbm, ⟨9, _⟩ => ⟨S72, .i1⟩
  | .hbm, ⟨10, _⟩ => ⟨S_, .i32⟩
  | .hbm, ⟨11, _⟩ => ⟨S72, .i32⟩
  | .hbm, ⟨12, _⟩ => ⟨S72, .i32⟩
  | .hbm, ⟨13, _⟩ => ⟨S72, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S72x1, .i32⟩
  | .hbm, ⟨31, _⟩ => ⟨S72x1, .i32⟩
  | .hbm, ⟨32, _⟩ => ⟨S72x1, .i32⟩
  | .hbm, ⟨33, _⟩ => ⟨S72x3, .i32⟩
  | .hbm, ⟨34, _⟩ => ⟨S72x1x1024x3584, .f32⟩
  | .hbm, ⟨35, _⟩ => ⟨S72x1024x3584, .f32⟩
  | .hbm, ⟨36, _⟩ => ⟨S72x1024x3584, .f32⟩
  | .hbm, ⟨37, _⟩ => ⟨S72x1024x3584, .f32⟩
  | .hbm, ⟨38, _⟩ => ⟨S72x1024x3584, .f32⟩
  | .hbm, ⟨39, _⟩ => ⟨S_, .f32⟩
  | .hbm, ⟨40, _⟩ => ⟨S72x1024x3584, .f32⟩
  | .hbm, ⟨41, _⟩ => ⟨S72x1024x3584, .f32⟩
  | .hbm, ⟨42, _⟩ => ⟨S_, .f32⟩
  | .hbm, ⟨43, _⟩ => ⟨S72x1024x3584, .f32⟩
  | .hbm, ⟨44, _⟩ => ⟨S72x1024x3584, .f32⟩
  | .hbm, ⟨45, _⟩ => ⟨S72x1024x3584, .f32⟩
  | .hbm, ⟨46, _⟩ => ⟨S_, .i32⟩
  | .hbm, ⟨47, _⟩ => ⟨S72, .i32⟩
  | .hbm, ⟨48, _⟩ => ⟨S72, .i1⟩
  | .hbm, ⟨49, _⟩ => ⟨S_, .i32⟩
  | .hbm, ⟨50, _⟩ => ⟨S72, .i32⟩
  | .hbm, ⟨51, _⟩ => ⟨S72, .i32⟩
  | .hbm, ⟨52, _⟩ => ⟨S72, .i32⟩
  | .hbm, ⟨53, _⟩ => ⟨S_, .i32⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S72x1, .i32⟩
  | .hbm, ⟨70, _⟩ => ⟨S72x1, .i32⟩
  | .hbm, ⟨71, _⟩ => ⟨S72x1, .i32⟩
  | .hbm, ⟨72, _⟩ => ⟨S72x3, .i32⟩
  | .hbm, ⟨73, _⟩ => ⟨S72x1x1024x3584, .f32⟩
  | .hbm, ⟨74, _⟩ => ⟨S72x1024x3584, .f32⟩
  | .hbm, ⟨75, _⟩ => ⟨S72x1024x3584, .f32⟩
  | .hbm, ⟨76, _⟩ => ⟨S72x1024x3584, .f32⟩
  | .hbm, ⟨77, _⟩ => ⟨S_, .i32⟩
  | .hbm, ⟨78, _⟩ => ⟨S72, .i32⟩
  | .hbm, ⟨79, _⟩ => ⟨S72, .i1⟩
  | .hbm, ⟨80, _⟩ => ⟨S_, .i32⟩
  | .hbm, ⟨81, _⟩ => ⟨S72, .i32⟩
  | .hbm, ⟨82, _⟩ => ⟨S72, .i32⟩
  | .hbm, ⟨83, _⟩ => ⟨S72, .i32⟩
  | .hbm, ⟨84, _⟩ => ⟨S_, .i32⟩
  | .hbm, ⟨85, _⟩ => ⟨S_, .i32⟩
  | .hbm, ⟨86, _⟩ => ⟨S_, .i1⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S_, .i32⟩
  | .hbm, ⟨94, _⟩ => ⟨S_, .i1⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S72x1, .i32⟩
  | .hbm, ⟨101, _⟩ => ⟨S72x1, .i32⟩
  | .hbm, ⟨102, _⟩ => ⟨S72x1, .i32⟩
  | .hbm, ⟨103, _⟩ => ⟨S72x3, .i32⟩
  | .hbm, ⟨104, _⟩ => ⟨S72x1x3584x1024, .f32⟩
  | .hbm, ⟨105, _⟩ => ⟨S72x3584x1024, .f32⟩
  | .hbm, ⟨106, _⟩ => ⟨S72x1024x1024, .f32⟩
  | .hbm, ⟨107, _⟩ => ⟨S_, .i32⟩
  | .hbm, ⟨108, _⟩ => ⟨S72, .i32⟩
  | .hbm, ⟨109, _⟩ => ⟨S72, .i1⟩
  | .hbm, ⟨110, _⟩ => ⟨S72x1x1, .i1⟩
  | .hbm, ⟨111, _⟩ => ⟨S_, .f32⟩
  | .hbm, ⟨112, _⟩ => ⟨S_, .f32⟩
  | .hbm, ⟨113, _⟩ => ⟨S72x1024x1024, .i1⟩
  | .hbm, ⟨114, _⟩ => ⟨S72x1024x1024, .f32⟩
  | .hbm, ⟨115, _⟩ => ⟨S72x1024x1024, .f32⟩
  | .hbm, ⟨116, _⟩ => ⟨S73728x1024, .f32⟩
  | .hbm, ⟨117, _⟩ => ⟨S73728x1024, .bf16⟩
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_c_2 : Ref sig .tc := ⟨.hbm, 15, rfl⟩
abbrev main_v6 : Ref sig .tc := ⟨.hbm, 16, rfl⟩
abbrev main_c_3 : Ref sig .tc := ⟨.hbm, 17, rfl⟩
abbrev main_c_4 : Ref sig .tc := ⟨.hbm, 18, rfl⟩
abbrev main_v7 : Ref sig .tc := ⟨.hbm, 19, rfl⟩
abbrev main_c_5 : Ref sig .tc := ⟨.hbm, 20, rfl⟩
abbrev main_v8 : Ref sig .tc := ⟨.hbm, 21, rfl⟩
abbrev main_c_6 : Ref sig .tc := ⟨.hbm, 22, rfl⟩
abbrev main_c_7 : Ref sig .tc := ⟨.hbm, 23, rfl⟩
abbrev main_v9 : Ref sig .tc := ⟨.hbm, 24, rfl⟩
abbrev main_c_8 : Ref sig .tc := ⟨.hbm, 25, rfl⟩
abbrev main_c_9 : Ref sig .tc := ⟨.hbm, 26, rfl⟩
abbrev main_v10 : Ref sig .tc := ⟨.hbm, 27, rfl⟩
abbrev main_c_10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v19 : Ref sig .tc := ⟨.hbm, 45, rfl⟩
abbrev main_c_11 : Ref sig .tc := ⟨.hbm, 46, rfl⟩
abbrev main_v20 : Ref sig .tc := ⟨.hbm, 47, rfl⟩
abbrev main_v21 : Ref sig .tc := ⟨.hbm, 48, rfl⟩
abbrev main_c_12 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_13 : Ref sig .tc := ⟨.hbm, 53, rfl⟩
abbrev main_c_14 : Ref sig .tc := ⟨.hbm, 54, rfl⟩
abbrev main_v25 : Ref sig .tc := ⟨.hbm, 55, rfl⟩
abbrev main_c_15 : Ref sig .tc := ⟨.hbm, 56, rfl⟩
abbrev main_c_16 : Ref sig .tc := ⟨.hbm, 57, rfl⟩
abbrev main_v26 : Ref sig .tc := ⟨.hbm, 58, rfl⟩
abbrev main_c_17 : Ref sig .tc := ⟨.hbm, 59, rfl⟩
abbrev main_v27 : Ref sig .tc := ⟨.hbm, 60, rfl⟩
abbrev main_c_18 : Ref sig .tc := ⟨.hbm, 61, rfl⟩
abbrev main_c_19 : Ref sig .tc := ⟨.hbm, 62, rfl⟩
abbrev main_v28 : Ref sig .tc := ⟨.hbm, 63, rfl⟩
abbrev main_c_20 : Ref sig .tc := ⟨.hbm, 64, rfl⟩
abbrev main_c_21 : Ref sig .tc := ⟨.hbm, 65, rfl⟩
abbrev main_v29 : Ref sig .tc := ⟨.hbm, 66, rfl⟩
abbrev main_c_22 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_c_23 : Ref sig .tc := ⟨.hbm, 77, rfl⟩
abbrev main_v39 : Ref sig .tc := ⟨.hbm, 78, rfl⟩
abbrev main_v40 : Ref sig .tc := ⟨.hbm, 79, rfl⟩
abbrev main_c_24 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_c_25 : Ref sig .tc := ⟨.hbm, 84, rfl⟩
abbrev main_c_26 : Ref sig .tc := ⟨.hbm, 85, rfl⟩
abbrev main_v44 : Ref sig .tc := ⟨.hbm, 86, rfl⟩
abbrev main_c_27 : Ref sig .tc := ⟨.hbm, 87, rfl⟩
abbrev main_c_28 : Ref sig .tc := ⟨.hbm, 88, rfl⟩
abbrev main_v45 : Ref sig .tc := ⟨.hbm, 89, rfl⟩
abbrev main_c_29 : Ref sig .tc := ⟨.hbm, 90, rfl⟩
abbrev main_v46 : Ref sig .tc := ⟨.hbm, 91, rfl⟩
abbrev main_c_30 : Ref sig .tc := ⟨.hbm, 92, rfl⟩
abbrev main_c_31 : Ref sig .tc := ⟨.hbm, 93, rfl⟩
abbrev main_v47 : Ref sig .tc := ⟨.hbm, 94, rfl⟩
abbrev main_c_32 : Ref sig .tc := ⟨.hbm, 95, rfl⟩
abbrev main_c_33 : Ref sig .tc := ⟨.hbm, 96, rfl⟩
abbrev main_v48 : Ref sig .tc := ⟨.hbm, 97, rfl⟩
abbrev main_c_34 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_c_35 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_cst : Ref sig .tc := ⟨.hbm, 111, rfl⟩
abbrev main_call1_v0 : Ref sig .tc := ⟨.hbm, 112, rfl⟩
abbrev main_call1_v1 : Ref sig .tc := ⟨.hbm, 113, rfl⟩
abbrev main_call1_v2 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩

abbrev nD : Nat := 1
abbrev τ : Topo := Topo.v7x

variable {F : FTy → Type} [FloatOps F]
-- ==== Proof.Attn.lean ====
/- Softmax attention over the extended reals: one query's output as a weighted sum of values, and the
   blockwise form with a running maximum per block of keys, both as the same sum. -/
module

public import Idealize.ShloMosaic.Lib.Pointwise

@[expose] public section

noncomputable section

namespace Cert.Attn

open Idealize.ShloMosaic

/-- The pattern of minus infinity denotes the least element. -/
theorem ofBits_negInf : Ideal.ofBits .f32 0xFF800000#32 = (⊥ : EReal) := by
  simp [Ideal.ofBits, Ideal.ieee]

/-- The pattern of plus infinity denotes the greatest element. -/
theorem ofBits_posInf : Ideal.ofBits .f32 0x7F800000#32 = (⊤ : EReal) := by
  simp [Ideal.ofBits, Ideal.ieee]

/-- The pattern of two denotes two. -/
theorem ofBits_two : Ideal.ofBits .f32 0x40000000#32 = ((2 : ℝ) : EReal) := by
  simp [Ideal.ofBits, Ideal.ieee, -EReal.coe_mul]
  norm_num

/-- A sum of reals in the extended reals is the real sum. -/
theorem coe_sum {ι : Type} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- The maximum of finitely many reals, at least one, is a real. -/
theorem fold_max_real {n : ℕ} (f : Fin (n + 1) → EReal) (h : ∀ k, ∃ r : ℝ, f k = r) :
    ∃ r : ℝ, (Finset.univ.fold max (⊥ : EReal) f) = r := by
  classical
  have key : ∀ s : Finset (Fin (n + 1)), s.fold max (⊥ : EReal) f = ⊥ ∧ s = ∅ ∨ ∃ r : ℝ, s.fold max (⊥ : EReal) f = r := by
    intro s
    induction s using Finset.induction_on with
    | empty => exact Or.inl ⟨rfl, rfl⟩
    | insert a s ha ih =>
      right
      obtain ⟨ra, hra⟩ := h a
      rw [Finset.fold_insert ha, hra]
      rcases ih with ⟨h0, _⟩ | ⟨r, hr⟩
      · exact ⟨ra, by rw [h0]; exact max_bot_right _⟩
      · exact ⟨max ra r, by rw [hr]; exact (EReal.coe_strictMono.monotone.map_max).symm⟩
  rcases key Finset.univ with ⟨_, h0⟩ | h1
  · exact absurd h0 (Finset.univ_nonempty.ne_empty)
  · exact h1

/-- A finite nonnegative factor distributes over a sum. -/
theorem sum_mul_real {ι : Type} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- Softmax attention of one query: the values weighted by the exponentials of the scores `x`, over their sum. -/
def attn {n : ℕ} (x : Fin n → ℝ) (v : Fin n → EReal) : EReal :=
  ∑ k, v k * ((Real.exp (x k) / ∑ j, Real.exp (x j) : ℝ) : EReal)

/-- The textbook form: exponentials of the scores less any real `M`, each divided by their sum. -/
theorem attn_shifted {n : ℕ} (x : Fin (n + 1) → ℝ) (v : Fin (n + 1) → EReal) (M : ℝ) :
    (∑ k, v k * Ideal.div (Ideal.exp ((x k : EReal) - (M : EReal))) (0 + ∑ j, Ideal.exp ((x j : EReal) - (M : EReal))))
      = attn x v := by
  unfold attn
  refine Finset.sum_congr rfl fun k _ => ?_
  congr 1
  have e : ∀ j, Ideal.exp ((x j : EReal) - (M : EReal)) = ((Real.exp (x j - M) : ℝ) : EReal) := fun j => by
    rw [← EReal.coe_sub, Ideal.exp_coe]
  have hpos : 0 < ∑ j, Real.exp (x j - M) := Finset.sum_pos (fun j _ => Real.exp_pos _) Finset.univ_nonempty
  simp only [e]
  rw [zero_add, coe_sum, Ideal.div_coe hpos.ne', ← EReal.coe_mul]
  congr 1
  have hs : (∑ j, Real.exp (x j - M)) = (∑ j, Real.exp (x j)) * Real.exp (-M) := by
    rw [Finset.sum_mul]
    exact Finset.sum_congr rfl fun j _ => by rw [sub_eq_add_neg, Real.exp_add]
  rw [hs, sub_eq_add_neg, Real.exp_add]
  have h1 := Real.exp_pos (-M)
  have h2 : 0 < ∑ j, Real.exp (x j) := Finset.sum_pos (fun j _ => Real.exp_pos _) Finset.univ_nonempty
  field_simp

/-- Two to the power of a score in base two is the exponential of the score. -/
theorem exp2_score (y M : ℝ) : Ideal.exp2 (((y / Real.log 2 : ℝ) : EReal) - ((M / Real.log 2 : ℝ) : EReal)) = ((Real.exp (y - M) : ℝ) : EReal) := by
  have h : Real.log 2 ≠ 0 := (Real.log_pos (by norm_num)).ne'
  rw [← EReal.coe_sub, Ideal.exp2_coe, ← sub_div]
  congr 1
  show (2 : ℝ) ^ ((y - M) / Real.log 2) = _
  rw [Real.rpow_def_of_pos (by norm_num)]
  congr 1
  field_simp

/-- One block's partial output, taken under that block's maximum, rescaled to the common maximum. -/
theorem chunk_rescale {n : ℕ} (y : Fin n → ℝ) (w : Fin n → EReal) (m M : ℝ) :
    (0 + ∑ t, w t * Ideal.exp2 (((y t / Real.log 2 : ℝ) : EReal) - ((m / Real.log 2 : ℝ) : EReal)))
        * Ideal.exp2 (((m / Real.log 2 : ℝ) : EReal) - ((M / Real.log 2 : ℝ) : EReal))
      = ∑ t, w t * ((Real.exp (y t - M) : ℝ) : EReal) := by
  simp only [exp2_score]
  rw [zero_add, sum_mul_real _ _ _ (Real.exp_pos _).le]
  refine Finset.sum_congr rfl fun t _ => ?_
  rw [mul_assoc, ← EReal.coe_mul, ← Real.exp_add]
  congr 3
  ring

/-- A block's partial output under its own maximum, as the kernel forms it. -/
def chunkO {n : ℕ} (s w : Fin n → EReal) : EReal :=
  0 + ∑ t, w t * Ideal.exp2 (s t - Finset.univ.fold max (⊥ : EReal) s)

/-- The common maximum of eight blocks' maxima. -/
def max8 (m : Fin 8 → EReal) : EReal :=
  max (max (max (max (max (max (max (m 0) (m 1)) (m 2)) (m 3)) (m 4)) (m 5)) (m 6)) (m 7)

/-- Eight blocks' partial outputs, each rescaled to the common maximum, added up. -/
def merge8 (m o : Fin 8 → EReal) : EReal :=
  o 0 * Ideal.exp2 (m 0 - max8 m) + o 1 * Ideal.exp2 (m 1 - max8 m) + o 2 * Ideal.exp2 (m 2 - max8 m)
    + o 3 * Ideal.exp2 (m 3 - max8 m) + o 4 * Ideal.exp2 (m 4 - max8 m) + o 5 * Ideal.exp2 (m 5 - max8 m)
    + o 6 * Ideal.exp2 (m 6 - max8 m) + o 7 * Ideal.exp2 (m 7 - max8 m)

/-- The maximum of eight reals is a real. -/
theorem max8_real (m : Fin 8 → EReal) (h : ∀ c, ∃ r : ℝ, m c = r) : ∃ r : ℝ, max8 m = r := by
  choose r hr using h
  refine ⟨max (max (max (max (max (max (max (r 0) (r 1)) (r 2)) (r 3)) (r 4)) (r 5)) (r 6)) (r 7), ?_⟩
  simp only [max8, hr, EReal.coe_strictMono.monotone.map_max]

/-- Eight blocks of keys with running maxima merged: the weighted sum over all keys under one real shift. -/
theorem merge8_eq {n : ℕ} (y : Fin 8 → Fin (n + 1) → ℝ) :
    ∃ M : ℝ, ∀ w : Fin 8 → Fin (n + 1) → EReal,
      merge8 (fun c => Finset.univ.fold max (⊥ : EReal) fun t => ((y c t / Real.log 2 : ℝ) : EReal))
          (fun c => chunkO (fun t => ((y c t / Real.log 2 : ℝ) : EReal)) (w c))
        = ∑ c, ∑ t, w c t * ((Real.exp (y c t - M) : ℝ) : EReal) := by
  have hl : Real.log 2 ≠ 0 := (Real.log_pos (by norm_num)).ne'
  have hm : ∀ c, ∃ r : ℝ, (Finset.univ.fold max (⊥ : EReal) fun t => ((y c t / Real.log 2 : ℝ) : EReal)) = r :=
    fun c => fold_max_real _ fun t => ⟨_, rfl⟩
  obtain ⟨M, hM⟩ := max8_real _ hm
  choose r hr using hm
  refine ⟨M * Real.log 2, fun w => ?_⟩
  have hr' : ∀ c, (r c : EReal) = (((r c * Real.log 2) / Real.log 2 : ℝ) : EReal) := fun c => by
    rw [mul_div_assoc, div_self hl, mul_one]
  have hM' : (M : EReal) = (((M * Real.log 2) / Real.log 2 : ℝ) : EReal) := by
    rw [mul_div_assoc, div_self hl, mul_one]
  have step : ∀ c, chunkO (fun t => ((y c t / Real.log 2 : ℝ) : EReal)) (w c) * Ideal.exp2 ((r c : EReal) - (M : EReal))
      = ∑ t, w c t * ((Real.exp (y c t - M * Real.log 2) : ℝ) : EReal) := fun c => by
    rw [chunkO, hr c, hr' c, hM']
    exact chunk_rescale (y c) (w c) _ _
  rw [merge8, hM]
  simp only [hr, step]
  rw [Fin.sum_univ_eight]

/-- THE BLOCKWISE FORM IS SOFTMAX ATTENTION: the merged outputs over the merged sums of weights, 2048 keys in eight blocks. -/
theorem merge8_div (x : Fin 2048 → ℝ) (v : Fin 2048 → EReal)
    (y : Fin 8 → Fin 256 → ℝ) (w : Fin 8 → Fin 256 → EReal)
    (hy : ∀ c t, y c t = x ⟨c * 256 + t, by omega⟩) (hw : ∀ c t, w c t = v ⟨c * 256 + t, by omega⟩) :
    Ideal.div
        (merge8 (fun c => Finset.univ.fold max (⊥ : EReal) fun t => ((y c t / Real.log 2 : ℝ) : EReal))
          (fun c => chunkO (fun t => ((y c t / Real.log 2 : ℝ) : EReal)) (w c)))
        (merge8 (fun c => Finset.univ.fold max (⊥ : EReal) fun t => ((y c t / Real.log 2 : ℝ) : EReal))
          (fun c => chunkO (fun t => ((y c t / Real.log 2 : ℝ) : EReal)) (fun _ => 1)))
      = attn x v := by
  obtain ⟨M, hM⟩ := merge8_eq (n := 255) y
  rw [hM, hM]
  have t1 : (∑ c, ∑ t, w c t * ((Real.exp (y c t - M) : ℝ) : EReal)) = ∑ k, v k * ((Real.exp (x k - M) : ℝ) : EReal) := by
    rw [Fin.sum_univ_tiles 8 256 rfl]
    exact Finset.sum_congr rfl fun c _ => Finset.sum_congr rfl fun t _ => by rw [hy, hw]
  have t2 : (∑ c, ∑ t : Fin 256, (1 : EReal) * ((Real.exp (y c t - M) : ℝ) : EReal)) = ((∑ k, Real.exp (x k - M) : ℝ) : EReal) := by
    rw [← coe_sum, Fin.sum_univ_tiles 8 256 rfl]
    exact Finset.sum_congr rfl fun c _ => Finset.sum_congr rfl fun t _ => by rw [hy, one_mul]
  have hpos : 0 < ∑ k, Real.exp (x k - M) := Finset.sum_pos (fun j _ => Real.exp_pos _) Finset.univ_nonempty
  rw [t1, t2, Ideal.div_coe hpos.ne', sum_mul_real _ _ _ (by positivity), attn]
  refine Finset.sum_congr rfl fun k _ => ?_
  rw [mul_assoc, ← EReal.coe_mul]
  congr 2
  have hs : (∑ j, Real.exp (x j - M)) = (∑ j, Real.exp (x j)) * Real.exp (-M) := by
    rw [Finset.sum_mul]
    exact Finset.sum_congr rfl fun j _ => by rw [sub_eq_add_neg, Real.exp_add]
  rw [hs, sub_eq_add_neg, Real.exp_add]
  have h1 := Real.exp_pos (-M)
  have h2 : 0 < ∑ j, Real.exp (x j) := Finset.sum_pos (fun j _ => Real.exp_pos _) Finset.univ_nonempty
  field_simp

/-- A finite extended real: neither infinity. -/
def Fin' (a : EReal) : Prop := a ≠ ⊤ ∧ a ≠ ⊥

/-- A finite extended real is its real part. -/
theorem Fin'.eq {a : EReal} (h : Fin' a) : a = ((a.toReal : ℝ) : EReal) := (EReal.coe_toReal h.1 h.2).symm

/-- The score of a key `b` against a query `a` under the scale `κ`. -/
def dotS {n : ℕ} (κ : ℝ) (a b : Fin n → EReal) : ℝ := (∑ d, (a d).toReal * (b d).toReal) * κ

/-- The score with the scale and the division by `log 2` taken into the query. -/
theorem score_in {n : ℕ} (κ : ℝ) (K : EReal) (hK : K = (κ : EReal)) (a b : Fin n → EReal) (ha : ∀ d, Fin' (a d)) (hb : ∀ d, Fin' (b d)) :
    (∑ d, b d * Ideal.div (a d * K) (Ideal.log (Ideal.ofBits .f32 0x40000000#32))) = ((dotS κ a b / Real.log 2 : ℝ) : EReal) := by
  have hl : Real.log 2 ≠ 0 := (Real.log_pos (by norm_num)).ne'
  have hlog : Ideal.log (Ideal.ofBits .f32 0x40000000#32) = ((Real.log 2 : ℝ) : EReal) := by
    rw [ofBits_two, Ideal.log_coe, if_neg (by norm_num)]
  have e : ∀ d, b d * Ideal.div (a d * K) (Ideal.log (Ideal.ofBits .f32 0x40000000#32))
      = (((a d).toReal * (b d).toReal * κ / Real.log 2 : ℝ) : EReal) := fun d => by
    rw [hlog, Ideal.div_coe hl, hK]
    conv_lhs => rw [(ha d).eq, (hb d).eq]
    rw [← EReal.coe_mul, ← EReal.coe_mul, ← EReal.coe_mul]
    congr 1
    ring
  rw [Finset.sum_congr rfl fun d _ => e d, coe_sum, dotS]
  congr 1
  rw [Finset.sum_mul, Finset.sum_div]

/-- The score with the scale applied after the sum, key times query. -/
theorem score_out {n : ℕ} (κ : ℝ) (K : EReal) (hK : K = (κ : EReal)) (a b : Fin n → EReal) (ha : ∀ d, Fin' (a d)) (hb : ∀ d, Fin' (b d)) :
    (∑ d, b d * a d) * K = ((dotS κ a b : ℝ) : EReal) := by
  have e : ∀ d, b d * a d = (((a d).toReal * (b d).toReal : ℝ) : EReal) := fun d => by
    conv_lhs => rw [(ha d).eq, (hb d).eq]
    rw [← EReal.coe_mul, mul_comm]
  rw [Finset.sum_congr rfl fun d _ => e d, coe_sum, hK, ← EReal.coe_mul, dotS]

/-- The pattern of one eighth denotes one eighth. -/
theorem ofBits_eighth : Ideal.ofBits .f32 0x3E000000#32 = ((1 / 8 : ℝ) : EReal) := by
  simp [Ideal.ofBits, Ideal.ieee, -EReal.coe_mul]
  norm_num

/-- The textbook form with the maximum of the scores as the shift. -/
theorem attn_ref {n : ℕ} (x : Fin (n + 1) → ℝ) (v : Fin (n + 1) → EReal) :
    (∑ k, v k * Ideal.div
        (Ideal.exp ((x k : EReal) - max (Ideal.ofBits .f32 0xFF800000#32) (Finset.univ.fold max (Ideal.ofBits .f32 0xFF800000#32) fun j => (x j : EReal))))
        (∑ i, Ideal.exp ((x i : EReal) - max (Ideal.ofBits .f32 0xFF800000#32) (Finset.univ.fold max (Ideal.ofBits .f32 0xFF800000#32) fun j => (x j : EReal)))))
      = attn x v := by
  obtain ⟨M, hM⟩ := fold_max_real (fun j => (x j : EReal)) fun j => ⟨x j, rfl⟩
  rw [ofBits_negInf, hM, max_bot_left, ← attn_shifted x v M]
  simp only [zero_add]

end Cert.Attn

end
-- ==== Proof.GqaBlock.lean ====
/- What the grouped-query attention body stores, read at one element: softmax attention of one query row. -/
module

public import proofs.«01_k».proof.Proof.Gen.GqaIdeal.Skeleton
public import proofs.«01_k».proof.Proof.Attn

@[expose] public section

set_option maxRecDepth 16384

noncomputable section

namespace Cert.GqaIdeal.Block

open Cert.GqaIdeal Cert.GqaIdeal.Gen Idealize.ShloMosaic Cert.Attn

/-- A block of scores' maximum over its keys, at query column `q`. -/
theorem max_at (s : FVec Ideal S256x2048 .f32) (q : Fin 2048) :
    k0_pay14 s (ix2 0 q) = Finset.univ.fold max (⊥ : EReal) fun t : Fin 256 => s (ix2 t q) := by
  pointwise [k0_pay14]
  rw [ofBits_negInf]

/-- A block's partial output at value row `l`, query column `q`. -/
theorem out_at (s : FVec Ideal S256x2048 .f32) (v : Vec Ideal S1x144x256 .bf16) (l : Fin 144) (q : Fin 2048) :
    k0_pay12 (k0_pay15 s) v (ix2 l q) = chunkO (fun t : Fin 256 => s (ix2 t q)) (fun t => v (ix3 0 l t)) := by
  pointwise [k0_pay12, k0_pay15]
  rw [max_at, chunkO, zero_add]
  rfl

/-- The lane test: lane `n` is below 64. -/
theorem lane_lo : ∀ n : Fin 128, (n : ℕ) < 64 → IntOp.cmpi .slt (BitVec.ofNat 32 (n : ℕ)) 64#32 = 1#1 := by decide +kernel

/-- The lane test: lane `n` is not below 64. -/
theorem lane_hi : ∀ n : Fin 128, ¬ (n : ℕ) < 64 → IntOp.cmpi .slt (BitVec.ofNat 32 (n : ℕ)) 64#32 = 0#1 := by decide +kernel

/-- A block's score of key `t` against the query row `r` of the pair's head `0`: the first 64 lanes. -/
theorem score_lo (P0 : Vec Ideal S1024x128 .bf16) (P1 : Vec Ideal S256x128 .bf16) (t : Fin 256) (r : Fin 1024) (q : Fin 2048) (hq : (q : ℕ) = r) :
    k0_pay13 (k0_pay2 P0) P1 (ix2 t q) = ∑ d : Fin 64, P1 (ix2 t ⟨d, by omega⟩) * P0 (ix2 r ⟨d, by omega⟩) := by
  have hr0 : (r : ℕ) < 2048 := lt_trans r.isLt (by norm_num)
  have e : q = ⟨r, hr0⟩ := Fin.ext hq
  subst e; clear hq
  pointwise [k0_pay13, k0_pay2]
  refine (Fin.sum_univ_two_halves 64 64 rfl _).trans ?_
  refine (congrArg₂ (· + ·) (Finset.sum_congr rfl fun d _ => ?_) (Finset.sum_eq_zero fun d _ => ?_)).trans (add_zero _)
  · rw [lane_lo _ (by exact d.isLt)]; rfl
  · rw [lane_hi _ (by show ¬ 64 + (d : ℕ) < 64; omega)]; rfl

/-- A block's score of key `t` against the query row `r` of the pair's head `1`: the last 64 lanes. -/
theorem score_hi (P0 : Vec Ideal S1024x128 .bf16) (P1 : Vec Ideal S256x128 .bf16) (t : Fin 256) (r : Fin 1024) (q : Fin 2048) (hq : (q : ℕ) = 1024 + r) :
    k0_pay13 (k0_pay2 P0) P1 (ix2 t q) = ∑ d : Fin 64, P1 (ix2 t ⟨64 + d, by omega⟩) * P0 (ix2 r ⟨64 + d, by omega⟩) := by
  have hr1 : 1024 + (r : ℕ) < 2048 := Nat.add_lt_add_left r.isLt 1024
  have e : q = ⟨1024 + r, hr1⟩ := Fin.ext hq
  subst e; clear hq
  pointwise [k0_pay13, k0_pay2]
  refine (Fin.sum_univ_two_halves 64 64 rfl _).trans ?_
  refine (congrArg₂ (· + ·) (Finset.sum_eq_zero fun d _ => ?_) (Finset.sum_congr rfl fun d _ => ?_)).trans (zero_add _)
  · rw [lane_lo _ (by exact d.isLt)]; rfl
  · rw [lane_hi _ (by show ¬ 64 + (d : ℕ) < 64; omega)]; rfl

set_option maxHeartbeats 1000000 in
set_option pp.maxSteps 150 in
/-- The eight blocks merged, at query row `r` and lane `l`: the pair's first head in the first 64 lanes, the second in the rest. -/
theorem merge_at (m : Fin 8 → FVec Ideal S1x2048 .f32) (o : Fin 8 → FVec Ideal S144x2048 .f32) (r : Fin 1024) (l : Fin 128)
    (q : Fin 2048) (hq : (q : ℕ) = if (l : ℕ) < 64 then (r : ℕ) else 1024 + r) :
    k0_pay32 (m 0) (m 1) (m 2) (o 0) (m 3) (o 1) (m 4) (o 2) (m 5) (o 3) (m 6) (o 4) (m 7) (o 5) (o 6) (o 7) (k0_pay31 (m 0) (m 1)) (ix2 r l)
      = Ideal.div (merge8 (fun c => m c (ix2 0 q)) (fun c => o c (ix2 ⟨l, by omega⟩ q)))
          (merge8 (fun c => m c (ix2 0 q)) (fun c => o c (ix2 128 q))) := by
  have hr0 : (r : ℕ) < 2048 := lt_trans r.isLt (by norm_num)
  have hr1 : 1024 + (r : ℕ) < 2048 := Nat.add_lt_add_left r.isLt 1024
  by_cases h : (l : ℕ) < 64
  · have e : q = ⟨r, hr0⟩ := Fin.ext (by rw [hq, if_pos h])
    subst e; clear hq
    pointwise [k0_pay32, k0_pay31]
    rw [lane_lo l h]
    rfl
  · have e : q = ⟨1024 + r, hr1⟩ := Fin.ext (by rw [hq, if_neg h])
    subst e; clear hq
    pointwise [k0_pay32, k0_pay31]
    rw [lane_hi l h]
    rfl

end Cert.GqaIdeal.Block

end
-- ==== Proof.GqaBlock2.lean ====
/- What the grouped-query attention body stores at one element, from the blocks its windows stage. -/
module

public import proofs.«01_k».proof.Proof.Gen.GqaIdeal.Value
public import proofs.«01_k».proof.Proof.GqaBlock
import Idealize.ShloMosaic.Lib.Pipeline.ValueKit

@[expose] public section

set_option maxRecDepth 16384

noncomputable section

namespace Cert.GqaIdeal.Block

open Cert.GqaIdeal Cert.GqaIdeal.Gen Idealize.ShloMosaic Cert.Attn

/-- The eight blocks of 256 keys the body loads from its staged keys. -/
def keys (x1 : Vec Ideal S2048x128 .bf16) : Fin 8 → Vec Ideal S256x128 .bf16 :=
  ![View.ld x1 r0_1, View.ld x1 r0_2, View.ld x1 r0_3, View.ld x1 r0_4, View.ld x1 r0_6, View.ld x1 r0_8, View.ld x1 r0_10, View.ld x1 r0_12]

/-- The eight blocks of 256 values the body loads from its staged values. -/
def vals (x2 : Vec Ideal S1x144x2048 .bf16) : Fin 8 → Vec Ideal S1x144x256 .bf16 :=
  ![View.ld x2 r0_5, View.ld x2 r0_7, View.ld x2 r0_9, View.ld x2 r0_11, View.ld x2 r0_13, View.ld x2 r0_14, View.ld x2 r0_15, View.ld x2 r0_16]

/-- Key `t` of block `c` is staged key `256 c + t`. -/
theorem keys_at (x1 : Vec Ideal S2048x128 .bf16) (c : Fin 8) (t : Fin 256) (d : Fin 128) :
    keys x1 c (ix2 t d) = x1 (ix2 ⟨c * 256 + t, by omega⟩ d) := by
  fin_cases c
  all_goals
    refine congrArg x1 (funext fun a => Fin.ext ?_)
    match a with
    | ⟨0, _⟩ => show _ + 1 * (t : ℕ) = _ * 256 + (t : ℕ); norm_num
    | ⟨1, _⟩ => show 0 + 1 * (d : ℕ) = d; omega

/-- Value `t` of block `c` is staged value `256 c + t`. -/
theorem vals_at (x2 : Vec Ideal S1x144x2048 .bf16) (c : Fin 8) (l : Fin 144) (t : Fin 256) :
    vals x2 c (ix3 0 l t) = x2 (ix3 0 l ⟨c * 256 + t, by omega⟩) := by
  fin_cases c
  all_goals
    refine congrArg x2 (funext fun a => Fin.ext ?_)
    match a with
    | ⟨0, _⟩ => rfl
    | ⟨1, _⟩ => show 0 + 1 * (l : ℕ) = l; omega
    | ⟨2, _⟩ => show _ + 1 * (t : ℕ) = _ * 256 + (t : ℕ); norm_num

/-- The query block the body loads is the staged one. -/
theorem qry_at (x0 : Vec Ideal S1024x128 .bf16) (r : Fin 1024) (d : Fin 128) : View.ld x0 r0_0 (ix2 r d) = x0 (ix2 r d) := by
  refine congrArg x0 (funext fun a => Fin.ext ?_)
  match a with
  | ⟨0, _⟩ => show 0 + 1 * (r : ℕ) = r; omega
  | ⟨1, _⟩ => show 0 + 1 * (d : ℕ) = d; omega

/-- Block `c`'s scores, one row a key. -/
def score (x0 : Vec Ideal S1024x128 .bf16) (x1 : Vec Ideal S2048x128 .bf16) (c : Fin 8) : FVec Ideal S256x2048 .f32 :=
  k0_pay13 (k0_pay2 (View.ld x0 r0_0)) (keys x1 c)

/-! ### One block's maximum, weights and partial output, however the body spells them -/

section spell
variable (q : Vec Ideal S1024x128 .bf16) (k : Vec Ideal S256x128 .bf16) (a : FVec Ideal S128x2048 .bf16) (s : FVec Ideal S256x2048 .f32)
  (p : FVec Ideal S256x2048 .bf16) (v : Vec Ideal S1x144x256 .bf16)
theorem sp0 : k0_pay3 q k = k0_pay13 (k0_pay2 q) k := rfl
theorem sp1 : k0_pay4 q k = k0_pay13 (k0_pay2 q) k := rfl
theorem sp2 : k0_pay7 q k = k0_pay13 (k0_pay2 q) k := rfl
theorem sp3 : k0_pay10 q k = k0_pay13 (k0_pay2 q) k := rfl
theorem sp4 : k0_pay17 a k = k0_pay13 a k := rfl
theorem sp5 : k0_pay21 a k = k0_pay13 a k := rfl
theorem sp6 : k0_pay24 a k = k0_pay13 a k := rfl
theorem sp7 : k0_pay5 q k = k0_pay14 (k0_pay13 (k0_pay2 q) k) := rfl
theorem sp8 : k0_pay8 q k = k0_pay14 (k0_pay13 (k0_pay2 q) k) := rfl
theorem sp9 : k0_pay11 q k = k0_pay14 (k0_pay13 (k0_pay2 q) k) := rfl
theorem sp10 : k0_pay18 a k = k0_pay14 (k0_pay13 a k) := rfl
theorem sp11 : k0_pay22 a k = k0_pay14 (k0_pay13 a k) := rfl
theorem sp12 : k0_pay27 a k = k0_pay14 (k0_pay13 a k) := rfl
theorem sp13 : k0_pay25 s = k0_pay14 s := rfl
theorem sp14 : k0_pay6 q k = k0_pay15 (k0_pay13 (k0_pay2 q) k) := rfl
theorem sp15 : k0_pay9 q k = k0_pay15 (k0_pay13 (k0_pay2 q) k) := rfl
theorem sp16 : k0_pay19 a k = k0_pay15 (k0_pay13 a k) := rfl
theorem sp17 : k0_pay16 p v = k0_pay12 p v := rfl
theorem sp18 : k0_pay23 p v = k0_pay12 p v := rfl
theorem sp19 : k0_pay26 p v = k0_pay12 p v := rfl
theorem sp20 : k0_pay20 s (k0_pay14 s) v = k0_pay12 (k0_pay15 s) v := rfl
theorem sp21 : k0_pay28 s (k0_pay14 s) v = k0_pay12 (k0_pay15 s) v := rfl
theorem sp22 : k0_pay29 s v = k0_pay12 (k0_pay15 s) v := rfl
theorem sp_last : k0_pay30 a k v = k0_pay12 (k0_pay15 (k0_pay13 a k)) v := rfl
end spell

/-- The stored value is the merged one: the cast changes nothing here. -/
theorem cast_at (v : FVec Ideal S1024x128 .f32) : k0_pay1 v = v := rfl

/-- The merge of the eight blocks' maxima and partial outputs, as the body spells it. -/
def pay (M : Fin 8 → FVec Ideal S1x2048 .f32) (O : Fin 8 → FVec Ideal S144x2048 .f32) : FVec Ideal S1024x128 .f32 :=
  k0_pay32 (M 0) (M 1) (M 2) (O 0) (M 3) (O 1) (M 4) (O 2) (M 5) (O 3) (M 6) (O 4) (M 7) (O 5) (O 6) (O 7) (k0_pay31 (M 0) (M 1))

/-- The merge at query row `r` and lane `l`, from the maxima and partial outputs at that query's column. -/
theorem pay_at (M : Fin 8 → FVec Ideal S1x2048 .f32) (O : Fin 8 → FVec Ideal S144x2048 .f32) (r : Fin 1024) (l : Fin 128)
    (q : Fin 2048) (hq : (q : ℕ) = if (l : ℕ) < 64 then (r : ℕ) else 1024 + r) :
    pay M O (ix2 r l) = Ideal.div (merge8 (fun c => M c (ix2 0 q)) (fun c => O c (ix2 ⟨l, by omega⟩ q)))
      (merge8 (fun c => M c (ix2 0 q)) (fun c => O c (ix2 128 q))) := by
  unfold pay
  exact merge_at M O r l q hq

/-- The body's stored element is the eight blocks merged. -/
theorem out_eq (x0 : Vec Ideal S1024x128 .bf16) (x1 : Vec Ideal S2048x128 .bf16) (x2 : Vec Ideal S1x144x2048 .bf16)
    (r : Fin 1024) (l : Fin 128) :
    out0_3 x0 x1 x2 (ix2 r l)
      = pay (fun c => k0_pay14 (score x0 x1 c)) (fun c => k0_pay12 (k0_pay15 (score x0 x1 c)) (vals x2 c)) (ix2 r l) := by
  unfold_out out0_3
  simp only [sp0, sp1, sp2, sp3, sp4, sp5, sp6, sp7, sp8, sp9, sp10, sp11, sp12, sp13, sp14, sp15, sp16, sp17, sp18, sp19, sp20, sp21, sp22, sp_last]
  refine (View.canon_apply_of_pieces (pay (fun c => k0_pay14 (score x0 x1 c)) (fun c => k0_pay12 (k0_pay15 (score x0 x1 c)) (vals x2 c))) _ ?_ (ix2 r l) (cover0_3 _ _)).trans ?_
  · intro pc hpc
    rcases List.mem_cons.mp hpc with rfl | hpc
    · intro x
      have e : r0_0.emb x = x := by
        refine funext fun a => Fin.ext ?_
        match a with
        | ⟨0, _⟩ => show 0 + 1 * (x 0 : ℕ) = x 0; omega
        | ⟨1, _⟩ => show 0 + 1 * (x 1 : ℕ) = x 1; omega
      rw [e]
      refine (congrFun (cast_at _) x).trans (congrFun ?_ x)
      unfold pay score
      rfl
    · nomatch hpc
  · rfl

/-- ONE STORED ELEMENT IS SOFTMAX ATTENTION: if the staged query row `r` scores key `kk` at `x kk` over `log 2` in the lanes of
    the head that owns lane `l`, the staged values of that lane are `v`, and row 128 holds ones. -/
theorem block_at (x0 : Vec Ideal S1024x128 .bf16) (x1 : Vec Ideal S2048x128 .bf16) (x2 : Vec Ideal S1x144x2048 .bf16)
    (r : Fin 1024) (l : Fin 128) (x : Fin 2048 → ℝ) (v : Fin 2048 → EReal)
    (hs : ∀ kk : Fin 2048, (∑ d : Fin 64, x1 (ix2 kk ⟨(l : ℕ) / 64 * 64 + d, by omega⟩) * x0 (ix2 r ⟨(l : ℕ) / 64 * 64 + d, by omega⟩) : EReal)
      = ((x kk / Real.log 2 : ℝ) : EReal))
    (hv : ∀ kk : Fin 2048, x2 (ix3 0 ⟨l, by omega⟩ kk) = v kk) (h1 : ∀ kk : Fin 2048, x2 (ix3 0 128 kk) = (1 : EReal)) :
    out0_3 x0 x1 x2 (ix2 r l) = attn x v := by
  obtain ⟨q, hq⟩ : ∃ q : Fin 2048, (q : ℕ) = if (l : ℕ) < 64 then (r : ℕ) else 1024 + r :=
    ⟨⟨if (l : ℕ) < 64 then (r : ℕ) else 1024 + r, by split <;> omega⟩, rfl⟩
  have hsc : ∀ (c : Fin 8) (t : Fin 256), score x0 x1 c (ix2 t q) = ((x ⟨c * 256 + t, by omega⟩ / Real.log 2 : ℝ) : EReal) := by
    intro c t
    rw [← hs ⟨c * 256 + t, by omega⟩]
    by_cases h : (l : ℕ) < 64
    · refine (score_lo _ _ t r q (by rw [hq, if_pos h])).trans (Finset.sum_congr rfl fun d _ => ?_)
      rw [keys_at, qry_at]
      have e : (⟨(l : ℕ) / 64 * 64 + d, by omega⟩ : Fin 128) = ⟨d, by omega⟩ := Fin.ext (by show (l : ℕ) / 64 * 64 + (d : ℕ) = d; omega)
      rw [e]
    · refine (score_hi _ _ t r q (by rw [hq, if_neg h])).trans (Finset.sum_congr rfl fun d _ => ?_)
      rw [keys_at, qry_at]
      have e : (⟨(l : ℕ) / 64 * 64 + d, by omega⟩ : Fin 128) = ⟨64 + d, by omega⟩ := Fin.ext (by show (l : ℕ) / 64 * 64 + (d : ℕ) = 64 + d; omega)
      rw [e]
  rw [out_eq]
  refine (pay_at _ _ r l q hq).trans ?_
  have eM : (fun c => k0_pay14 (score x0 x1 c) (ix2 0 q))
      = fun c : Fin 8 => Finset.univ.fold max (⊥ : EReal) fun t : Fin 256 => ((x ⟨c * 256 + t, by omega⟩ / Real.log 2 : ℝ) : EReal) := by
    funext c
    rw [max_at]
    exact congrArg (fun f => Finset.univ.fold max (⊥ : EReal) f) (funext fun t => hsc c t)
  have eO : ∀ j : Fin 144, (fun c => k0_pay12 (k0_pay15 (score x0 x1 c)) (vals x2 c) (ix2 j q))
      = fun c : Fin 8 => chunkO (fun t : Fin 256 => ((x ⟨c * 256 + t, by omega⟩ / Real.log 2 : ℝ) : EReal)) fun t => x2 (ix3 0 j ⟨c * 256 + t, by omega⟩) := by
    intro j
    funext c
    rw [out_at]
    exact congrArg₂ chunkO (funext fun t => hsc c t) (funext fun t => vals_at x2 c j t)
  simp only [eM, eO, hv, h1]
  exact merge8_div x v _ _ (fun _ _ => rfl) (fun _ _ => rfl)

end Cert.GqaIdeal.Block

end
-- ==== Proof.GqaValue.lean ====
/- What the grouped-query attention kernel's output array holds: softmax attention of every query row, head and lane. -/
module

public import proofs.«01_k».proof.Proof.Gen.GqaIdeal.Value
public import proofs.«01_k».proof.Proof.GqaBlock2
import Idealize.ShloMosaic.Lib.Pipeline.ValueKit

@[expose] public section

set_option maxRecDepth 16384

noncomputable section

namespace Cert.GqaIdeal.Block

open Cert.GqaIdeal Cert.GqaIdeal.Gen Idealize.ShloMosaic Cert.Attn
open Idealize.ShloMosaic.TcCoe

/-- Grouped-query attention of the three argument arrays at batch `b`, query `s`, head `j` of group `h`, lane `d`. -/
def gqa (q : FVec Ideal S16x2048x2x4x64 .f32) (k v : FVec Ideal S16x2048x2x64 .f32) (b : Fin 16) (s : Fin 2048) (h : Fin 2) (j : Fin 4) (d : Fin 64) : EReal :=
  attn (fun kk : Fin 2048 => dotS (1 / 8) (fun d' : Fin 64 => q (ix5 b s h j d')) (fun d' : Fin 64 => k (ix4 b kk h d'))) (fun kk => v (ix4 b kk h d))

/-- The output array: row `b * 2048 + s`, column `j * 128 + h * 64 + d`. -/
def G (q : FVec Ideal S16x2048x2x4x64 .f32) (k v : FVec Ideal S16x2048x2x64 .f32) : FVec Ideal S32768x512 .bf16 := fun i =>
  gqa q k v ⟨(i 0 : ℕ) / 2048, by have : (i 0 : ℕ) < 32768 := (i 0).isLt; omega⟩ ⟨(i 0 : ℕ) % 2048, by omega⟩ ⟨(i 1 : ℕ) / 64 % 2, by omega⟩
    ⟨(i 1 : ℕ) / 128, by have : (i 1 : ℕ) < 512 := (i 1).isLt; omega⟩ ⟨(i 1 : ℕ) % 64, by omega⟩

variable (m : (ℓ : Loc nD τ sig) → Buf (Elt Ideal) ℓ) (c : Dev nD)

/-- The argument arrays. -/
abbrev aq : FVec Ideal S16x2048x2x4x64 .f32 := m ((c : Thread nD τ).loc main_arg0)
abbrev ak : FVec Ideal S16x2048x2x64 .f32 := m ((c : Thread nD τ).loc main_arg1)
abbrev av : FVec Ideal S16x2048x2x64 .f32 := m ((c : Thread nD τ).loc main_arg2)

/-- Each window's block at grid point `t`: batch `t / 8`, query half `t / 4 % 2`, head pair `t % 4`. -/
theorem idx : ∀ t : Fin cfg0.N, win0_0.index t = ![(t : ℕ) / 4, (t : ℕ) % 4] ∧ win0_1.index t = ![(t : ℕ) / 8, 0]
    ∧ win0_2.index t = ![(t : ℕ) / 8, 0, 0] ∧ win0_3.index t = ![(t : ℕ) / 4, (t : ℕ) % 4] :=
  (by decide +kernel : ∀ t : Fin grid0.N, _)

/-- The grid has 128 points. -/
theorem N_lt (t : Fin cfg0.N) : (t : ℕ) < 128 := lt_of_lt_of_eq t.isLt (by decide +kernel : grid0.N = 128)

/-- The staged values array: 128 rows of values, then ones. -/
theorem va_at (b : Fin 16) (l : Fin 128) (kk : Fin 2048) :
    V m c main_v14 (ix3 b ⟨l, by omega⟩ kk) = av m c (ix4 b kk ⟨(l : ℕ) / 64, by omega⟩ ⟨(l : ℕ) % 64, by omega⟩) := by
  entry_read
  pointwise

/-- The staged values array's row of ones. -/
theorem va_one (b : Fin 16) (kk : Fin 2048) : V m c main_v14 (ix3 b 128 kk) = (1 : EReal) := by
  entry_read
  pointwise

/-- The staged queries at point `t`: scaled by an eighth, over `log 2`. -/
theorem q_blk (t : Fin cfg0.N) (r : Fin 1024) (l : Fin 128) :
    iblk m c 0 t (ix2 r l)
      = Ideal.div (aq m c (ix5 ⟨(t : ℕ) / 8, by have := N_lt t; omega⟩ ⟨(t : ℕ) / 4 % 2 * 1024 + r, by omega⟩
            ⟨(l : ℕ) / 64, by omega⟩ ⟨(t : ℕ) % 4, by omega⟩ ⟨(l : ℕ) % 64, by omega⟩) * Ideal.ofBits .f32 0x3E000000#32)
          (Ideal.log (Ideal.ofBits .f32 0x40000000#32)) := by
  have ht := N_lt t
  blk_simp [iblk, idx t]
  entry_read
  pointwise
  blk_point [idx t]

/-- The staged keys at point `t`. -/
theorem k_blk (t : Fin cfg0.N) (kk : Fin 2048) (l : Fin 128) :
    iblk m c 1 t (ix2 kk l) = ak m c (ix4 ⟨(t : ℕ) / 8, by have := N_lt t; omega⟩ kk ⟨(l : ℕ) / 64, by omega⟩ ⟨(l : ℕ) % 64, by omega⟩) := by
  have ht := N_lt t
  blk_simp [iblk, idx t]
  entry_read
  pointwise
  blk_point [idx t]

/-- The staged values at point `t`. -/
theorem v_blk (t : Fin cfg0.N) (l : Fin 128) (kk : Fin 2048) :
    iblk m c 2 t (ix3 0 ⟨l, by omega⟩ kk) = av m c (ix4 ⟨(t : ℕ) / 8, by have := N_lt t; omega⟩ kk ⟨(l : ℕ) / 64, by omega⟩ ⟨(l : ℕ) % 64, by omega⟩) := by
  have ht := N_lt t
  refine Eq.trans ?_ (va_at m c ⟨(t : ℕ) / 8, by omega⟩ l kk)
  blk_simp [iblk]
  blk_ext [idx t]

/-- The staged row of ones at point `t`. -/
theorem one_blk (t : Fin cfg0.N) (kk : Fin 2048) : iblk m c 2 t (ix3 0 128 kk) = (1 : EReal) := by
  have ht := N_lt t
  refine Eq.trans ?_ (va_one m c ⟨(t : ℕ) / 8, by omega⟩ kk)
  blk_simp [iblk]
  blk_ext [idx t]

/-- What grid point `t` stores at row `r`, lane `l`. -/
theorem point (hq : ∀ i, Fin' (aq m c i)) (hk : ∀ i, Fin' (ak m c i)) (t : Fin cfg0.N) (r : Fin 1024) (l : Fin 128) :
    out0_3 (iblk m c 0 t) (iblk m c 1 t) (iblk m c 2 t) (ix2 r l)
      = gqa (aq m c) (ak m c) (av m c) ⟨(t : ℕ) / 8, by have := N_lt t; omega⟩ ⟨(t : ℕ) / 4 % 2 * 1024 + r, by omega⟩
          ⟨(l : ℕ) / 64, by omega⟩ ⟨(t : ℕ) % 4, by omega⟩ ⟨(l : ℕ) % 64, by omega⟩ := by
  refine block_at _ _ _ r l _ _ (fun kk => ?_) (fun kk => v_blk m c t l kk) (fun kk => one_blk m c t kk)
  rw [← score_in (1 / 8) _ ofBits_eighth _ _ (fun d => hq _) (fun d => hk _)]
  refine Finset.sum_congr rfl fun d _ => ?_
  rw [k_blk m c t, q_blk m c t]
  have e1 : (⟨((l : ℕ) / 64 * 64 + (d : ℕ)) / 64, by omega⟩ : Fin 2) = ⟨(l : ℕ) / 64, by omega⟩ := Fin.ext (by show ((l : ℕ) / 64 * 64 + (d : ℕ)) / 64 = (l : ℕ) / 64; omega)
  have e2 : (⟨((l : ℕ) / 64 * 64 + (d : ℕ)) % 64, by omega⟩ : Fin 64) = d := Fin.ext (by show ((l : ℕ) / 64 * 64 + (d : ℕ)) % 64 = d; omega)
  simp only [e1, e2]

/-- THE OUTPUT ARRAY after the run. -/
theorem final (hq : ∀ i, Fin' (aq m c i)) (hk : ∀ i, Fin' (ak m c i)) :
    (dats m 0 c).arrAt 3 cfg0.N = G (aq m c) (ak m c) (av m c) := by
  refine (dats m 0 c).arrAt_eq_of_covers 3 _ (by decide +kernel) fun t _ y => ?_
  have ht := N_lt t
  blk_simp
  rw [after0_3]
  idx_vars y
  refine (point m c hq hk t y0 y1).trans ?_
  unfold G
  congr 1 <;> (refine Fin.ext ?_; blk_simp [idx t]; dsimp only; omega)

end Cert.GqaIdeal.Block

end
-- ==== Proof.GqaRef.lean ====
/- What the grouped-query attention reference computes: softmax attention of every query row, head and lane. -/
module

public import proofs.«01_k».proof.Proof.Gen.GqaRefIdeal.Run
public import proofs.«01_k».proof.Proof.GqaValue

@[expose] public section

set_option maxRecDepth 16384

noncomputable section

namespace Cert.GqaRefIdeal.Block

open Cert.GqaRefIdeal Cert.GqaRefIdeal.Gen Idealize.ShloMosaic Cert.Attn
open Idealize.ShloMosaic.TcCoe

/-- The scaled scores. -/
def SC (q : FVec Ideal S16x2048x2x4x64 .f32) (k : FVec Ideal S16x2048x2x64 .f32) : FVec Ideal S16x2x4x2048x2048 .f32 :=
  mulf (transpose S16x2x4x2048x2048 [0, 1, 4, 3, 2] (Host.dotGeneral dot_S16x2048x2x64_S16x2048x2x4x64_S16x2x2048x2048x4_3_4_1_13_02_02 none k q) transposes_S16x2x2048x2048x4_S16x2x4x2048x2048_0_1_4_3_2) (broadcastInDim S16x2x4x2048x2048 ![] bcast_S_S16x2x4x2048x2048 (constant S_ .f32 0x3E000000#32))

/-- The maximum of each query's scores. -/
def MR (x : FVec Ideal S16x2x4x2048x2048 .f32) : FVec Ideal S16x2x4x2048 .f32 :=
  Host.reduce FloatOps.maximumf x (constant S_ .f32 0xFF800000#32) reducesTo_S16x2x4x2048x2048_S16x2x4x2048_d4 h_S_

/-- Each query's shift: the maximum of its scores and minus infinity. -/
def MX (x : FVec Ideal S16x2x4x2048x2048 .f32) : FVec Ideal S16x2x4x2048 .f32 :=
  maximumf (broadcastInDim S16x2x4x2048 ![] bcast_S_S16x2x4x2048 (constant S_ .f32 0xFF800000#32)) (MR x)

/-- A value a query repeated along its keys. -/
def RP (a : FVec Ideal S16x2x4x2048 .f32) : FVec Ideal S16x2x4x2048x2048 .f32 :=
  broadcastInDim S16x2x4x2048x2048 ![0, 1, 2, 3, 4] bcast_S16x2x4x2048x1_S16x2x4x2048x2048_0_1_2_3_4 (broadcastInDim S16x2x4x2048x1 ![0, 1, 2, 3] bcast_S16x2x4x2048_S16x2x4x2048x1_0_1_2_3 a)

/-- Each query's sum along its keys. -/
def SU (e : FVec Ideal S16x2x4x2048x2048 .f32) : FVec Ideal S16x2x4x2048 .f32 :=
  Host.reduceAdd e (constant S_ .f32 0x00000000#32) reducesTo_S16x2x4x2048x2048_S16x2x4x2048_d4 h_S_

/-- The exponentials of the shifted scores. -/
def EX (x : FVec Ideal S16x2x4x2048x2048 .f32) : FVec Ideal S16x2x4x2048x2048 .f32 := Host.exp (subf x (RP (MX x)))

/-- The weights. -/
def PR (e : FVec Ideal S16x2x4x2048x2048 .f32) : FVec Ideal S16x2x4x2048x2048 .f32 := Host.divf e (RP (SU e))

/-- The weighted values, laid out as rows and columns. -/
def OU (v : FVec Ideal S16x2048x2x64 .f32) (p : FVec Ideal S16x2x4x2048x2048 .f32) : FVec Ideal S32768x512 .bf16 :=
  truncf .bf16 (shapeCast _ (transpose S16x2048x4x2x64 [0, 1, 3, 2, 4] (transpose S16x2048x2x4x64 [0, 4, 1, 3, 2] (Host.dotGeneral dot_S16x2048x2x64_S16x2x4x2048x2048_S16x2x64x4x2048_1_4_3_23_02_01 none v p) transposes_S16x2x64x4x2048_S16x2048x2x4x64_0_4_1_3_2) transposes_S16x2048x2x4x64_S16x2048x4x2x64_0_1_3_2_4) shapeCasts_S16x2048x4x2x64_S32768x512) bitsLt_bf16_f32

theorem SC_at (q : FVec Ideal S16x2048x2x4x64 .f32) (k : FVec Ideal S16x2048x2x64 .f32) (b : Fin 16) (h : Fin 2) (j : Fin 4) (s kk : Fin 2048) :
    SC q k (ix5 b h j s kk) = (∑ d : Fin 64, k (ix4 b kk h d) * q (ix5 b s h j d)) * Ideal.ofBits .f32 0x3E000000#32 := by
  pointwise [SC]

theorem MR_at (x : FVec Ideal S16x2x4x2048x2048 .f32) (b : Fin 16) (h : Fin 2) (j : Fin 4) (s : Fin 2048) :
    MR x (ix4 b h j s) = Finset.univ.fold max (Ideal.ofBits .f32 0xFF800000#32) fun kk : Fin 2048 => x (ix5 b h j s kk) := by
  pointwise [MR]

/-- The shift at one query, from the maximum there. -/
theorem shift_at (a : FVec Ideal S16x2x4x2048 .f32) (i : S16x2x4x2048.Idx) :
    maximumf (broadcastInDim S16x2x4x2048 ![] bcast_S_S16x2x4x2048 (constant S_ .f32 0xFF800000#32)) a i = max (Ideal.ofBits .f32 0xFF800000#32) (a i) := rfl

theorem MX_at (x : FVec Ideal S16x2x4x2048x2048 .f32) (b : Fin 16) (h : Fin 2) (j : Fin 4) (s : Fin 2048) :
    MX x (ix4 b h j s) = max (Ideal.ofBits .f32 0xFF800000#32) (Finset.univ.fold max (Ideal.ofBits .f32 0xFF800000#32) fun kk : Fin 2048 => x (ix5 b h j s kk)) := by
  exact (shift_at (MR x) _).trans (congrArg _ (MR_at x b h j s))

theorem RP_at (a : FVec Ideal S16x2x4x2048 .f32) (b : Fin 16) (h : Fin 2) (j : Fin 4) (s kk : Fin 2048) : RP a (ix5 b h j s kk) = a (ix4 b h j s) := by
  pointwise [RP]

theorem SU_at (e : FVec Ideal S16x2x4x2048x2048 .f32) (b : Fin 16) (h : Fin 2) (j : Fin 4) (s : Fin 2048) :
    SU e (ix4 b h j s) = ∑ kk : Fin 2048, e (ix5 b h j s kk) := by
  pointwise [SU]

theorem EX_at (x : FVec Ideal S16x2x4x2048x2048 .f32) (b : Fin 16) (h : Fin 2) (j : Fin 4) (s kk : Fin 2048) :
    EX x (ix5 b h j s kk) = Ideal.exp (x (ix5 b h j s kk) - RP (MX x) (ix5 b h j s kk)) := rfl

theorem PR_at (e : FVec Ideal S16x2x4x2048x2048 .f32) (b : Fin 16) (h : Fin 2) (j : Fin 4) (s kk : Fin 2048) :
    PR e (ix5 b h j s kk) = Ideal.div (e (ix5 b h j s kk)) (RP (SU e) (ix5 b h j s kk)) := rfl

theorem OU_at (v : FVec Ideal S16x2048x2x64 .f32) (p : FVec Ideal S16x2x4x2048x2048 .f32) (i0 : Fin 32768) (i1 : Fin 512) :
    OU v p (ix2 i0 i1) = ∑ kk : Fin 2048, v (ix4 ⟨(i0 : ℕ) / 2048, by omega⟩ kk ⟨(i1 : ℕ) / 64 % 2, by omega⟩ ⟨(i1 : ℕ) % 64, by omega⟩)
      * p (ix5 ⟨(i0 : ℕ) / 2048, by omega⟩ ⟨(i1 : ℕ) / 64 % 2, by omega⟩ ⟨(i1 : ℕ) / 128, by omega⟩ ⟨(i0 : ℕ) % 2048, by omega⟩ kk) := by
  pointwise [OU]

/-- The reference's operations composed, over its three argument arrays. -/
def REF (q : FVec Ideal S16x2048x2x4x64 .f32) (k v : FVec Ideal S16x2048x2x64 .f32) : FVec Ideal S32768x512 .bf16 := OU v (PR (EX (SC q k)))

/-- The composed operations are softmax attention, once the queries and keys are finite. -/
theorem ref_eq (q : FVec Ideal S16x2048x2x4x64 .f32) (k v : FVec Ideal S16x2048x2x64 .f32) (hq : ∀ i, Fin' (q i)) (hk : ∀ i, Fin' (k i)) :
    REF q k v = Cert.GqaIdeal.Block.G q k v := by
  funext i
  idx_vars i
  have hs : ∀ (b : Fin 16) (h : Fin 2) (j : Fin 4) (s kk : Fin 2048), SC q k (ix5 b h j s kk)
      = ((dotS (1 / 8) (fun d : Fin 64 => q (ix5 b s h j d)) (fun d : Fin 64 => k (ix4 b kk h d)) : ℝ) : EReal) := fun b h j s kk =>
    (SC_at q k b h j s kk).trans (score_out (1 / 8) _ ofBits_eighth (fun d : Fin 64 => q (ix5 b s h j d)) (fun d : Fin 64 => k (ix4 b kk h d)) (fun d => hq _) fun d => hk _)
  refine (OU_at v _ i0 i1).trans ?_
  simp only [PR_at, RP_at, SU_at, EX_at, MX_at, hs]
  exact attn_ref _ _

variable (m : (ℓ : Loc nD τ sig) → Buf (Elt Ideal) ℓ) (ρ : Dev nD → PrngReg)

/-- The reference's run. -/
theorem run : θ_run defs (onTc (τ := τ) (main (F := Ideal))) ⟨m, fun _ => 0, ρ⟩ fun r => ∀ c : Dev nD,
      r.2.mem ((c : Thread nD τ).loc main_v19) = REF (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  Cert.GqaRefIdeal.Value.run m ρ

end Cert.GqaRefIdeal.Block

end
-- ==== Proof.AttnFinite.lean ====
/- The finiteness test read: an absolute value below plus infinity belongs to a finite extended real. -/
module

public import proofs.«01_k».proof.Proof.Attn
public import Idealize.ShloMosaic.Lib.ReduceAll
public import Idealize.ShloMosaic.Lib.Affine

@[expose] public section

noncomputable section

namespace Cert.Attn

open Idealize.ShloMosaic

instance : Subsingleton (Shape.Idx ⟨0, ![]⟩) := ⟨fun a b => funext fun i => i.elim0⟩

/-- An element whose absolute value compares below plus infinity is finite. -/
theorem fin_of_cmp {a : EReal} (h : FloatOps.cmpf (F := Ideal) (φ := .f32) .olt (FloatOps.hostAbsf (F := Ideal) (φ := .f32) a) (FloatOps.ofBits (F := Ideal) .f32 0x7F800000#32) = 1#1) :
    Fin' a := by
  have e : FloatOps.ofBits (F := Ideal) .f32 0x7F800000#32 = (⊤ : EReal) := ofBits_posInf
  rw [e] at h
  refine ⟨?_, ?_⟩
  · rintro rfl
    revert h
    simp [FloatOps.cmpf, FloatOps.hostAbsf, Ideal.cmp]
  · rintro rfl
    revert h
    simp [FloatOps.cmpf, FloatOps.hostAbsf, Ideal.cmp]

end Cert.Attn

end
-- ==== Proof.GqaPre.lean ====
/- The precondition of the grouped-query attention claim read: every query and key is finite. -/
module

public import proofs.«01_k».proof.Proof.Gen.Pre_gqa_finite
public import proofs.«01_k».proof.Proof.AttnFinite

@[expose] public section

noncomputable section

namespace Cert.Pre_gqa_finite.Read

open Cert.Pre_gqa_finite Cert.Pre_gqa_finite.Gen Idealize.ShloMosaic Cert.Attn

/-- The precondition makes every query and every key finite. -/
theorem finite (q : FVec Ideal S16x2048x2x4x64 .f32) (k v : FVec Ideal S16x2048x2x64 .f32) (h : fn (F := Ideal) q k v = fun _ => 1#1) :
    (∀ i, Fin' (q i)) ∧ ∀ i, Fin' (k i) := by
  obtain ⟨h1, h2⟩ := IntOp.andi_eq_one.1 (congrFun h ix0)
  exact ⟨fun i => fin_of_cmp (Host.reduce_andi_all _ _ _ _ _ h1 i), fun i => fin_of_cmp (Host.reduce_andi_all _ _ _ _ _ h2 i)⟩

end Cert.Pre_gqa_finite.Read

end
-- ==== Proof.GqaClaim.lean ====
/- The grouped-query attention claims: both programs' frames and the equality of their results over the reals. -/
module

public import proofs.«01_k».proof.Defs
public import proofs.«01_k».proof.Proof.Gen.Gqa.Frame
public import proofs.«01_k».proof.Proof.GqaRef
public import proofs.«01_k».proof.Proof.GqaPre
public import Idealize.ShloMosaic.Lib.Quiescent

@[expose] public section

noncomputable section

namespace Cert.Proof.Gqa

open Idealize.ShloMosaic Idealize.ShloMosaic.TcCoe

/-- The kernel runs, leaves its arguments unchanged and every counter at zero. -/
theorem frame_p : Cert.quiescent_Gqa := fun m ρ _ => Cert.Gqa.Gen.frame m ρ

/-- The idealized kernel runs, leaves its arguments unchanged and every counter at zero. -/
theorem frame_pi : Cert.quiescent_GqaIdeal := fun m ρ _ => Cert.GqaIdeal.Gen.frame m ρ

/-- The same, from the memories of the value claim. -/
theorem frame_pi_pre : Cert.quiescent_GqaIdeal_pre_gqa_finite := fun m ρ _ => Cert.GqaIdeal.Gen.frame m ρ

/-- The idealized reference's run with its counters: it declares no semaphore. -/
theorem ref_run (m : (ℓ : Loc Cert.GqaRefIdeal.nD Cert.GqaRefIdeal.τ Cert.GqaRefIdeal.sig) → Buf (Elt Ideal) ℓ) (ρ : Dev Cert.GqaRefIdeal.nD → PrngReg) :
    θ_run (Cert.GqaRefIdeal.defs (F := Ideal)) (onTc (τ := Cert.GqaRefIdeal.τ) (Cert.GqaRefIdeal.main (F := Ideal))) ⟨m, fun _ => 0, ρ⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0) :=
  (θ_run Cert.GqaRefIdeal.defs _ _).mono (fun r h => ⟨fun c => (h c).2, sem_eq_zero_of_no_sems (by decide) r.2⟩) (Cert.GqaRefIdeal.Block.run m ρ)

/-- The idealized reference runs, leaves its arguments unchanged and every counter at zero. -/
theorem frame_ri : Cert.quiescent_GqaRefIdeal := fun m ρ _ => ref_run m ρ

/-- The same, from the memories of the value claim. -/
theorem frame_ri_pre : Cert.quiescent_GqaRefIdeal_pre_gqa_finite := fun m ρ _ => ref_run m ρ

/-- The idealized kernel and the idealized reference end with the same result: softmax attention of the arguments. -/
theorem value : Cert.algebraic_GqaIdeal_GqaRefIdeal_pre_gqa_finite := by
  intro m ρ m' ρ' hpre hag
  have hf := fun c : Dev Cert.GqaIdeal.nD => Cert.Pre_gqa_finite.Read.finite _ _ _ (hpre c)
  refine ⟨fun c => Cert.GqaIdeal.Block.G (Cert.GqaIdeal.Block.aq m c) (Cert.GqaIdeal.Block.ak m c) (Cert.GqaIdeal.Block.av m c), ?_, ?_⟩
  · refine (θ_run Cert.GqaIdeal.defs _ _).mono (fun r h c => ⟨(h c).1.trans ?_, (h c).2⟩) (Cert.GqaIdeal.Value.run_blocks m ρ)
    exact Cert.GqaIdeal.Block.final m c (hf c).1 (hf c).2
  · refine (θ_run Cert.GqaRefIdeal.defs _ _).mono (fun r h c => ⟨(h c).1.trans ?_, (h c).2⟩) (Cert.GqaRefIdeal.Block.run m' ρ')
    obtain ⟨h0, h1, h2⟩ := hag c
    rw [h0, h1, h2]
    exact Cert.GqaRefIdeal.Block.ref_eq _ _ _ (hf c).1 (hf c).2

end Cert.Proof.Gqa

end
-- ==== Proof.MlaBlock.lean ====
/- What the latent attention body stores, read at one element: softmax attention of one query row. -/
module

public import proofs.«01_k».proof.Proof.Gen.MlaIdeal.Skeleton
public import proofs.«01_k».proof.Proof.Attn

@[expose] public section

set_option maxRecDepth 16384

noncomputable section

namespace Cert.MlaIdeal.Block

open Cert.MlaIdeal Cert.MlaIdeal.Gen Idealize.ShloMosaic Cert.Attn

/-- A block of scores' maximum over its keys, at query column `q`. -/
theorem max_at (s : FVec Ideal S256x2048 .f32) (q : Fin 2048) :
    k0_pay21 s (ix2 0 q) = Finset.univ.fold max (⊥ : EReal) fun t : Fin 256 => s (ix2 t q) := by
  pointwise [k0_pay21]
  rw [ofBits_negInf]

/-- A block's partial output at value row `l`, query column `q`. -/
theorem out_at (s : FVec Ideal S256x2048 .f32) (v : Vec Ideal S1x144x256 .bf16) (l : Fin 144) (q : Fin 2048) :
    k0_pay15 (k0_pay22 s) v (ix2 l q) = chunkO (fun t : Fin 256 => s (ix2 t q)) (fun t => v (ix3 0 l t)) := by
  pointwise [k0_pay15, k0_pay22]
  rw [max_at, chunkO, zero_add]
  rfl

/-- The lane test: lane `n` is below 64. -/
theorem lane_lo : ∀ n : Fin 128, (n : ℕ) < 64 → IntOp.cmpi .slt (BitVec.ofNat 32 (n : ℕ)) 64#32 = 1#1 := by decide +kernel

/-- The lane test: lane `n` is not below 64. -/
theorem lane_hi : ∀ n : Fin 128, ¬ (n : ℕ) < 64 → IntOp.cmpi .slt (BitVec.ofNat 32 (n : ℕ)) 64#32 = 0#1 := by decide +kernel

/-- A block's score of key `t` against the query row `r` of the pair's first head. -/
theorem score_lo (P0 P1 : Vec Ideal S1024x128 .bf16) (K0 K1 : Vec Ideal S256x128 .bf16) (t : Fin 256) (r : Fin 1024) (q : Fin 2048) (hq : (q : ℕ) = r) :
    k0_pay12 (k0_pay1 P0) (k0_pay2 P1) K0 K1 (ix2 t q) = ∑ d : Fin 128, K0 (ix2 t d) * P0 (ix2 r d) := by
  have hr0 : (r : ℕ) < 2048 := lt_trans r.isLt (by norm_num)
  have e : q = ⟨r, hr0⟩ := Fin.ext hq
  subst e; clear hq
  pointwise [k0_pay12, k0_pay1, k0_pay2]

/-- A block's score of key `t` against the query row `r` of the pair's second head. -/
theorem score_hi (P0 P1 : Vec Ideal S1024x128 .bf16) (K0 K1 : Vec Ideal S256x128 .bf16) (t : Fin 256) (r : Fin 1024) (q : Fin 2048) (hq : (q : ℕ) = 1024 + r) :
    k0_pay12 (k0_pay1 P0) (k0_pay2 P1) K0 K1 (ix2 t q) = ∑ d : Fin 128, K1 (ix2 t d) * P1 (ix2 r d) := by
  have hr1 : 1024 + (r : ℕ) < 2048 := Nat.add_lt_add_left r.isLt 1024
  have e : q = ⟨1024 + r, hr1⟩ := Fin.ext hq
  subst e; clear hq
  pointwise [k0_pay12, k0_pay1, k0_pay2]

/-- The maximum of eight rows. -/
def mx8 (a b c d e f g h : FVec Ideal S1x2048 .f32) : FVec Ideal S1x2048 .f32 :=
  maximumf (maximumf (maximumf (maximumf (maximumf (maximumf (maximumf a b) c) d) e) f) g) h

/-- The common maximum of the eight blocks' maxima. -/
def mx (M : Fin 8 → FVec Ideal S1x2048 .f32) : FVec Ideal S1x2048 .f32 :=
  mx8 (M 0) (M 1) (M 2) (M 3) (M 4) (M 5) (M 6) (M 7)

/-- The common maximum at a query's column. -/
theorem mx_at (M : Fin 8 → FVec Ideal S1x2048 .f32) (q : Fin 2048) : mx M (ix2 0 q) = max8 fun c => M c (ix2 0 q) := rfl

/-- The first four blocks' partial outputs under the common maximum. -/
theorem half_at (M : Fin 8 → FVec Ideal S1x2048 .f32) (O : Fin 8 → FVec Ideal S144x2048 .f32) (X : FVec Ideal S1x2048 .f32) (l : Fin 144) (q : Fin 2048) :
    k0_pay36 (M 0) (M 1) (M 2) (O 0) (M 3) (O 1) (O 2) (O 3) X (ix2 l q)
      = O 0 (ix2 l q) * Ideal.exp2 (M 0 (ix2 0 q) - X (ix2 0 q)) + O 1 (ix2 l q) * Ideal.exp2 (M 1 (ix2 0 q) - X (ix2 0 q))
        + O 2 (ix2 l q) * Ideal.exp2 (M 2 (ix2 0 q) - X (ix2 0 q)) + O 3 (ix2 l q) * Ideal.exp2 (M 3 (ix2 0 q) - X (ix2 0 q)) := by
  pointwise [k0_pay36]
  rfl

/-- The merge of the eight blocks' maxima and partial outputs, as the body spells it. -/
def pay (M : Fin 8 → FVec Ideal S1x2048 .f32) (O : Fin 8 → FVec Ideal S144x2048 .f32) : FVec Ideal S1024x128 .bf16 :=
  k0_pay37 (M 4) (M 5) (M 6) (O 4) (M 7) (O 5) (O 6) (O 7) (mx M) (k0_pay36 (M 0) (M 1) (M 2) (O 0) (M 3) (O 1) (O 2) (O 3) (mx M))

set_option maxHeartbeats 1000000 in
/-- The merge at query row `r` and lane `l`: the pair's first head in the first 64 lanes, the second in the rest. -/
theorem pay_at (M : Fin 8 → FVec Ideal S1x2048 .f32) (O : Fin 8 → FVec Ideal S144x2048 .f32) (r : Fin 1024) (l : Fin 128)
    (q : Fin 2048) (hq : (q : ℕ) = if (l : ℕ) < 64 then (r : ℕ) else 1024 + r) :
    pay M O (ix2 r l) = Ideal.div (merge8 (fun c => M c (ix2 0 q)) (fun c => O c (ix2 ⟨l, by omega⟩ q)))
      (merge8 (fun c => M c (ix2 0 q)) (fun c => O c (ix2 128 q))) := by
  have hr0 : (r : ℕ) < 2048 := lt_trans r.isLt (by norm_num)
  have hr1 : 1024 + (r : ℕ) < 2048 := Nat.add_lt_add_left r.isLt 1024
  by_cases h : (l : ℕ) < 64
  · have e : q = ⟨r, hr0⟩ := Fin.ext (by rw [hq, if_pos h])
    subst e; clear hq
    unfold pay
    pointwise [k0_pay37]
    rw [lane_lo l h]
    simp only [half_at, mx_at]
    rfl
  · have e : q = ⟨1024 + r, hr1⟩ := Fin.ext (by rw [hq, if_neg h])
    subst e; clear hq
    unfold pay
    pointwise [k0_pay37]
    rw [lane_hi l h]
    simp only [half_at, mx_at]
    rfl

end Cert.MlaIdeal.Block

end
-- ==== Proof.MlaBlock2.lean ====
/- What the latent attention body stores at one element, from the blocks its windows stage. -/
module

public import proofs.«01_k».proof.Proof.Gen.MlaIdeal.Value
public import proofs.«01_k».proof.Proof.MlaBlock
import Idealize.ShloMosaic.Lib.Pipeline.ValueKit

@[expose] public section

set_option maxRecDepth 16384

noncomputable section

namespace Cert.MlaIdeal.Block

open Cert.MlaIdeal Cert.MlaIdeal.Gen Idealize.ShloMosaic Cert.Attn

/-- The eight blocks of 256 keys of the pair's first head, as the body loads them. -/
def keys0 (x1 : Vec Ideal S2048x256 .bf16) : Fin 8 → Vec Ideal S256x128 .bf16 :=
  ![View.ld x1 r0_2, View.ld x1 r0_4, View.ld x1 r0_6, View.ld x1 r0_8, View.ld x1 r0_11, View.ld x1 r0_14, View.ld x1 r0_17, View.ld x1 r0_20]

/-- The eight blocks of 256 keys of the pair's second head, as the body loads them. -/
def keys1 (x1 : Vec Ideal S2048x256 .bf16) : Fin 8 → Vec Ideal S256x128 .bf16 :=
  ![View.ld x1 r0_3, View.ld x1 r0_5, View.ld x1 r0_7, View.ld x1 r0_9, View.ld x1 r0_12, View.ld x1 r0_15, View.ld x1 r0_18, View.ld x1 r0_21]

/-- The eight blocks of 256 values the body loads from its staged values. -/
def vals (x2 : Vec Ideal S1x144x2048 .bf16) : Fin 8 → Vec Ideal S1x144x256 .bf16 :=
  ![View.ld x2 r0_10, View.ld x2 r0_13, View.ld x2 r0_16, View.ld x2 r0_19, View.ld x2 r0_22, View.ld x2 r0_23, View.ld x2 r0_24, View.ld x2 r0_25]

/-- Key `t` of block `c` of the first head is staged key `256 c + t`, its first 128 lanes. -/
theorem keys0_at (x1 : Vec Ideal S2048x256 .bf16) (c : Fin 8) (t : Fin 256) (d : Fin 128) :
    keys0 x1 c (ix2 t d) = x1 (ix2 ⟨c * 256 + t, by omega⟩ ⟨d, by omega⟩) := by
  fin_cases c
  all_goals
    refine congrArg x1 (funext fun a => Fin.ext ?_)
    match a with
    | ⟨0, _⟩ => show _ + 1 * (t : ℕ) = _ * 256 + (t : ℕ); norm_num
    | ⟨1, _⟩ => show 0 + 1 * (d : ℕ) = d; omega

/-- Key `t` of block `c` of the second head is staged key `256 c + t`, its last 128 lanes. -/
theorem keys1_at (x1 : Vec Ideal S2048x256 .bf16) (c : Fin 8) (t : Fin 256) (d : Fin 128) :
    keys1 x1 c (ix2 t d) = x1 (ix2 ⟨c * 256 + t, by omega⟩ ⟨128 + d, by omega⟩) := by
  fin_cases c
  all_goals
    refine congrArg x1 (funext fun a => Fin.ext ?_)
    match a with
    | ⟨0, _⟩ => show _ + 1 * (t : ℕ) = _ * 256 + (t : ℕ); norm_num
    | ⟨1, _⟩ => show 128 + 1 * (d : ℕ) = 128 + d; omega

/-- Value `t` of block `c` is staged value `256 c + t`. -/
theorem vals_at (x2 : Vec Ideal S1x144x2048 .bf16) (c : Fin 8) (l : Fin 144) (t : Fin 256) :
    vals x2 c (ix3 0 l t) = x2 (ix3 0 l ⟨c * 256 + t, by omega⟩) := by
  fin_cases c
  all_goals
    refine congrArg x2 (funext fun a => Fin.ext ?_)
    match a with
    | ⟨0, _⟩ => rfl
    | ⟨1, _⟩ => show 0 + 1 * (l : ℕ) = l; omega
    | ⟨2, _⟩ => show _ + 1 * (t : ℕ) = _ * 256 + (t : ℕ); norm_num

/-- The first head's query block is the staged one's first 128 lanes. -/
theorem qry0_at (x0 : Vec Ideal S1024x256 .bf16) (r : Fin 1024) (d : Fin 128) : View.ld x0 r0_0 (ix2 r d) = x0 (ix2 r ⟨d, by omega⟩) := by
  refine congrArg x0 (funext fun a => Fin.ext ?_)
  match a with
  | ⟨0, _⟩ => show 0 + 1 * (r : ℕ) = r; omega
  | ⟨1, _⟩ => show 0 + 1 * (d : ℕ) = d; omega

/-- The second head's query block is the staged one's last 128 lanes. -/
theorem qry1_at (x0 : Vec Ideal S1024x256 .bf16) (r : Fin 1024) (d : Fin 128) : View.ld x0 r0_1 (ix2 r d) = x0 (ix2 r ⟨128 + d, by omega⟩) := by
  refine congrArg x0 (funext fun a => Fin.ext ?_)
  match a with
  | ⟨0, _⟩ => show 0 + 1 * (r : ℕ) = r; omega
  | ⟨1, _⟩ => show 128 + 1 * (d : ℕ) = 128 + d; omega

/-- Block `c`'s scores, one row a key: both heads' queries side by side. -/
def score (x0 : Vec Ideal S1024x256 .bf16) (x1 : Vec Ideal S2048x256 .bf16) (c : Fin 8) : FVec Ideal S256x2048 .f32 :=
  k0_pay12 (k0_pay1 (View.ld x0 r0_0)) (k0_pay2 (View.ld x0 r0_1)) (keys0 x1 c) (keys1 x1 c)

/-! ### One block's maximum, weights and partial output, however the body spells them -/

section spell
variable (q q' : Vec Ideal S1024x128 .bf16) (k k' : Vec Ideal S256x128 .bf16) (a b : FVec Ideal S128x1024 .bf16) (s : FVec Ideal S256x2048 .f32)
  (p : FVec Ideal S256x2048 .bf16) (v : Vec Ideal S1x144x256 .bf16) (m0 m1 m2 m3 m4 m5 : FVec Ideal S1x2048 .f32)
theorem sp0 : k0_pay3 q q' k k' = k0_pay12 (k0_pay1 q) (k0_pay2 q') k k' := rfl
theorem sp1 : k0_pay4 q q' k k' = k0_pay12 (k0_pay1 q) (k0_pay2 q') k k' := rfl
theorem sp2 : k0_pay5 q q' k k' = k0_pay21 (k0_pay12 (k0_pay1 q) (k0_pay2 q') k k') := rfl
theorem sp3 : k0_pay6 q q' k k' = k0_pay22 (k0_pay12 (k0_pay1 q) (k0_pay2 q') k k') := rfl
theorem sp4 : k0_pay9 b (k0_pay7 q k) (k0_pay8 k') = k0_pay12 (k0_pay1 q) b k k' := rfl
theorem sp5 : k0_pay13 b (k0_pay7 q k) (k0_pay8 k') = k0_pay21 (k0_pay12 (k0_pay1 q) b k k') := rfl
theorem sp6 : k0_pay14 b (k0_pay7 q k) (k0_pay8 k') = k0_pay22 (k0_pay12 (k0_pay1 q) b k k') := rfl
theorem sp7 : k0_pay16 a b k k' = k0_pay12 a b k k' := rfl
theorem sp8 : k0_pay20 a b k k' = k0_pay12 a b k k' := rfl
theorem sp9 : k0_pay24 a b k k' = k0_pay12 a b k k' := rfl
theorem sp10 : k0_pay28 a b k k' = k0_pay12 a b k k' := rfl
theorem sp11 : k0_pay17 a b k k' = k0_pay21 (k0_pay12 a b k k') := rfl
theorem sp12 : k0_pay25 a b k k' = k0_pay21 (k0_pay12 a b k k') := rfl
theorem sp13 : k0_pay31 a b k k' = k0_pay21 (k0_pay12 a b k k') := rfl
theorem sp14 : k0_pay18 a b k k' = k0_pay22 (k0_pay12 a b k k') := rfl
theorem sp15 : k0_pay26 a b k k' = k0_pay22 (k0_pay12 a b k k') := rfl
theorem sp16 : k0_pay10 s = k0_pay21 s := rfl
theorem sp17 : k0_pay29 s = k0_pay21 s := rfl
theorem sp18 : k0_pay11 s = k0_pay22 s := rfl
theorem sp19 : k0_pay19 p v = k0_pay15 p v := rfl
theorem sp20 : k0_pay23 p v = k0_pay15 p v := rfl
theorem sp21 : k0_pay27 p v = k0_pay15 p v := rfl
theorem sp22 : k0_pay30 p v = k0_pay15 p v := rfl
theorem sp23 : k0_pay32 p v = k0_pay15 p v := rfl
theorem sp24 : k0_pay33 s v = k0_pay15 (k0_pay22 s) v := rfl
theorem sp25 : k0_pay34 a b k k' v = k0_pay15 (k0_pay22 (k0_pay12 a b k k')) v := rfl
theorem sp_max : k0_pay35 a b m0 m1 m2 m3 m4 s m5 k k' = mx8 m0 m1 m2 m3 m4 m5 (k0_pay21 s) (k0_pay21 (k0_pay12 a b k k')) := rfl
end spell

/-- The body's stored element is the eight blocks merged. -/
theorem out_eq (x0 : Vec Ideal S1024x256 .bf16) (x1 : Vec Ideal S2048x256 .bf16) (x2 : Vec Ideal S1x144x2048 .bf16)
    (r : Fin 1024) (l : Fin 128) :
    out0_3 x0 x1 x2 (ix2 r l)
      = pay (fun c => k0_pay21 (score x0 x1 c)) (fun c => k0_pay15 (k0_pay22 (score x0 x1 c)) (vals x2 c)) (ix2 r l) := by
  unfold_out out0_3
  simp only [sp0, sp1, sp2, sp3, sp4, sp5, sp6, sp7, sp8, sp9, sp10, sp11, sp12, sp13, sp14, sp15, sp16, sp17, sp18, sp19, sp20, sp21, sp22, sp23, sp24, sp25, sp_max]
  refine (View.canon_apply_of_pieces (pay (fun c => k0_pay21 (score x0 x1 c)) (fun c => k0_pay15 (k0_pay22 (score x0 x1 c)) (vals x2 c))) _ ?_ (ix2 r l) (cover0_3 _ _)).trans ?_
  · intro pc hpc
    rcases List.mem_cons.mp hpc with rfl | hpc
    · intro x
      have e : r0_26.emb x = x := by
        refine funext fun a => Fin.ext ?_
        match a with
        | ⟨0, _⟩ => show 0 + 1 * (x 0 : ℕ) = x 0; omega
        | ⟨1, _⟩ => show 0 + 1 * (x 1 : ℕ) = x 1; omega
      rw [e]
      refine congrFun ?_ x
      unfold pay mx score
      rfl
    · nomatch hpc
  · rfl

/-- ONE STORED ELEMENT IS SOFTMAX ATTENTION: if the staged query row `r` scores key `kk` at `x kk` over `log 2` in the lanes of
    the head that owns lane `l`, the staged values of that lane are `v`, and row 128 holds ones. -/
theorem block_at (x0 : Vec Ideal S1024x256 .bf16) (x1 : Vec Ideal S2048x256 .bf16) (x2 : Vec Ideal S1x144x2048 .bf16)
    (r : Fin 1024) (l : Fin 128) (x : Fin 2048 → ℝ) (v : Fin 2048 → EReal)
    (hs : ∀ kk : Fin 2048, (∑ d : Fin 128, x1 (ix2 kk ⟨(l : ℕ) / 64 * 128 + d, by omega⟩) * x0 (ix2 r ⟨(l : ℕ) / 64 * 128 + d, by omega⟩) : EReal)
      = ((x kk / Real.log 2 : ℝ) : EReal))
    (hv : ∀ kk : Fin 2048, x2 (ix3 0 ⟨l, by omega⟩ kk) = v kk) (h1 : ∀ kk : Fin 2048, x2 (ix3 0 128 kk) = (1 : EReal)) :
    out0_3 x0 x1 x2 (ix2 r l) = attn x v := by
  obtain ⟨q, hq⟩ : ∃ q : Fin 2048, (q : ℕ) = if (l : ℕ) < 64 then (r : ℕ) else 1024 + r :=
    ⟨⟨if (l : ℕ) < 64 then (r : ℕ) else 1024 + r, by split <;> omega⟩, rfl⟩
  have hsc : ∀ (c : Fin 8) (t : Fin 256), score x0 x1 c (ix2 t q) = ((x ⟨c * 256 + t, by omega⟩ / Real.log 2 : ℝ) : EReal) := by
    intro c t
    rw [← hs ⟨c * 256 + t, by omega⟩]
    by_cases h : (l : ℕ) < 64
    · refine (score_lo _ _ _ _ t r q (by rw [hq, if_pos h])).trans (Finset.sum_congr rfl fun d _ => ?_)
      rw [keys0_at, qry0_at]
      have e : (⟨(l : ℕ) / 64 * 128 + d, by omega⟩ : Fin 256) = ⟨d, by omega⟩ := Fin.ext (by show (l : ℕ) / 64 * 128 + (d : ℕ) = d; omega)
      rw [e]
    · refine (score_hi _ _ _ _ t r q (by rw [hq, if_neg h])).trans (Finset.sum_congr rfl fun d _ => ?_)
      rw [keys1_at, qry1_at]
      have e : (⟨(l : ℕ) / 64 * 128 + d, by omega⟩ : Fin 256) = ⟨128 + d, by omega⟩ := Fin.ext (by show (l : ℕ) / 64 * 128 + (d : ℕ) = 128 + d; omega)
      rw [e]
  rw [out_eq]
  refine (pay_at _ _ r l q hq).trans ?_
  have eM : (fun c => k0_pay21 (score x0 x1 c) (ix2 0 q))
      = fun c : Fin 8 => Finset.univ.fold max (⊥ : EReal) fun t : Fin 256 => ((x ⟨c * 256 + t, by omega⟩ / Real.log 2 : ℝ) : EReal) := by
    funext c
    rw [max_at]
    exact congrArg (fun f => Finset.univ.fold max (⊥ : EReal) f) (funext fun t => hsc c t)
  have eO : ∀ j : Fin 144, (fun c => k0_pay15 (k0_pay22 (score x0 x1 c)) (vals x2 c) (ix2 j q))
      = fun c : Fin 8 => chunkO (fun t : Fin 256 => ((x ⟨c * 256 + t, by omega⟩ / Real.log 2 : ℝ) : EReal)) fun t => x2 (ix3 0 j ⟨c * 256 + t, by omega⟩) := by
    intro j
    funext c
    rw [out_at]
    exact congrArg₂ chunkO (funext fun t => hsc c t) (funext fun t => vals_at x2 c j t)
  simp only [eM, eO, hv, h1]
  exact merge8_div x v _ _ (fun _ _ => rfl) (fun _ _ => rfl)

end Cert.MlaIdeal.Block

end
-- ==== Proof.MlaValue.lean ====
/- What the latent attention kernel's output array holds: softmax attention of every query row, head and lane. -/
module

public import proofs.«01_k».proof.Proof.Gen.MlaIdeal.Value
public import proofs.«01_k».proof.Proof.MlaBlock2
import Idealize.ShloMosaic.Lib.Pipeline.ValueKit
import Idealize.ShloMosaic.Lib.KernelVsHost

@[expose] public section

set_option maxRecDepth 16384

noncomputable section

namespace Cert.MlaIdeal.Block

open Cert.MlaIdeal Cert.MlaIdeal.Gen Idealize.ShloMosaic Cert.Attn
open Idealize.ShloMosaic.TcCoe

/-- The scale the scores are multiplied by: the literal nearest one over the root of 96. -/
def scale : ℝ := (Ideal.ofBits .f32 0x3DD105EC#32).toReal

/-- The scale literal is a real number. -/
theorem scale_eq : Ideal.ofBits .f32 0x3DD105EC#32 = ((scale : ℝ) : EReal) := by
  simp [scale, Ideal.ofBits, Ideal.ieee, -EReal.coe_mul]

/-- Latent attention of the three argument arrays at batch `b`, query `s`, head `h`, lane `d`. -/
def mla (q k : FVec Ideal S16x2048x8x96 .f32) (v : FVec Ideal S16x2048x8x64 .f32) (b : Fin 16) (s : Fin 2048) (h : Fin 8) (d : Fin 64) : EReal :=
  attn (fun kk : Fin 2048 => dotS scale (fun d' : Fin 96 => q (ix4 b s h d')) (fun d' : Fin 96 => k (ix4 b kk h d'))) (fun kk => v (ix4 b kk h d))

/-- The output array: row `b * 2048 + s`, column `h * 64 + d`. -/
def G (q k : FVec Ideal S16x2048x8x96 .f32) (v : FVec Ideal S16x2048x8x64 .f32) : FVec Ideal S32768x512 .bf16 := fun i =>
  mla q k v ⟨(i 0 : ℕ) / 2048, by have : (i 0 : ℕ) < 32768 := (i 0).isLt; omega⟩ ⟨(i 0 : ℕ) % 2048, by omega⟩
    ⟨(i 1 : ℕ) / 64, by have : (i 1 : ℕ) < 512 := (i 1).isLt; omega⟩ ⟨(i 1 : ℕ) % 64, by omega⟩

variable (m : (ℓ : Loc nD τ sig) → Buf (Elt Ideal) ℓ) (c : Dev nD)

/-- The argument arrays. -/
abbrev aq : FVec Ideal S16x2048x8x96 .f32 := m ((c : Thread nD τ).loc main_arg0)
abbrev ak : FVec Ideal S16x2048x8x96 .f32 := m ((c : Thread nD τ).loc main_arg1)
abbrev av : FVec Ideal S16x2048x8x64 .f32 := m ((c : Thread nD τ).loc main_arg2)

/-- Each window's block at grid point `t`: batch `t / 8`, query half `t / 4 % 2`, head pair `t % 4`. -/
theorem idx : ∀ t : Fin cfg0.N, win0_0.index t = ![(t : ℕ) / 4, (t : ℕ) % 4] ∧ win0_1.index t = ![(t : ℕ) / 8, (t : ℕ) % 4]
    ∧ win0_2.index t = ![(t : ℕ) / 8, (t : ℕ) % 4, 0] ∧ win0_3.index t = ![(t : ℕ) / 4, (t : ℕ) % 4] :=
  (by decide +kernel : ∀ t : Fin grid0.N, _)

/-- The grid has 128 points. -/
theorem N_lt (t : Fin cfg0.N) : (t : ℕ) < 128 := lt_of_lt_of_eq t.isLt (by decide +kernel : grid0.N = 128)

/-- The staged values array: for each head pair 128 rows of values, then ones. -/
theorem va_at (b : Fin 16) (j : Fin 4) (l : Fin 128) (kk : Fin 2048) :
    V m c main_v16 (ix3 b ⟨(j : ℕ) * 144 + l, by omega⟩ kk) = av m c (ix4 b kk ⟨(j : ℕ) * 2 + (l : ℕ) / 64, by omega⟩ ⟨(l : ℕ) % 64, by omega⟩) := by
  simp only [V, hostOps0, hostOps0_1, hostOps0_2, hostOps0_3, hostOps0_4, List.flatten_cons, List.flatten_nil, List.append_nil, List.cons_append, List.nil_append]
  entry_read
  pointwise
  rw [dif_pos (by omega)]
  refine congrArg (av m c) (funext fun a => Fin.ext ?_)
  match a with
  | ⟨0, _⟩ => rfl
  | ⟨1, _⟩ => rfl
  | ⟨2, _⟩ => show ((j : ℕ) * 144 + (l : ℕ)) / 144 * 2 + ((j : ℕ) * 144 + (l : ℕ)) % 144 / 64 = (j : ℕ) * 2 + (l : ℕ) / 64; omega
  | ⟨3, _⟩ => show ((j : ℕ) * 144 + (l : ℕ)) % 144 % 64 = (l : ℕ) % 64; omega

/-- The staged values array's row of ones. -/
theorem va_one (b : Fin 16) (j : Fin 4) (kk : Fin 2048) : V m c main_v16 (ix3 b ⟨(j : ℕ) * 144 + 128, by omega⟩ kk) = (1 : EReal) := by
  simp only [V, hostOps0, hostOps0_1, hostOps0_2, hostOps0_3, hostOps0_4, List.flatten_cons, List.flatten_nil, List.append_nil, List.cons_append, List.nil_append]
  entry_read
  pointwise
  rw [dif_neg (by omega)]

/-- The staged queries: scaled, over `log 2`, in lanes 0..95 of each head. -/
theorem qa_at (b : Fin 16) (s : Fin 2048) (h : Fin 8) (d : Fin 96) :
    V m c main_v7 (ix2 ⟨(b : ℕ) * 2048 + s, by omega⟩ ⟨(h : ℕ) * 128 + d, by omega⟩)
      = Ideal.div (aq m c (ix4 b s h d) * Ideal.ofBits .f32 0x3DD105EC#32) (Ideal.log (Ideal.ofBits .f32 0x40000000#32)) := by
  simp only [V, hostOps0, hostOps0_1, hostOps0_2, hostOps0_3, hostOps0_4, List.flatten_cons, List.flatten_nil, List.append_nil, List.cons_append, List.nil_append]
  entry_read
  pointwise
  simp -implicitDefEqProofs only [StableHlo.TRef.toBuf, StableHlo.TRef.ofBuf, cast_cast, cast_eq]
  refine (pad_apply_of_inside _ _ _ _ _ _ _ _ (ix4 b s h d) fun a => ?_).trans ?_
  · match a with
    | ⟨0, _⟩ => show ((b : ℕ) * 2048 + (s : ℕ)) / 2048 = 0 + (b : ℕ) * (0 + 1); omega
    | ⟨1, _⟩ => show ((b : ℕ) * 2048 + (s : ℕ)) % 2048 = 0 + (s : ℕ) * (0 + 1); omega
    | ⟨2, _⟩ => show ((h : ℕ) * 128 + (d : ℕ)) / 128 = 0 + (h : ℕ) * (0 + 1); omega
    | ⟨3, _⟩ => show ((h : ℕ) * 128 + (d : ℕ)) % 128 = 0 + (d : ℕ) * (0 + 1); omega
  · rfl

/-- The staged keys, in lanes 0..95 of each head. -/
theorem ka_at (b : Fin 16) (s : Fin 2048) (h : Fin 8) (d : Fin 96) :
    V m c main_v10 (ix2 ⟨(b : ℕ) * 2048 + s, by omega⟩ ⟨(h : ℕ) * 128 + d, by omega⟩) = ak m c (ix4 b s h d) := by
  simp only [V, hostOps0, hostOps0_1, hostOps0_2, hostOps0_3, hostOps0_4, List.flatten_cons, List.flatten_nil, List.append_nil, List.cons_append, List.nil_append]
  entry_read
  pointwise
  simp -implicitDefEqProofs only [StableHlo.TRef.toBuf, StableHlo.TRef.ofBuf, cast_cast, cast_eq]
  refine (pad_apply_of_inside _ _ _ _ _ _ _ _ (ix4 b s h d) fun a => ?_).trans ?_
  · match a with
    | ⟨0, _⟩ => show ((b : ℕ) * 2048 + (s : ℕ)) / 2048 = 0 + (b : ℕ) * (0 + 1); omega
    | ⟨1, _⟩ => show ((b : ℕ) * 2048 + (s : ℕ)) % 2048 = 0 + (s : ℕ) * (0 + 1); omega
    | ⟨2, _⟩ => show ((h : ℕ) * 128 + (d : ℕ)) / 128 = 0 + (h : ℕ) * (0 + 1); omega
    | ⟨3, _⟩ => show ((h : ℕ) * 128 + (d : ℕ)) % 128 = 0 + (d : ℕ) * (0 + 1); omega
  · rfl

/-- The integer zero as a float is zero. -/
theorem zero_i32 : sitofp (F := Ideal) .f32 (constantI S_ 32 0#32) (Shape.Idx.first h_S_) = (0 : EReal) := by
  simp [sitofp, constantI, FloatOps.sitofp]

/-- The staged keys' padding lanes. -/
theorem ka_pad (b : Fin 16) (s : Fin 2048) (h : Fin 8) (d : Fin 32) :
    V m c main_v10 (ix2 ⟨(b : ℕ) * 2048 + s, by omega⟩ ⟨(h : ℕ) * 128 + (96 + d), by omega⟩) = (0 : EReal) := by
  simp only [V, hostOps0, hostOps0_1, hostOps0_2, hostOps0_3, hostOps0_4, List.flatten_cons, List.flatten_nil, List.append_nil, List.cons_append, List.nil_append]
  entry_read
  pointwise
  simp -implicitDefEqProofs only [StableHlo.TRef.toBuf, StableHlo.TRef.ofBuf, cast_cast, cast_eq]
  refine (pad_apply_of_not_inside _ _ _ _ _ _ _ _ (3 : Fin 4) fun hin => ?_).trans ?_
  · have e : (((h : ℕ) * 128 + (96 + (d : ℕ))) % 128 - 0) / (0 + 1) < 96 := hin.2.2
    omega
  · exact zero_i32

/-- Any array's block of the query window at point `t`. -/
theorem q_rd (A : FVec Ideal S32768x1024 .bf16) (t : Fin cfg0.N) (r : Fin 1024) (h : Fin 2) (d : Fin 128) :
    ((cfg0.win 0).blk t).view.read (Elt Ideal) A (ix2 r ⟨(h : ℕ) * 128 + d, by omega⟩)
      = A (ix2 ⟨(t : ℕ) / 8 * 2048 + ((t : ℕ) / 4 % 2 * 1024 + r), by have := N_lt t; omega⟩ ⟨((t : ℕ) % 4 * 2 + h) * 128 + d, by omega⟩) := by
  have ht := N_lt t
  blk_ext [idx t]

/-- Any array's block of the key window at point `t`. -/
theorem k_rd (A : FVec Ideal S32768x1024 .bf16) (t : Fin cfg0.N) (kk : Fin 2048) (h : Fin 2) (d : Fin 128) :
    ((cfg0.win 1).blk t).view.read (Elt Ideal) A (ix2 kk ⟨(h : ℕ) * 128 + d, by omega⟩)
      = A (ix2 ⟨(t : ℕ) / 8 * 2048 + kk, by have := N_lt t; omega⟩ ⟨((t : ℕ) % 4 * 2 + h) * 128 + d, by omega⟩) := by
  have ht := N_lt t
  blk_ext [idx t]

/-- Any array's block of the value window at point `t`. -/
theorem v_rd (A : FVec Ideal S16x576x2048 .bf16) (t : Fin cfg0.N) (l : Fin 144) (kk : Fin 2048) :
    ((cfg0.win 2).blk t).view.read (Elt Ideal) A (ix3 0 l kk) = A (ix3 ⟨(t : ℕ) / 8, by have := N_lt t; omega⟩ ⟨(t : ℕ) % 4 * 144 + l, by omega⟩ kk) := by
  have ht := N_lt t
  blk_ext [idx t]

/-- The staged values at point `t`. -/
theorem v_blk (t : Fin cfg0.N) (l : Fin 128) (kk : Fin 2048) :
    iblk m c 2 t (ix3 0 ⟨l, by omega⟩ kk) = av m c (ix4 ⟨(t : ℕ) / 8, by have := N_lt t; omega⟩ kk ⟨(t : ℕ) % 4 * 2 + (l : ℕ) / 64, by omega⟩ ⟨(l : ℕ) % 64, by omega⟩) := by
  have ht := N_lt t
  exact (v_rd (V m c main_v16) t ⟨l, by omega⟩ kk).trans (va_at m c ⟨(t : ℕ) / 8, by omega⟩ ⟨(t : ℕ) % 4, by omega⟩ l kk)

/-- The staged row of ones at point `t`. -/
theorem one_blk (t : Fin cfg0.N) (kk : Fin 2048) : iblk m c 2 t (ix3 0 128 kk) = (1 : EReal) := by
  have ht := N_lt t
  exact (v_rd (V m c main_v16) t 128 kk).trans (va_one m c ⟨(t : ℕ) / 8, by omega⟩ ⟨(t : ℕ) % 4, by omega⟩ kk)

/-- A product over 128 lanes whose last 32 keys are padding. -/
theorem dot_pad (f g : Fin 128 → EReal) (h : ∀ d : Fin 32, f ⟨96 + d, by omega⟩ = 0) : ∑ d, f d * g d = ∑ d : Fin 96, f ⟨d, by omega⟩ * g ⟨d, by omega⟩ := by
  rw [Fin.sum_univ_two_halves 96 32 rfl]
  rw [Finset.sum_eq_zero (fun d _ => (congrArg (· * _) (h d)).trans (zero_mul _)), add_zero]

/-- What grid point `t` stores at row `r`, lane `l`. -/
theorem point (hq : ∀ i, Fin' (aq m c i)) (hk : ∀ i, Fin' (ak m c i)) (t : Fin cfg0.N) (r : Fin 1024) (l : Fin 128) :
    out0_3 (iblk m c 0 t) (iblk m c 1 t) (iblk m c 2 t) (ix2 r l)
      = mla (aq m c) (ak m c) (av m c) ⟨(t : ℕ) / 8, by have := N_lt t; omega⟩ ⟨(t : ℕ) / 4 % 2 * 1024 + r, by omega⟩
          ⟨(t : ℕ) % 4 * 2 + (l : ℕ) / 64, by omega⟩ ⟨(l : ℕ) % 64, by omega⟩ := by
  have ht := N_lt t
  refine block_at _ _ _ r l _ _ (fun kk => ?_) (fun kk => v_blk m c t l kk) (fun kk => one_blk m c t kk)
  rw [← score_in scale _ scale_eq _ _ (fun d => hq _) (fun d => hk _)]
  refine (dot_pad _ _ (fun d => ?_)).trans (Finset.sum_congr rfl fun d _ => congrArg₂ (fun x y : EReal => x * y) ?_ ?_)
  · exact (k_rd (V m c main_v10) t kk ⟨(l : ℕ) / 64, by omega⟩ ⟨96 + d, by omega⟩).trans
      (ka_pad m c ⟨(t : ℕ) / 8, by omega⟩ kk ⟨(t : ℕ) % 4 * 2 + (l : ℕ) / 64, by omega⟩ d)
  · exact (k_rd (V m c main_v10) t kk ⟨(l : ℕ) / 64, by omega⟩ ⟨d, by omega⟩).trans
      (ka_at m c ⟨(t : ℕ) / 8, by omega⟩ kk ⟨(t : ℕ) % 4 * 2 + (l : ℕ) / 64, by omega⟩ d)
  · exact (q_rd (V m c main_v7) t r ⟨(l : ℕ) / 64, by omega⟩ ⟨d, by omega⟩).trans
      (qa_at m c ⟨(t : ℕ) / 8, by omega⟩ ⟨(t : ℕ) / 4 % 2 * 1024 + r, by omega⟩ ⟨(t : ℕ) % 4 * 2 + (l : ℕ) / 64, by omega⟩ d)

/-- THE OUTPUT ARRAY after the run. -/
theorem final (hq : ∀ i, Fin' (aq m c i)) (hk : ∀ i, Fin' (ak m c i)) :
    (dats m 0 c).arrAt 3 cfg0.N = G (aq m c) (ak m c) (av m c) := by
  refine (dats m 0 c).arrAt_eq_of_covers 3 _ (by decide +kernel) fun t _ y => ?_
  have ht := N_lt t
  blk_simp
  rw [after0_3]
  idx_vars y
  refine (point m c hq hk t y0 y1).trans ?_
  unfold G
  congr 1 <;> (refine Fin.ext ?_; blk_simp [idx t]; dsimp only; omega)

end Cert.MlaIdeal.Block

end
-- ==== Proof.MlaRef.lean ====
/- What the latent attention reference computes: softmax attention of every query row, head and lane. -/
module

public import proofs.«01_k».proof.Proof.Gen.MlaRefIdeal.Run
public import proofs.«01_k».proof.Proof.MlaValue

@[expose] public section

set_option maxRecDepth 16384

noncomputable section

namespace Cert.MlaRefIdeal.Block

open Cert.MlaRefIdeal Cert.MlaRefIdeal.Gen Idealize.ShloMosaic Cert.Attn
open Idealize.ShloMosaic.TcCoe

/-- The scaled scores. -/
def SC (q k : FVec Ideal S16x2048x8x96 .f32) : FVec Ideal S16x8x2048x2048 .f32 :=
  mulf (Host.dotGeneral dot_S16x2048x8x96_S16x2048x8x96_S16x8x2048x2048_3_3_1_1_02_02 none q k) (broadcastInDim S16x8x2048x2048 ![] bcast_S_S16x8x2048x2048 (constant S_ .f32 0x3DD105EC#32))

/-- The maximum of each query's scores. -/
def MR (x : FVec Ideal S16x8x2048x2048 .f32) : FVec Ideal S16x8x2048 .f32 :=
  Host.reduce FloatOps.maximumf x (constant S_ .f32 0xFF800000#32) reducesTo_S16x8x2048x2048_S16x8x2048_d3 h_S_

/-- Each query's shift: the maximum of its scores and minus infinity. -/
def MX (x : FVec Ideal S16x8x2048x2048 .f32) : FVec Ideal S16x8x2048 .f32 :=
  maximumf (broadcastInDim S16x8x2048 ![] bcast_S_S16x8x2048 (constant S_ .f32 0xFF800000#32)) (MR x)

/-- A value a query repeated along its keys. -/
def RP (a : FVec Ideal S16x8x2048 .f32) : FVec Ideal S16x8x2048x2048 .f32 :=
  broadcastInDim S16x8x2048x2048 ![0, 1, 2, 3] bcast_S16x8x2048x1_S16x8x2048x2048_0_1_2_3 (broadcastInDim S16x8x2048x1 ![0, 1, 2] bcast_S16x8x2048_S16x8x2048x1_0_1_2 a)

/-- Each query's sum along its keys. -/
def SU (e : FVec Ideal S16x8x2048x2048 .f32) : FVec Ideal S16x8x2048 .f32 :=
  Host.reduceAdd e (constant S_ .f32 0x00000000#32) reducesTo_S16x8x2048x2048_S16x8x2048_d3 h_S_

/-- The exponentials of the shifted scores. -/
def EX (x : FVec Ideal S16x8x2048x2048 .f32) : FVec Ideal S16x8x2048x2048 .f32 := Host.exp (subf x (RP (MX x)))

/-- The weights. -/
def PR (e : FVec Ideal S16x8x2048x2048 .f32) : FVec Ideal S16x8x2048x2048 .f32 := Host.divf e (RP (SU e))

/-- The weighted values, laid out as rows and columns. -/
def OU (v : FVec Ideal S16x2048x8x64 .f32) (p : FVec Ideal S16x8x2048x2048 .f32) : FVec Ideal S32768x512 .bf16 :=
  truncf .bf16 (shapeCast _ (transpose S16x2048x8x64 [0, 3, 1, 2] (Host.dotGeneral dot_S16x2048x8x64_S16x8x2048x2048_S16x8x64x2048_1_3_3_2_02_01 none v p) transposes_S16x8x64x2048_S16x2048x8x64_0_3_1_2) shapeCasts_S16x2048x8x64_S32768x512) bitsLt_bf16_f32

theorem SC_at (q k : FVec Ideal S16x2048x8x96 .f32) (b : Fin 16) (h : Fin 8) (s kk : Fin 2048) :
    SC q k (ix4 b h s kk) = (∑ d : Fin 96, q (ix4 b s h d) * k (ix4 b kk h d)) * Ideal.ofBits .f32 0x3DD105EC#32 := by
  pointwise [SC]

theorem MR_at (x : FVec Ideal S16x8x2048x2048 .f32) (b : Fin 16) (h : Fin 8) (s : Fin 2048) :
    MR x (ix3 b h s) = Finset.univ.fold max (Ideal.ofBits .f32 0xFF800000#32) fun kk : Fin 2048 => x (ix4 b h s kk) := by
  pointwise [MR]

/-- The shift at one query, from the maximum there. -/
theorem shift_at (a : FVec Ideal S16x8x2048 .f32) (i : S16x8x2048.Idx) :
    maximumf (broadcastInDim S16x8x2048 ![] bcast_S_S16x8x2048 (constant S_ .f32 0xFF800000#32)) a i = max (Ideal.ofBits .f32 0xFF800000#32) (a i) := rfl

theorem MX_at (x : FVec Ideal S16x8x2048x2048 .f32) (b : Fin 16) (h : Fin 8) (s : Fin 2048) :
    MX x (ix3 b h s) = max (Ideal.ofBits .f32 0xFF800000#32) (Finset.univ.fold max (Ideal.ofBits .f32 0xFF800000#32) fun kk : Fin 2048 => x (ix4 b h s kk)) := by
  exact (shift_at (MR x) _).trans (congrArg _ (MR_at x b h s))

theorem RP_at (a : FVec Ideal S16x8x2048 .f32) (b : Fin 16) (h : Fin 8) (s kk : Fin 2048) : RP a (ix4 b h s kk) = a (ix3 b h s) := by
  pointwise [RP]

theorem SU_at (e : FVec Ideal S16x8x2048x2048 .f32) (b : Fin 16) (h : Fin 8) (s : Fin 2048) :
    SU e (ix3 b h s) = ∑ kk : Fin 2048, e (ix4 b h s kk) := by
  pointwise [SU]

theorem EX_at (x : FVec Ideal S16x8x2048x2048 .f32) (b : Fin 16) (h : Fin 8) (s kk : Fin 2048) :
    EX x (ix4 b h s kk) = Ideal.exp (x (ix4 b h s kk) - RP (MX x) (ix4 b h s kk)) := rfl

theorem PR_at (e : FVec Ideal S16x8x2048x2048 .f32) (b : Fin 16) (h : Fin 8) (s kk : Fin 2048) :
    PR e (ix4 b h s kk) = Ideal.div (e (ix4 b h s kk)) (RP (SU e) (ix4 b h s kk)) := rfl

theorem OU_at (v : FVec Ideal S16x2048x8x64 .f32) (p : FVec Ideal S16x8x2048x2048 .f32) (i0 : Fin 32768) (i1 : Fin 512) :
    OU v p (ix2 i0 i1) = ∑ kk : Fin 2048, v (ix4 ⟨(i0 : ℕ) / 2048, by omega⟩ kk ⟨(i1 : ℕ) / 64, by omega⟩ ⟨(i1 : ℕ) % 64, by omega⟩)
      * p (ix4 ⟨(i0 : ℕ) / 2048, by omega⟩ ⟨(i1 : ℕ) / 64, by omega⟩ ⟨(i0 : ℕ) % 2048, by omega⟩ kk) := by
  pointwise [OU]

/-- The reference's operations composed, over its three argument arrays. -/
def REF (q k : FVec Ideal S16x2048x8x96 .f32) (v : FVec Ideal S16x2048x8x64 .f32) : FVec Ideal S32768x512 .bf16 := OU v (PR (EX (SC q k)))

/-- The composed operations are softmax attention, once the queries and keys are finite. -/
theorem ref_eq (q k : FVec Ideal S16x2048x8x96 .f32) (v : FVec Ideal S16x2048x8x64 .f32) (hq : ∀ i, Fin' (q i)) (hk : ∀ i, Fin' (k i)) :
    REF q k v = Cert.MlaIdeal.Block.G q k v := by
  funext i
  idx_vars i
  have hs : ∀ (b : Fin 16) (h : Fin 8) (s kk : Fin 2048), SC q k (ix4 b h s kk)
      = ((dotS Cert.MlaIdeal.Block.scale (fun d : Fin 96 => q (ix4 b s h d)) (fun d : Fin 96 => k (ix4 b kk h d)) : ℝ) : EReal) := fun b h s kk => by
    rw [SC_at, ← score_out Cert.MlaIdeal.Block.scale _ Cert.MlaIdeal.Block.scale_eq (fun d : Fin 96 => q (ix4 b s h d)) (fun d : Fin 96 => k (ix4 b kk h d)) (fun d => hq _) fun d => hk _]
    simp only [mul_comm (q _)]
  refine (OU_at v _ i0 i1).trans ?_
  simp only [PR_at, RP_at, SU_at, EX_at, MX_at, hs]
  exact attn_ref _ _

variable (m : (ℓ : Loc nD τ sig) → Buf (Elt Ideal) ℓ) (ρ : Dev nD → PrngReg)

/-- The reference's run. -/
theorem run : θ_run defs (onTc (τ := τ) (main (F := Ideal))) ⟨m, fun _ => 0, ρ⟩ fun r => ∀ c : Dev nD,
      r.2.mem ((c : Thread nD τ).loc main_v17) = REF (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  Cert.MlaRefIdeal.Value.run m ρ

end Cert.MlaRefIdeal.Block

end
-- ==== Proof.MlaPre.lean ====
/- The precondition of the latent attention claim read: every query and key is finite. -/
module

public import proofs.«01_k».proof.Proof.Gen.Pre_mla_finite
public import proofs.«01_k».proof.Proof.AttnFinite

@[expose] public section

noncomputable section

namespace Cert.Pre_mla_finite.Read

open Cert.Pre_mla_finite Cert.Pre_mla_finite.Gen Idealize.ShloMosaic Cert.Attn

/-- The precondition makes every query and every key finite. -/
theorem finite (q k : FVec Ideal S16x2048x8x96 .f32) (v : FVec Ideal S16x2048x8x64 .f32) (h : fn (F := Ideal) q k v = fun _ => 1#1) :
    (∀ i, Fin' (q i)) ∧ ∀ i, Fin' (k i) := by
  obtain ⟨h1, h2⟩ := IntOp.andi_eq_one.1 (congrFun h ix0)
  exact ⟨fun i => fin_of_cmp (Host.reduce_andi_all _ _ _ _ _ h1 i), fun i => fin_of_cmp (Host.reduce_andi_all _ _ _ _ _ h2 i)⟩

end Cert.Pre_mla_finite.Read

end
-- ==== Proof.MlaClaim.lean ====
/- The latent attention claims: both programs' frames and the equality of their results over the reals. -/
module

public import proofs.«01_k».proof.Defs
public import proofs.«01_k».proof.Proof.Gen.Mla.Frame
public import proofs.«01_k».proof.Proof.MlaRef
public import proofs.«01_k».proof.Proof.MlaPre
public import Idealize.ShloMosaic.Lib.Quiescent

@[expose] public section

noncomputable section

namespace Cert.Proof.Mla

open Idealize.ShloMosaic Idealize.ShloMosaic.TcCoe

/-- The kernel runs, leaves its arguments unchanged and every counter at zero. -/
theorem frame_p : Cert.quiescent_Mla := fun m ρ _ => Cert.Mla.Gen.frame m ρ

/-- The idealized kernel runs, leaves its arguments unchanged and every counter at zero. -/
theorem frame_pi : Cert.quiescent_MlaIdeal := fun m ρ _ => Cert.MlaIdeal.Gen.frame m ρ

/-- The same, from the memories of the value claim. -/
theorem frame_pi_pre : Cert.quiescent_MlaIdeal_pre_mla_finite := fun m ρ _ => Cert.MlaIdeal.Gen.frame m ρ

/-- The idealized reference's run with its counters: it declares no semaphore. -/
theorem ref_run (m : (ℓ : Loc Cert.MlaRefIdeal.nD Cert.MlaRefIdeal.τ Cert.MlaRefIdeal.sig) → Buf (Elt Ideal) ℓ) (ρ : Dev Cert.MlaRefIdeal.nD → PrngReg) :
    θ_run (Cert.MlaRefIdeal.defs (F := Ideal)) (onTc (τ := Cert.MlaRefIdeal.τ) (Cert.MlaRefIdeal.main (F := Ideal))) ⟨m, fun _ => 0, ρ⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0) :=
  (θ_run Cert.MlaRefIdeal.defs _ _).mono (fun r h => ⟨fun c => (h c).2, sem_eq_zero_of_no_sems (by decide) r.2⟩) (Cert.MlaRefIdeal.Block.run m ρ)

/-- The idealized reference runs, leaves its arguments unchanged and every counter at zero. -/
theorem frame_ri : Cert.quiescent_MlaRefIdeal := fun m ρ _ => ref_run m ρ

/-- The same, from the memories of the value claim. -/
theorem frame_ri_pre : Cert.quiescent_MlaRefIdeal_pre_mla_finite := fun m ρ _ => ref_run m ρ

/-- The idealized kernel and the idealized reference end with the same result: softmax attention of the arguments. -/
theorem value : Cert.algebraic_MlaIdeal_MlaRefIdeal_pre_mla_finite := by
  intro m ρ m' ρ' hpre hag
  have hf := fun c : Dev Cert.MlaIdeal.nD => Cert.Pre_mla_finite.Read.finite _ _ _ (hpre c)
  refine ⟨fun c => Cert.MlaIdeal.Block.G (Cert.MlaIdeal.Block.aq m c) (Cert.MlaIdeal.Block.ak m c) (Cert.MlaIdeal.Block.av m c), ?_, ?_⟩
  · refine (θ_run Cert.MlaIdeal.defs _ _).mono (fun r h c => ⟨(h c).1.trans ?_, (h c).2⟩) (Cert.MlaIdeal.Value.run_blocks m ρ)
    exact Cert.MlaIdeal.Block.final m c (hf c).1 (hf c).2
  · refine (θ_run Cert.MlaRefIdeal.defs _ _).mono (fun r h c => ⟨(h c).1.trans ?_, (h c).2⟩) (Cert.MlaRefIdeal.Block.run m' ρ')
    obtain ⟨h0, h1, h2⟩ := hag c
    rw [h0, h1, h2]
    exact Cert.MlaRefIdeal.Block.ref_eq _ _ _ (hf c).1 (hf c).2

end Cert.Proof.Mla

end
-- ==== Proof.TailMath.lean ====
/- The row functions of the layer's tail, and the re-indexings of its sums. -/
module

public import Idealize.ShloMosaic.PureOps.Ideal

@[expose] public section

noncomputable section

namespace Cert.TailMath

open Idealize.ShloMosaic

/-- A row over its root mean square: element `j` of the row `x`, scaled by `g`. -/
def rms (x g : Fin 1024 → EReal) (j : Fin 1024) : EReal :=
  x j * Ideal.rsqrt (Ideal.div (∑ k, x k * x k) (Ideal.ofBits .f32 0x44800000#32) + Ideal.ofBits .f32 0x358637BD#32) * g j

/-- The logistic function, as both sides spell it. -/
def lgst (z : EReal) : EReal := Ideal.div 1 (1 + Ideal.exp (0 - z))

/-- A sum over 1024 terms is the sum over the first 512 plus the sum over the last 512. -/
theorem sum_halves (f : Fin 1024 → EReal) :
    ∑ k, f k = (∑ k : Fin 512, f ⟨k, by omega⟩) + ∑ k : Fin 512, f ⟨512 + k, by omega⟩ :=
  Fin.sum_univ_add (a := 512) (b := 512) f

/-- Chunk `j`'s share of a sum over 3584 terms. -/
def part (f : Fin 3584 → EReal) (j : ℕ) : EReal := if h : j < 7 then ∑ k : Fin 512, f ⟨j * 512 + k, by omega⟩ else 0

/-- The sum of the first `n` chunks, added in order from zero. -/
def upTo (f : Fin 3584 → EReal) : ℕ → EReal
  | 0 => 0
  | n + 1 => upTo f n + part f n

/-- All seven chunks together are the whole sum. -/
theorem upTo_seven (f : Fin 3584 → EReal) : upTo f 7 = ∑ k, f k := by
  have e : ∑ k, f k = ∑ p : Fin 7 × Fin 512, f ⟨p.1 * 512 + p.2, by omega⟩ := by
    refine (Fintype.sum_equiv (finProdFinEquiv (m := 7) (n := 512)) (fun p => f ⟨p.1 * 512 + p.2, by omega⟩) f fun p => congrArg f (Fin.ext ?_)).symm
    show (p.1 : ℕ) * 512 + p.2 = p.2 + 512 * p.1
    omega
  rw [e, Fintype.sum_prod_type]
  simp only [Fin.sum_univ_seven, upTo, part, zero_add]
  rfl

/-- The order in which the heads' lanes are packed: lane `r` of the packed row is lane `perm r` of the plain one. -/
def perm (r : Fin 512) : Fin 512 := ⟨(r : ℕ) / 64 % 2 * 256 + (r : ℕ) / 128 * 64 + r % 64, by omega⟩

/-- Packing only reorders lanes: a sum over packed lanes is the sum over plain ones. -/
theorem sum_perm (f : Fin 512 → EReal) : ∑ k, f (perm k) = ∑ k, f k := by
  have hs : Function.Surjective perm := fun b => by
    refine ⟨⟨(b : ℕ) / 64 % 4 * 128 + (b : ℕ) / 256 * 64 + b % 64, by omega⟩, Fin.ext ?_⟩
    have key : ∀ x y z : ℕ, x < 2 → z < 64 →
        (y * 128 + x * 64 + z) / 64 % 2 * 256 + (y * 128 + x * 64 + z) / 128 * 64 + (y * 128 + x * 64 + z) % 64 = x * 256 + y * 64 + z := by
      intro x y z hx hz
      have e1 : (y * 128 + x * 64 + z) / 64 = 2 * y + x := by omega
      have e2 : (y * 128 + x * 64 + z) / 128 = y := by omega
      have e3 : (y * 128 + x * 64 + z) % 64 = z := by omega
      rw [e1, e2, e3]
      omega
    refine (key ((b : ℕ) / 256) ((b : ℕ) / 64 % 4) ((b : ℕ) % 64) (by omega) (by omega)).trans ?_
    omega
  exact Fintype.sum_bijective perm ⟨Finite.injective_iff_surjective.mpr hs, hs⟩ _ _ fun _ => rfl

end Cert.TailMath

end
-- ==== Proof.TailSpec.lean ====
/- The rows the tail of the layer computes, in plain sums over its argument arrays. -/
module

public import proofs.«01_k».proof.Proof.Gen.TailIdeal.Value
public import proofs.«01_k».proof.Proof.TailMath
public import Idealize.ShloMosaic.Lib.Pointwise.Index

@[expose] public section

set_option maxRecDepth 16384

noncomputable section

namespace Cert.TailMath

open Cert.TailIdeal Idealize.ShloMosaic

/-- The fifteen argument arrays of the tail. -/
structure Arr where
  X : FVec Ideal S16x2048x1024 .f32
  P : FVec Ideal S2x16x2048x256 .f32
  OA : FVec Ideal S16x2048x512 .f32
  OM : FVec Ideal S16x2048x512 .f32
  WO : FVec Ideal S1024x1024 .f32
  GM : FVec Ideal S2x1024 .f32
  GP : FVec Ideal S2x1024 .f32
  WG : FVec Ideal S1x1024x3584 .f32
  WU : FVec Ideal S1x1024x3584 .f32
  WD : FVec Ideal S1x3584x1024 .f32
  GF : FVec Ideal S2x1024 .f32
  GN : FVec Ideal S2x1024 .f32
  PG : FVec Ideal S2x1024x1024 .f32
  PP : FVec Ideal S2x256x1024 .f32
  GE : FVec Ideal S2x1024 .f32

variable (A : Arr) (b : Fin 16) (s : Fin 2048)

/-- The mixers' outputs side by side, projected. -/
def mixR (j : Fin 1024) : EReal :=
  (∑ k : Fin 512, A.OA (ix3 b s k) * A.WO (ix2 ⟨k, by omega⟩ j)) + ∑ k : Fin 512, A.OM (ix3 b s k) * A.WO (ix2 ⟨512 + k, by omega⟩ j)

/-- The row after the mixers. -/
def h1R (j : Fin 1024) : EReal := A.X (ix3 b s j) + rms (mixR A b s) (fun k => A.GM (ix2 0 k)) j

/-- The feed forward network's input row. -/
def aR : Fin 1024 → EReal := rms (h1R A b s) fun k => A.GP (ix2 0 k)

/-- One hidden unit's contribution to one output of the feed forward network. -/
def fT (a : Fin 1024 → EReal) (j : Fin 1024) (k : Fin 3584) : EReal :=
  (∑ d, a d * A.WG (ix3 0 d k)) * lgst (∑ d, a d * A.WG (ix3 0 d k)) * (∑ d, a d * A.WU (ix3 0 d k)) * A.WD (ix3 0 k j)

/-- The row after the feed forward network. -/
def h2R (j : Fin 1024) : EReal := h1R A b s j + rms (fun c => ∑ k, fT A (aR A b s) c k) (fun k => A.GF (ix2 0 k)) j

/-- The gated per layer embedding row. -/
def eR (j : Fin 1024) : EReal :=
  (∑ k : Fin 256, A.P (ix4 0 b s k) * A.PP (ix3 0 k j)) * lgst (∑ k : Fin 1024, rms (h2R A b s) (fun k => A.GN (ix2 0 k)) k * A.PG (ix3 0 k j))

/-- The layer's output row. -/
def outR (j : Fin 1024) : EReal := h2R A b s j + rms (eR A b s) (fun k => A.GE (ix2 0 k)) j

/-- The output array: row `b * 2048 + s`. -/
def G : FVec Ideal S32768x1024 .f32 := fun i =>
  outR A ⟨(i 0 : ℕ) / 2048, by have : (i 0 : ℕ) < 32768 := (i 0).isLt; omega⟩ ⟨(i 0 : ℕ) % 2048, by omega⟩ (i 1)

end Cert.TailMath

end
-- ==== Proof.TailRef.lean ====
/- What the tail reference computes: the same rows in the same plain sums. -/
module

public import proofs.«01_k».proof.Proof.Gen.TailRefIdeal.Run
public import proofs.«01_k».proof.Proof.TailSpec
import Idealize.ShloMosaic.Lib.Pipeline.ValueKit
import Idealize.ShloMosaic.Lib.KernelVsHost

@[expose] public section

set_option maxRecDepth 16384

noncomputable section

namespace Cert.TailRefIdeal.Block

open Cert.TailRefIdeal Cert.TailRefIdeal.Gen Idealize.ShloMosaic Cert.TailMath
open Idealize.ShloMosaic.TcCoe

/-- Each row's sum of squares. -/
def SQ (x : FVec Ideal S16x2048x1024 .f32) : FVec Ideal S16x2048 .f32 :=
  Host.reduceAdd (mulf x x) (constant S_ .f32 0x00000000#32) reducesTo_S16x2048x1024_S16x2048_d2 h_S_

/-- Each row's scale from its sum of squares, repeated along the row. -/
def RB (q : FVec Ideal S16x2048 .f32) : FVec Ideal S16x2048x1024 .f32 :=
  broadcastInDim S16x2048x1024 ![0, 1, 2] bcast_S16x2048x1_S16x2048x1024_0_1_2 (Host.rsqrt (addf (Host.divf (broadcastInDim S16x2048x1 ![0, 1] bcast_S16x2048_S16x2048x1_0_1 q) (broadcastInDim S16x2048x1 ![] bcast_S_S16x2048x1 (constant S_ .f32 0x44800000#32))) (broadcastInDim S16x2048x1 ![] bcast_S_S16x2048x1 (constant S_ .f32 0x358637BD#32))))

/-- The first layer's gains repeated along the rows. -/
def GB (g : FVec Ideal S2x1024 .f32) : FVec Ideal S16x2048x1024 .f32 :=
  broadcastInDim S16x2048x1024 ![0, 1, 2] bcast_S1x1x1024_S16x2048x1024_0_1_2 (broadcastInDim S1x1x1024 ![2] bcast_S1024_S1x1x1024_2 (shapeCast _ (extractStridedSlice S1x1024 ![0, 0] g slices_S2x1024_S1x1024_0_0) shapeCasts_S1x1024_S1024))

/-- The root mean square norm of every row. -/
def NM (x : FVec Ideal S16x2048x1024 .f32) (g : FVec Ideal S2x1024 .f32) : FVec Ideal S16x2048x1024 .f32 := mulf (mulf x (RB (SQ x))) (GB g)

/-- The mixers' outputs side by side, projected. -/
def DO (oa om : FVec Ideal S16x2048x512 .f32) (w : FVec Ideal S1024x1024 .f32) : FVec Ideal S16x2048x1024 .f32 :=
  Host.dotGeneral dot_S16x2048x1024_S1024x1024_S16x2048x1024_2_0_01_1_n_n none (concatenate S16x2048x1024 2 [⟨S16x2048x512, oa⟩, ⟨S16x2048x512, om⟩] concatenates_S16x2048x512_S16x2048x512_S16x2048x1024_d2) w

/-- A product with the weights into the hidden units. -/
def DG (a : FVec Ideal S16x2048x1024 .f32) (w : FVec Ideal S1x1024x3584 .f32) : FVec Ideal S16x2048x3584 .f32 :=
  Host.dotGeneral dot_S16x2048x1024_S1024x3584_S16x2048x3584_2_0_01_1_n_n none a (shapeCast _ w shapeCasts_S1x1024x3584_S1024x3584)

/-- A product with the weights out of the hidden units. -/
def DD (a : FVec Ideal S16x2048x3584 .f32) (w : FVec Ideal S1x3584x1024 .f32) : FVec Ideal S16x2048x1024 .f32 :=
  Host.dotGeneral dot_S16x2048x3584_S3584x1024_S16x2048x1024_2_0_01_1_n_n none a (shapeCast _ w shapeCasts_S1x3584x1024_S3584x1024)

/-- A product with the embedding gate's weights. -/
def DQ (a : FVec Ideal S16x2048x1024 .f32) (w : FVec Ideal S2x1024x1024 .f32) : FVec Ideal S16x2048x1024 .f32 :=
  Host.dotGeneral dot_S16x2048x1024_S1024x1024_S16x2048x1024_2_0_01_1_n_n none a (shapeCast _ (extractStridedSlice S1x1024x1024 ![0, 0, 0] w slices_S2x1024x1024_S1x1024x1024_0_0_0) shapeCasts_S1x1024x1024_S1024x1024)

/-- The embeddings' projection. -/
def DE (p : FVec Ideal S2x16x2048x256 .f32) (w : FVec Ideal S2x256x1024 .f32) : FVec Ideal S16x2048x1024 .f32 :=
  Host.dotGeneral dot_S16x2048x256_S256x1024_S16x2048x1024_2_0_01_1_n_n none (shapeCast _ (extractStridedSlice S1x16x2048x256 ![0, 0, 0, 0] p slices_S2x16x2048x256_S1x16x2048x256_0_0_0_0) shapeCasts_S1x16x2048x256_S16x2048x256) (shapeCast _ (extractStridedSlice S1x256x1024 ![0, 0, 0] w slices_S2x256x1024_S1x256x1024_0_0_0) shapeCasts_S1x256x1024_S256x1024)

/-- The logistic function over the hidden units. -/
def LH (x : FVec Ideal S16x2048x3584 .f32) : FVec Ideal S16x2048x3584 .f32 :=
  Host.divf (broadcastInDim S16x2048x3584 ![] bcast_S_S16x2048x3584 (constant S_ .f32 0x3F800000#32)) (addf (broadcastInDim S16x2048x3584 ![] bcast_S_S16x2048x3584 (constant S_ .f32 0x3F800000#32)) (Host.exp (Host.negf x)))

/-- The logistic function over the model's columns. -/
def LQ (x : FVec Ideal S16x2048x1024 .f32) : FVec Ideal S16x2048x1024 .f32 :=
  Host.divf (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf x)))

theorem SQ_at (x : FVec Ideal S16x2048x1024 .f32) (b : Fin 16) (s : Fin 2048) : SQ x (ix2 b s) = ∑ k : Fin 1024, x (ix3 b s k) * x (ix3 b s k) := by
  pointwise [SQ]

theorem RB_at (q : FVec Ideal S16x2048 .f32) (b : Fin 16) (s : Fin 2048) (j : Fin 1024) :
    RB q (ix3 b s j) = Ideal.rsqrt (Ideal.div (q (ix2 b s)) (Ideal.ofBits .f32 0x44800000#32) + Ideal.ofBits .f32 0x358637BD#32) := by
  pointwise [RB]

theorem GB_at (g : FVec Ideal S2x1024 .f32) (b : Fin 16) (s : Fin 2048) (j : Fin 1024) : GB g (ix3 b s j) = g (ix2 0 j) := by
  pointwise [GB]

theorem NM_mul (x : FVec Ideal S16x2048x1024 .f32) (g : FVec Ideal S2x1024 .f32) (i : S16x2048x1024.Idx) :
    NM x g i = x i * RB (SQ x) i * GB g i := rfl

/-- A normed row, from the row. -/
theorem NM_at (x : FVec Ideal S16x2048x1024 .f32) (g : FVec Ideal S2x1024 .f32) (b : Fin 16) (s : Fin 2048) (f : Fin 1024 → EReal)
    (h : ∀ k, x (ix3 b s k) = f k) (j : Fin 1024) : NM x g (ix3 b s j) = rms f (fun k => g (ix2 0 k)) j := by
  rw [NM_mul, RB_at, SQ_at, GB_at]
  simp only [h]
  rfl

theorem DO_at (oa om : FVec Ideal S16x2048x512 .f32) (w : FVec Ideal S1024x1024 .f32) (b : Fin 16) (s : Fin 2048) (j : Fin 1024) :
    DO oa om w (ix3 b s j) = (∑ k : Fin 512, oa (ix3 b s k) * w (ix2 ⟨k, by omega⟩ j)) + ∑ k : Fin 512, om (ix3 b s k) * w (ix2 ⟨512 + k, by omega⟩ j) := by
  pointwise [DO]

theorem DG_at (a : FVec Ideal S16x2048x1024 .f32) (w : FVec Ideal S1x1024x3584 .f32) (b : Fin 16) (s : Fin 2048) (k : Fin 3584) :
    DG a w (ix3 b s k) = ∑ d : Fin 1024, a (ix3 b s d) * w (ix3 0 d k) := by
  pointwise [DG]

theorem DD_at (a : FVec Ideal S16x2048x3584 .f32) (w : FVec Ideal S1x3584x1024 .f32) (b : Fin 16) (s : Fin 2048) (j : Fin 1024) :
    DD a w (ix3 b s j) = ∑ k : Fin 3584, a (ix3 b s k) * w (ix3 0 k j) := by
  pointwise [DD]

theorem DQ_at (a : FVec Ideal S16x2048x1024 .f32) (w : FVec Ideal S2x1024x1024 .f32) (b : Fin 16) (s : Fin 2048) (j : Fin 1024) :
    DQ a w (ix3 b s j) = ∑ k : Fin 1024, a (ix3 b s k) * w (ix3 0 k j) := by
  pointwise [DQ]

theorem DE_at (p : FVec Ideal S2x16x2048x256 .f32) (w : FVec Ideal S2x256x1024 .f32) (b : Fin 16) (s : Fin 2048) (j : Fin 1024) :
    DE p w (ix3 b s j) = ∑ k : Fin 256, p (ix4 0 b s k) * w (ix3 0 k j) := by
  pointwise [DE]

theorem LH_at (x : FVec Ideal S16x2048x3584 .f32) (b : Fin 16) (s : Fin 2048) (k : Fin 3584) : LH x (ix3 b s k) = lgst (x (ix3 b s k)) := by
  pointwise [LH]
  unfold lgst
  rw [zero_sub]

theorem LQ_at (x : FVec Ideal S16x2048x1024 .f32) (b : Fin 16) (s : Fin 2048) (k : Fin 1024) : LQ x (ix3 b s k) = lgst (x (ix3 b s k)) := by
  pointwise [LQ]
  unfold lgst
  rw [zero_sub]

variable (A : Arr)

/-- The rows after the mixers. -/
def H1 : FVec Ideal S16x2048x1024 .f32 := addf A.X (NM (DO A.OA A.OM A.WO) A.GM)

/-- The feed forward network's input rows. -/
def AA : FVec Ideal S16x2048x1024 .f32 := NM (H1 A) A.GP

/-- The feed forward network. -/
def FF : FVec Ideal S16x2048x1024 .f32 := DD (mulf (mulf (DG (AA A) A.WG) (LH (DG (AA A) A.WG))) (DG (AA A) A.WU)) A.WD

/-- The rows after the feed forward network. -/
def H2 : FVec Ideal S16x2048x1024 .f32 := addf (H1 A) (NM (FF A) A.GF)

/-- The gated embeddings. -/
def EE : FVec Ideal S16x2048x1024 .f32 := mulf (DE A.P A.PP) (LQ (DQ (NM (H2 A) A.GN) A.PG))

/-- The output rows. -/
def H3 : FVec Ideal S16x2048x1024 .f32 := addf (H2 A) (NM (EE A) A.GE)

/-- The reference's operations composed, over its argument arrays. -/
def REF : FVec Ideal S32768x1024 .f32 := shapeCast _ (H3 A) shapeCasts_S16x2048x1024_S32768x1024

theorem H1_at (b : Fin 16) (s : Fin 2048) (j : Fin 1024) : H1 A (ix3 b s j) = h1R A b s j := by
  show A.X (ix3 b s j) + NM _ _ (ix3 b s j) = _
  rw [NM_at _ _ b s (mixR A b s) fun k => DO_at A.OA A.OM A.WO b s k]
  rfl

theorem AA_at (b : Fin 16) (s : Fin 2048) (j : Fin 1024) : AA A (ix3 b s j) = aR A b s j :=
  NM_at _ _ b s _ (H1_at A b s) j

theorem FF_at (b : Fin 16) (s : Fin 2048) (j : Fin 1024) : FF A (ix3 b s j) = ∑ k, fT A (aR A b s) j k := by
  unfold FF
  rw [DD_at]
  refine Finset.sum_congr rfl fun k _ => ?_
  show DG _ _ (ix3 b s k) * LH _ (ix3 b s k) * DG _ _ (ix3 b s k) * _ = _
  rw [LH_at, DG_at, DG_at]
  simp only [AA_at]
  rfl

theorem H2_at (b : Fin 16) (s : Fin 2048) (j : Fin 1024) : H2 A (ix3 b s j) = h2R A b s j := by
  show H1 A (ix3 b s j) + NM _ _ (ix3 b s j) = _
  rw [H1_at, NM_at _ _ b s _ (FF_at A b s)]
  rfl

theorem EE_at (b : Fin 16) (s : Fin 2048) (j : Fin 1024) : EE A (ix3 b s j) = eR A b s j := by
  show DE _ _ (ix3 b s j) * LQ _ (ix3 b s j) = _
  rw [LQ_at, DE_at, DQ_at]
  simp only [NM_at _ A.GN b s _ (H2_at A b s)]
  rfl

theorem H3_at (b : Fin 16) (s : Fin 2048) (j : Fin 1024) : H3 A (ix3 b s j) = outR A b s j := by
  show H2 A (ix3 b s j) + NM _ _ (ix3 b s j) = _
  rw [H2_at, NM_at _ _ b s _ (EE_at A b s)]
  rfl

/-- The flattened rows. -/
theorem flat_at (x : FVec Ideal S16x2048x1024 .f32) (R : Fin 32768) (j : Fin 1024) :
    shapeCast S32768x1024 x shapeCasts_S16x2048x1024_S32768x1024 (ix2 R j) = x (ix3 ⟨(R : ℕ) / 2048, by omega⟩ ⟨(R : ℕ) % 2048, by omega⟩ j) := by
  pointwise

/-- The composed operations are the plain sums. -/
theorem ref_eq : REF A = G A := by
  funext i
  idx_vars i
  exact (flat_at (H3 A) i0 i1).trans (H3_at A _ _ i1)

/-- The argument arrays of a launch. -/
def argsOf (V0 : Valuation τ sig (Elt Ideal)) : Arr :=
  ⟨V0 (Proc.devRef .tc main_arg0), V0 (Proc.devRef .tc main_arg1), V0 (Proc.devRef .tc main_arg2), V0 (Proc.devRef .tc main_arg3), V0 (Proc.devRef .tc main_arg4),
    V0 (Proc.devRef .tc main_arg5), V0 (Proc.devRef .tc main_arg6), V0 (Proc.devRef .tc main_arg7), V0 (Proc.devRef .tc main_arg8), V0 (Proc.devRef .tc main_arg9),
    V0 (Proc.devRef .tc main_arg10), V0 (Proc.devRef .tc main_arg11), V0 (Proc.devRef .tc main_arg12), V0 (Proc.devRef .tc main_arg13), V0 (Proc.devRef .tc main_arg14)⟩

variable (V0 : Valuation τ sig (Elt Ideal))

theorem v1_eq : Value.res_main_v1 V0 = DO (argsOf V0).OA (argsOf V0).OM (argsOf V0).WO := by
  unfold Value.res_main_v1 DO argsOf
  rfl

theorem v17_eq : Value.res_main_v17 V0 = H1 (argsOf V0) := by
  unfold Value.res_main_v17
  rw [v1_eq]
  unfold H1 NM RB SQ GB argsOf
  rfl

theorem v32_eq : Value.res_main_v32 V0 = AA (argsOf V0) := by
  unfold Value.res_main_v32
  rw [v17_eq]
  unfold AA NM RB SQ GB
  generalize H1 (argsOf V0) = x
  unfold argsOf
  rfl

theorem v36_eq : Value.res_main_v36 V0 = DG (AA (argsOf V0)) (argsOf V0).WG := by
  unfold Value.res_main_v36
  rw [v32_eq]
  unfold DG
  generalize AA (argsOf V0) = x
  unfold argsOf
  rfl

theorem v40_eq : Value.res_main_v40 V0 = FF (argsOf V0) := by
  unfold Value.res_main_v40
  rw [v36_eq, v32_eq]
  unfold FF
  generalize AA (argsOf V0) = x
  generalize hy : DG x (argsOf V0).WG = y
  unfold DD LH DG argsOf
  rfl

theorem v56_eq : Value.res_main_v56 V0 = H2 (argsOf V0) := by
  unfold Value.res_main_v56
  rw [v17_eq, v40_eq]
  unfold H2
  generalize H1 (argsOf V0) = x
  generalize FF (argsOf V0) = y
  unfold NM RB SQ GB argsOf
  rfl

theorem v86_eq : Value.res_main_v86 V0 = EE (argsOf V0) := by
  unfold Value.res_main_v86
  rw [v56_eq]
  unfold EE
  generalize H2 (argsOf V0) = x
  unfold DE LQ DQ NM RB SQ GB argsOf
  rfl

variable (m : (ℓ : Loc nD τ sig) → Buf (Elt Ideal) ℓ) (ρ : Dev nD → PrngReg)

/-- The argument arrays. -/
def arrs (c : Dev nD) : Arr := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14)⟩

/-- The reference's run. -/
theorem run : θ_run defs (onTc (τ := τ) (main (F := Ideal))) ⟨m, fun _ => 0, ρ⟩ fun r => ∀ c : Dev nD,
      r.2.mem ((c : Thread nD τ).loc main_v103) = REF (arrs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) := by
  refine (θ_run defs _ _).mono (fun r h c => ⟨(h c).1.trans ?_, (h c).2⟩) (Value.run m ρ)
  rw [v56_eq, v86_eq]
  show _ = REF (argsOf (StableHlo.launchContents m c))
  unfold REF H3
  generalize H2 (argsOf (StableHlo.launchContents m c)) = x
  generalize EE (argsOf (StableHlo.launchContents m c)) = y
  unfold NM RB SQ GB argsOf
  rfl

end Cert.TailRefIdeal.Block

end
-- ==== Proof.TailHost.lean ====
/- The arrays the tail kernel's windows stage, read back to the argument arrays. -/
module

public import proofs.«01_k».proof.Proof.Gen.TailIdeal.Value
public import proofs.«01_k».proof.Proof.TailMath
public import Idealize.ShloMosaic.Lib.Pointwise.Index
import Idealize.ShloMosaic.Lib.ValueIdxCore
import Idealize.ShloMosaic.Lib.Pipeline.ValueKit
import Idealize.ShloMosaic.Lib.KernelVsHost

@[expose] public section

set_option maxRecDepth 16384

noncomputable section

namespace Cert.TailIdeal.Block

open Cert.TailIdeal Cert.TailIdeal.Gen Idealize.ShloMosaic Cert.TailMath
open Idealize.ShloMosaic.TcCoe

variable (m : (ℓ : Loc nD τ sig) → Buf (Elt Ideal) ℓ) (c : Dev nD)

/-- The argument arrays. -/
abbrev aX : FVec Ideal S16x2048x1024 .f32 := m ((c : Thread nD τ).loc main_arg0)
abbrev aP : FVec Ideal S2x16x2048x256 .f32 := m ((c : Thread nD τ).loc main_arg1)
abbrev aOA : FVec Ideal S16x2048x512 .f32 := m ((c : Thread nD τ).loc main_arg2)
abbrev aOM : FVec Ideal S16x2048x512 .f32 := m ((c : Thread nD τ).loc main_arg3)
abbrev aWO : FVec Ideal S1024x1024 .f32 := m ((c : Thread nD τ).loc main_arg4)
abbrev aGM : FVec Ideal S2x1024 .f32 := m ((c : Thread nD τ).loc main_arg5)
abbrev aGP : FVec Ideal S2x1024 .f32 := m ((c : Thread nD τ).loc main_arg6)
abbrev aWG : FVec Ideal S1x1024x3584 .f32 := m ((c : Thread nD τ).loc main_arg7)
abbrev aWU : FVec Ideal S1x1024x3584 .f32 := m ((c : Thread nD τ).loc main_arg8)
abbrev aWD : FVec Ideal S1x3584x1024 .f32 := m ((c : Thread nD τ).loc main_arg9)
abbrev aGF : FVec Ideal S2x1024 .f32 := m ((c : Thread nD τ).loc main_arg10)
abbrev aGN : FVec Ideal S2x1024 .f32 := m ((c : Thread nD τ).loc main_arg11)
abbrev aPG : FVec Ideal S2x1024x1024 .f32 := m ((c : Thread nD τ).loc main_arg12)
abbrev aPP : FVec Ideal S2x256x1024 .f32 := m ((c : Thread nD τ).loc main_arg13)
abbrev aGE : FVec Ideal S2x1024 .f32 := m ((c : Thread nD τ).loc main_arg14)

/-- Batch and position of a row of the flattened arrays. -/
abbrev rb (R : Fin 32768) : Fin 16 := ⟨(R : ℕ) / 2048, by omega⟩
abbrev rs (R : Fin 32768) : Fin 2048 := ⟨(R : ℕ) % 2048, by omega⟩

/-- Reordering the heads of an array of 8 heads. -/
theorem gat_at (x : FVec Ideal S8x64x1024 .f32) (idx : IVec S8x1 32) (q : Fin 8) (d : Fin 64) (j : Fin 1024) :
    Host.gather gather_S8x64x1024_S8x1_S8x64x1024_12_0_n_n_0_1_1641024 x idx (ix3 q d j)
      = x (ix3 ⟨min (idx (ix2 q 0)).toInt.toNat 7, by omega⟩ d j) := by
  unfold Host.gather
  congr 1
  funext a
  refine Fin.ext ?_
  show gather_S8x64x1024_S8x1_S8x64x1024_12_0_n_n_0_1_1641024.start _ idx a + gather_S8x64x1024_S8x1_S8x64x1024_12_0_n_n_0_1_1641024.batchCoord _ a + gather_S8x64x1024_S8x1_S8x64x1024_12_0_n_n_0_1_1641024.offCoord _ a = _
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S8x64x1024_S8x1_S8x64x1024_12_0_n_n_0_1_1641024.startIndexMap from List.mem_singleton.mpr rfl)]
    have hsi : gather_S8x64x1024_S8x1_S8x64x1024_12_0_n_n_0_1_1641024.siIdx (ix3 q d j) ⟨List.idxOf (0 : Fin 3) gather_S8x64x1024_S8x1_S8x64x1024_12_0_n_n_0_1_1641024.startIndexMap,
        List.idxOf_lt_length_iff.2 (List.mem_singleton.mpr rfl)⟩ = ix2 q 0 := by
      funext b; refine Fin.ext ?_
      match b with
      | ⟨0, _⟩ => rfl
      | ⟨1, _⟩ => rfl
    rw [hsi]
    rfl
  · rw [GatherDims.batchCoord_eq_zero _ _ _ List.not_mem_nil]
    unfold GatherDims.start
    rw [dif_neg (by decide)]
    unfold GatherDims.offCoord
    rw [dif_pos (by decide)]
    simp only [Nat.add_zero, Nat.zero_add]
    rfl
  · rw [GatherDims.batchCoord_eq_zero _ _ _ List.not_mem_nil]
    unfold GatherDims.start
    rw [dif_neg (by decide)]
    unfold GatherDims.offCoord
    rw [dif_pos (by decide)]
    simp only [Nat.add_zero, Nat.zero_add]
    rfl

/-- The head each row of the reordered projection comes from. -/
def heads : IVec S8x1 32 :=
  broadcastInDim S8x1 ![0] bcast_S8_S8x1_0
    (select
      (cmpi CmpIPredicate.slt (fun i => lit0 (S8.rowMajor i)) (broadcastInDim S8 ![] bcast_S_S8 (constantI S_ 32 0#32)))
      (addi (fun i => lit0 (S8.rowMajor i)) (broadcastInDim S8 ![] bcast_S_S8 (constantI S_ 32 8#32)))
      fun i => lit0 (S8.rowMajor i))

/-- It is the order `0, 4, 1, 5, 2, 6, 3, 7`. -/
theorem heads_at (q : Fin 8) : min (heads (ix2 q 0)).toInt.toNat 7 = (q : ℕ) % 2 * 4 + (q : ℕ) / 2 := by
  revert q
  decide +kernel

/-- Layer input rows. -/
theorem v0_at (R : Fin 32768) (j : Fin 1024) : V m c main_v0 (ix2 R j) = aX m c (ix3 (rb R) (rs R) j) := by
  simp only [V, hostOps0, List.flatten_cons, List.flatten_nil, List.append_nil, List.cons_append, List.nil_append]
  entry_read
  pointwise

/-- Per layer embedding rows. -/
theorem v1_at (e : Fin 2) (R : Fin 32768) (j : Fin 256) : V m c main_v1 (ix3 e R j) = aP m c (ix4 e (rb R) (rs R) j) := by
  simp only [V, hostOps0, List.flatten_cons, List.flatten_nil, List.append_nil, List.cons_append, List.nil_append]
  entry_read
  pointwise

/-- Grouped attention rows, heads reordered. -/
theorem v18_at (R : Fin 32768) (j : Fin 512) : V m c main_v18 (ix2 R j) = aOA m c (ix3 (rb R) (rs R) (perm j)) := by
  simp only [V, hostOps0, List.flatten_cons, List.flatten_nil, List.append_nil, List.cons_append, List.nil_append]
  entry_read
  pointwise
  rfl

/-- Latent attention rows. -/
theorem v20_at (R : Fin 32768) (j : Fin 512) : V m c main_v20 (ix2 R j) = aOM m c (ix3 (rb R) (rs R) j) := by
  simp only [V, hostOps0, List.flatten_cons, List.flatten_nil, List.append_nil, List.cons_append, List.nil_append]
  entry_read
  pointwise

/-- The projection rows of the grouped attention, heads reordered. -/
theorem v14_at0 (k : Fin 512) (j : Fin 1024) : V m c main_v14 (ix2 ⟨k, by omega⟩ j) = aWO m c (ix2 ⟨perm k, by omega⟩ j) := by
  simp only [V, hostOps0, List.flatten_cons, List.flatten_nil, List.append_nil, List.cons_append, List.nil_append]
  entry_read
  pointwise
  refine (gat_at _ heads _ _ _).trans ?_
  refine congrArg (aWO m c) (congrArg (ix2 · j) (Fin.ext ?_))
  have e := heads_at ⟨k / 64, by omega⟩
  have e' : ((⟨k / 64, by omega⟩ : Fin 8) : ℕ) = (k : ℕ) / 64 := rfl
  show min (heads (ix2 ⟨k / 64, by omega⟩ 0)).toInt.toNat 7 * 64 + (k : ℕ) % 64 = (k : ℕ) / 64 % 2 * 256 + (k : ℕ) / 128 * 64 + (k : ℕ) % 64
  rw [e, e']
  omega

/-- The projection rows of the latent attention. -/
theorem v14_at1 (k : Fin 512) (j : Fin 1024) : V m c main_v14 (ix2 ⟨512 + k, by omega⟩ j) = aWO m c (ix2 ⟨512 + k, by omega⟩ j) := by
  simp only [V, hostOps0, List.flatten_cons, List.flatten_nil, List.append_nil, List.cons_append, List.nil_append]
  entry_read
  pointwise

/-- Gains of the mix norm. -/
theorem v23_at (j : Fin 1024) : V m c main_v23 (ix2 0 j) = aGM m c (ix2 0 j) := by
  simp only [V, hostOps0, List.flatten_cons, List.flatten_nil, List.append_nil, List.cons_append, List.nil_append]
  entry_read
  pointwise

/-- Gains of the feed forward input norm. -/
theorem v26_at (j : Fin 1024) : V m c main_v26 (ix2 0 j) = aGP m c (ix2 0 j) := by
  simp only [V, hostOps0, List.flatten_cons, List.flatten_nil, List.append_nil, List.cons_append, List.nil_append]
  entry_read
  pointwise

/-- Gains of the feed forward output norm. -/
theorem v35_at (j : Fin 1024) : V m c main_v35 (ix2 0 j) = aGF m c (ix2 0 j) := by
  simp only [V, hostOps0, List.flatten_cons, List.flatten_nil, List.append_nil, List.cons_append, List.nil_append]
  entry_read
  pointwise

/-- Gains of the gate norm. -/
theorem v38_at (j : Fin 1024) : V m c main_v38 (ix2 0 j) = aGN m c (ix2 0 j) := by
  simp only [V, hostOps0, List.flatten_cons, List.flatten_nil, List.append_nil, List.cons_append, List.nil_append]
  entry_read
  pointwise

/-- Gains of the embedding norm. -/
theorem v47_at (j : Fin 1024) : V m c main_v47 (ix2 0 j) = aGE m c (ix2 0 j) := by
  simp only [V, hostOps0, List.flatten_cons, List.flatten_nil, List.append_nil, List.cons_append, List.nil_append]
  entry_read
  pointwise

/-- Gate weights. -/
theorem v28_at (d : Fin 1024) (k : Fin 3584) : V m c main_v28 (ix2 d k) = aWG m c (ix3 0 d k) := by
  simp only [V, hostOps0, List.flatten_cons, List.flatten_nil, List.append_nil, List.cons_append, List.nil_append]
  entry_read
  pointwise

/-- Up weights. -/
theorem v30_at (d : Fin 1024) (k : Fin 3584) : V m c main_v30 (ix2 d k) = aWU m c (ix3 0 d k) := by
  simp only [V, hostOps0, List.flatten_cons, List.flatten_nil, List.append_nil, List.cons_append, List.nil_append]
  entry_read
  pointwise

/-- Down weights. -/
theorem v32_at (k : Fin 3584) (j : Fin 1024) : V m c main_v32 (ix2 k j) = aWD m c (ix3 0 k j) := by
  simp only [V, hostOps0, List.flatten_cons, List.flatten_nil, List.append_nil, List.cons_append, List.nil_append]
  entry_read
  pointwise

/-- Embedding gate weights. -/
theorem v41_at (k : Fin 1024) (j : Fin 1024) : V m c main_v41 (ix2 k j) = aPG m c (ix3 0 k j) := by
  simp only [V, hostOps0, List.flatten_cons, List.flatten_nil, List.append_nil, List.cons_append, List.nil_append]
  entry_read
  pointwise

/-- Embedding projection weights. -/
theorem v44_at (k : Fin 256) (j : Fin 1024) : V m c main_v44 (ix2 k j) = aPP m c (ix3 0 k j) := by
  simp only [V, hostOps0, List.flatten_cons, List.flatten_nil, List.append_nil, List.cons_append, List.nil_append]
  entry_read
  pointwise

end Cert.TailIdeal.Block

end
-- ==== Proof.TailBlk.lean ====
/- The blocks the tail kernel stages at each grid point, read back to the argument arrays. -/
module

public import proofs.«01_k».proof.Proof.TailHost
public import proofs.«01_k».proof.Proof.TailSpec
import Idealize.ShloMosaic.Lib.Pipeline.ValueKit
import Idealize.ShloMosaic.Lib.KernelVsHost

@[expose] public section

set_option maxRecDepth 16384

noncomputable section

namespace Cert.TailIdeal.Block

open Cert.TailIdeal Cert.TailIdeal.Gen Idealize.ShloMosaic Cert.TailMath
open Idealize.ShloMosaic.TcCoe

variable (m : (ℓ : Loc nD τ sig) → Buf (Elt Ideal) ℓ) (c : Dev nD)

/-- The argument arrays, together. -/
def arrs : Arr := ⟨aX m c, aP m c, aOA m c, aOM m c, aWO m c, aGM m c, aGP m c, aWG m c, aWU m c, aWD m c, aGF m c, aGN m c, aPG m c, aPP m c, aGE m c⟩

/-- Each window's block at grid point `t`: row block `t / 7`, hidden block `t % 7`. -/
theorem idx : ∀ t : Fin cfg0.N, win0_0.index t = ![(t : ℕ) / 7, 0] ∧ win0_1.index t = ![(t : ℕ) / 7, 0]
    ∧ win0_2.index t = ![0, 0] ∧ win0_3.index t = ![0, 0] ∧ win0_4.index t = ![(t : ℕ) / 7, 0] ∧ win0_5.index t = ![0, 0]
    ∧ win0_6.index t = ![0, (t : ℕ) % 7] ∧ win0_7.index t = ![0, (t : ℕ) % 7] ∧ win0_8.index t = ![(t : ℕ) % 7, 0]
    ∧ win0_9.index t = ![0, 0] ∧ win0_10.index t = ![0, (t : ℕ) / 7, 0] ∧ win0_11.index t = ![0, 0]
    ∧ win0_12.index t = ![0, 0] ∧ win0_13.index t = ![0, 0] ∧ win0_14.index t = ![0, 0] ∧ win0_15.index t = ![(t : ℕ) / 7, 0] :=
  (by decide +kernel : ∀ t : Fin grid0.N, _)

/-- The grid has 224 points. -/
theorem N_lt (t : Fin cfg0.N) : (t : ℕ) < 224 := lt_of_lt_of_eq t.isLt (by decide +kernel : grid0.N = 224)

/-- The row of the arrays a block's row is. -/
abbrev row (t : Fin cfg0.N) (r : Fin 1024) : Fin 32768 := ⟨(t : ℕ) / 7 * 1024 + r, by have := N_lt t; omega⟩

/-- The hidden unit a block's column is. -/
abbrev hid (t : Fin cfg0.N) (k : Fin 512) : Fin 3584 := ⟨(t : ℕ) % 7 * 512 + k, by omega⟩

/-- Any array's block of window 0 at point `t`. -/
theorem rd0 (A : FVec Ideal S32768x512 .bf16) (t : Fin cfg0.N) (r : Fin 1024) (k : Fin 512) : ((cfg0.win 0).blk t).view.read (Elt Ideal) A (ix2 r k) = A (ix2 (row t r) k) := by
  have ht := N_lt t
  blk_ext [idx t]

/-- The block of window 0 at point `t`. -/
theorem blk0 (t : Fin cfg0.N) (r : Fin 1024) (k : Fin 512) : iblk m c 0 t (ix2 r k) = aOA m c (ix3 (rb (row t r)) (rs (row t r)) (perm k)) :=
  (rd0 (V m c main_v18) t r k).trans (v18_at m c (row t r) k)

/-- Any array's block of window 1 at point `t`. -/
theorem rd1 (A : FVec Ideal S32768x512 .bf16) (t : Fin cfg0.N) (r : Fin 1024) (k : Fin 512) : ((cfg0.win 1).blk t).view.read (Elt Ideal) A (ix2 r k) = A (ix2 (row t r) k) := by
  have ht := N_lt t
  blk_ext [idx t]

/-- The block of window 1 at point `t`. -/
theorem blk1 (t : Fin cfg0.N) (r : Fin 1024) (k : Fin 512) : iblk m c 1 t (ix2 r k) = aOM m c (ix3 (rb (row t r)) (rs (row t r)) k) :=
  (rd1 (V m c main_v20) t r k).trans (v20_at m c (row t r) k)

/-- Any array's block of window 2 at point `t`. -/
theorem rd2 (A : FVec Ideal S1024x1024 .bf16) (t : Fin cfg0.N) (k j : Fin 1024) : ((cfg0.win 2).blk t).view.read (Elt Ideal) A (ix2 k j) = A (ix2 k j) := by
  have ht := N_lt t
  blk_ext [idx t]

/-- The projection's first rows at point `t`. -/
theorem blk2a (t : Fin cfg0.N) (k : Fin 512) (j : Fin 1024) : iblk m c 2 t (ix2 ⟨k, by omega⟩ j) = aWO m c (ix2 ⟨perm k, by omega⟩ j) :=
  (rd2 (V m c main_v14) t _ j).trans (v14_at0 m c k j)

/-- The projection's last rows at point `t`. -/
theorem blk2b (t : Fin cfg0.N) (k : Fin 512) (j : Fin 1024) : iblk m c 2 t (ix2 ⟨512 + k, by omega⟩ j) = aWO m c (ix2 ⟨512 + k, by omega⟩ j) :=
  (rd2 (V m c main_v14) t _ j).trans (v14_at1 m c k j)

/-- Any array's block of window 3 at point `t`. -/
theorem rd3 (A : FVec Ideal S1x1024 .f32) (t : Fin cfg0.N) (j : Fin 1024) : ((cfg0.win 3).blk t).view.read (Elt Ideal) A (ix2 0 j) = A (ix2 0 j) := by
  have ht := N_lt t
  blk_ext [idx t]

/-- The block of window 3 at point `t`. -/
theorem blk3 (t : Fin cfg0.N) (j : Fin 1024) : iblk m c 3 t (ix2 0 j) = aGM m c (ix2 0 j) :=
  (rd3 (V m c main_v23) t j).trans (v23_at m c j)

/-- Any array's block of window 4 at point `t`. -/
theorem rd4 (A : FVec Ideal S32768x1024 .f32) (t : Fin cfg0.N) (r : Fin 1024) (j : Fin 1024) : ((cfg0.win 4).blk t).view.read (Elt Ideal) A (ix2 r j) = A (ix2 (row t r) j) := by
  have ht := N_lt t
  blk_ext [idx t]

/-- The block of window 4 at point `t`. -/
theorem blk4 (t : Fin cfg0.N) (r : Fin 1024) (j : Fin 1024) : iblk m c 4 t (ix2 r j) = aX m c (ix3 (rb (row t r)) (rs (row t r)) j) :=
  (rd4 (V m c main_v0) t r j).trans (v0_at m c (row t r) j)

/-- Any array's block of window 5 at point `t`. -/
theorem rd5 (A : FVec Ideal S1x1024 .f32) (t : Fin cfg0.N) (j : Fin 1024) : ((cfg0.win 5).blk t).view.read (Elt Ideal) A (ix2 0 j) = A (ix2 0 j) := by
  have ht := N_lt t
  blk_ext [idx t]

/-- The block of window 5 at point `t`. -/
theorem blk5 (t : Fin cfg0.N) (j : Fin 1024) : iblk m c 5 t (ix2 0 j) = aGP m c (ix2 0 j) :=
  (rd5 (V m c main_v26) t j).trans (v26_at m c j)

/-- Any array's block of window 6 at point `t`. -/
theorem rd6 (A : FVec Ideal S1024x3584 .bf16) (t : Fin cfg0.N) (d : Fin 1024) (k : Fin 512) : ((cfg0.win 6).blk t).view.read (Elt Ideal) A (ix2 d k) = A (ix2 d (hid t k)) := by
  have ht := N_lt t
  blk_ext [idx t]

/-- The block of window 6 at point `t`. -/
theorem blk6 (t : Fin cfg0.N) (d : Fin 1024) (k : Fin 512) : iblk m c 6 t (ix2 d k) = aWG m c (ix3 0 d (hid t k)) :=
  (rd6 (V m c main_v28) t d k).trans (v28_at m c d (hid t k))

/-- Any array's block of window 7 at point `t`. -/
theorem rd7 (A : FVec Ideal S1024x3584 .bf16) (t : Fin cfg0.N) (d : Fin 1024) (k : Fin 512) : ((cfg0.win 7).blk t).view.read (Elt Ideal) A (ix2 d k) = A (ix2 d (hid t k)) := by
  have ht := N_lt t
  blk_ext [idx t]

/-- The block of window 7 at point `t`. -/
theorem blk7 (t : Fin cfg0.N) (d : Fin 1024) (k : Fin 512) : iblk m c 7 t (ix2 d k) = aWU m c (ix3 0 d (hid t k)) :=
  (rd7 (V m c main_v30) t d k).trans (v30_at m c d (hid t k))

/-- Any array's block of window 8 at point `t`. -/
theorem rd8 (A : FVec Ideal S3584x1024 .bf16) (t : Fin cfg0.N) (k : Fin 512) (j : Fin 1024) : ((cfg0.win 8).blk t).view.read (Elt Ideal) A (ix2 k j) = A (ix2 (hid t k) j) := by
  have ht := N_lt t
  blk_ext [idx t]

/-- The block of window 8 at point `t`. -/
theorem blk8 (t : Fin cfg0.N) (k : Fin 512) (j : Fin 1024) : iblk m c 8 t (ix2 k j) = aWD m c (ix3 0 (hid t k) j) :=
  (rd8 (V m c main_v32) t k j).trans (v32_at m c (hid t k) j)

/-- Any array's block of window 9 at point `t`. -/
theorem rd9 (A : FVec Ideal S1x1024 .f32) (t : Fin cfg0.N) (j : Fin 1024) : ((cfg0.win 9).blk t).view.read (Elt Ideal) A (ix2 0 j) = A (ix2 0 j) := by
  have ht := N_lt t
  blk_ext [idx t]

/-- The block of window 9 at point `t`. -/
theorem blk9 (t : Fin cfg0.N) (j : Fin 1024) : iblk m c 9 t (ix2 0 j) = aGF m c (ix2 0 j) :=
  (rd9 (V m c main_v35) t j).trans (v35_at m c j)

/-- Any array's block of window 10 at point `t`. -/
theorem rd10 (A : FVec Ideal S2x32768x256 .f32) (t : Fin cfg0.N) (r : Fin 1024) (k : Fin 256) : ((cfg0.win 10).blk t).view.read (Elt Ideal) A (ix3 0 r k) = A (ix3 0 (row t r) k) := by
  have ht := N_lt t
  blk_ext [idx t]

/-- The block of window 10 at point `t`. -/
theorem blk10 (t : Fin cfg0.N) (r : Fin 1024) (k : Fin 256) : iblk m c 10 t (ix3 0 r k) = aP m c (ix4 0 (rb (row t r)) (rs (row t r)) k) :=
  (rd10 (V m c main_v1) t r k).trans (v1_at m c 0 (row t r) k)

/-- Any array's block of window 11 at point `t`. -/
theorem rd11 (A : FVec Ideal S1x1024 .f32) (t : Fin cfg0.N) (j : Fin 1024) : ((cfg0.win 11).blk t).view.read (Elt Ideal) A (ix2 0 j) = A (ix2 0 j) := by
  have ht := N_lt t
  blk_ext [idx t]

/-- The block of window 11 at point `t`. -/
theorem blk11 (t : Fin cfg0.N) (j : Fin 1024) : iblk m c 11 t (ix2 0 j) = aGN m c (ix2 0 j) :=
  (rd11 (V m c main_v38) t j).trans (v38_at m c j)

/-- Any array's block of window 12 at point `t`. -/
theorem rd12 (A : FVec Ideal S1024x1024 .bf16) (t : Fin cfg0.N) (k j : Fin 1024) : ((cfg0.win 12).blk t).view.read (Elt Ideal) A (ix2 k j) = A (ix2 k j) := by
  have ht := N_lt t
  blk_ext [idx t]

/-- The block of window 12 at point `t`. -/
theorem blk12 (t : Fin cfg0.N) (k j : Fin 1024) : iblk m c 12 t (ix2 k j) = aPG m c (ix3 0 k j) :=
  (rd12 (V m c main_v41) t k j).trans (v41_at m c k j)

/-- Any array's block of window 13 at point `t`. -/
theorem rd13 (A : FVec Ideal S256x1024 .bf16) (t : Fin cfg0.N) (k : Fin 256) (j : Fin 1024) : ((cfg0.win 13).blk t).view.read (Elt Ideal) A (ix2 k j) = A (ix2 k j) := by
  have ht := N_lt t
  blk_ext [idx t]

/-- The block of window 13 at point `t`. -/
theorem blk13 (t : Fin cfg0.N) (k : Fin 256) (j : Fin 1024) : iblk m c 13 t (ix2 k j) = aPP m c (ix3 0 k j) :=
  (rd13 (V m c main_v44) t k j).trans (v44_at m c k j)

/-- Any array's block of window 14 at point `t`. -/
theorem rd14 (A : FVec Ideal S1x1024 .f32) (t : Fin cfg0.N) (j : Fin 1024) : ((cfg0.win 14).blk t).view.read (Elt Ideal) A (ix2 0 j) = A (ix2 0 j) := by
  have ht := N_lt t
  blk_ext [idx t]

/-- The block of window 14 at point `t`. -/
theorem blk14 (t : Fin cfg0.N) (j : Fin 1024) : iblk m c 14 t (ix2 0 j) = aGE m c (ix2 0 j) :=
  (rd14 (V m c main_v47) t j).trans (v47_at m c j)

end Cert.TailIdeal.Block

end
-- ==== Proof.TailPay.lean ====
/- What the tail kernel's body computes on one chunk of 256 rows, element by element. -/
module

public import proofs.«01_k».proof.Proof.Gen.TailIdeal.Skeleton
public import Idealize.ShloMosaic.PureOps.Ideal
public import proofs.«01_k».proof.Proof.TailMath
public import Idealize.ShloMosaic.Lib.Pointwise.Index
import Idealize.ShloMosaic.Lib.Pipeline.ValueKit

@[expose] public section

set_option maxRecDepth 16384

noncomputable section

namespace Cert.TailIdeal.Block

open Cert.TailIdeal Cert.TailIdeal.Gen Idealize.ShloMosaic Cert.TailMath

/-! ### One chunk's stages, however the body spells them -/

/-- The two half products of the output projection, added. -/
abbrev mixV (a : Vec Ideal S256x512 .bf16) (w : Vec Ideal S512x1024 .bf16) (b : Vec Ideal S256x512 .bf16) (u : Vec Ideal S512x1024 .bf16) :
    FVec Ideal S256x1024 .f32 := k0_pay10 a w b u

/-- A chunk's rows normalised and scaled. -/
abbrev nrmV (v : FVec Ideal S256x1024 .f32) (g : Vec Ideal S1x1024 .f32) : FVec Ideal S256x1024 .bf16 := k0_pay9 v g

/-- A chunk's residual plus the normalised branch. -/
def resV (h : Vec Ideal S256x1024 .f32) (v : FVec Ideal S256x1024 .f32) (g : Vec Ideal S1x1024 .f32) : FVec Ideal S256x1024 .f32 := k0_pay20 h v g

/-- The gated embedding of a chunk: its projection times the logistic gate. -/
def pleV (n : FVec Ideal S256x1024 .bf16) (p : Vec Ideal S1x256x256 .f32) (w : Vec Ideal S1024x1024 .bf16) (wp : Vec Ideal S256x1024 .bf16) :
    FVec Ideal S256x1024 .f32 :=
  mulf (matmul dot_S256x256_S256x1024_S256x1024_1_0_0_1_n_n none (truncf .bf16 (k0_pay21 p) bitsLt_bf16_f32) (k0_pay24 wp) (constant S256x1024 .f32 0x00000000#32))
    (divf (broadcast S256x1024 (Scalar.ofBits .f32 0x3F800000#32))
      (addf (broadcast S256x1024 (Scalar.ofBits .f32 0x3F800000#32))
        (exp (subf (broadcast S256x1024 (Scalar.ofBits .f32 0x00000000#32))
          (matmul dot_S256x1024_S1024x1024_S256x1024_1_0_0_1_n_n none n (k0_pay23 w) (constant S256x1024 .f32 0x00000000#32))))))

/-- The reciprocal root mean square of each row, spread over the row's lanes. -/
def rsV (v : FVec Ideal S256x1024 .f32) : FVec Ideal S256x1024 .f32 :=
  broadcastTo S256x1024 (rsqrt (addf (divf (shapeCast S256x1 (multiReduction .add [1] S256 (mulf v v) 0x00000000#32 reduces_S256x1024_S256 (.inl rfl) rfl) shapeCasts_S256_S256x1)
    (broadcast S256x1 (Scalar.ofBits .f32 0x44800000#32))) (broadcast S256x1 (Scalar.ofBits .f32 0x358637BD#32)))) broadcasts_S256x1_S256x1024

/-- A chunk's rows normalised and scaled, before the gate's product. -/
def nV (v : FVec Ideal S256x1024 .f32) (g : Vec Ideal S1x1024 .f32) : FVec Ideal S256x1024 .bf16 :=
  truncf .bf16 (mulf (mulf v (rsV v)) (broadcastTo S256x1024 (shapeCast S1x1024 g shapeCasts_S1x1024_S1x1024) broadcasts_S1x1024_S256x1024)) bitsLt_bf16_f32

/-- The final rows of a chunk, from its residual rows after the gated unit. -/
def finV (v : FVec Ideal S256x1024 .f32) (p : Vec Ideal S1x256x256 .f32) (gn : Vec Ideal S1x1024 .f32) (w : Vec Ideal S1024x1024 .bf16)
    (wp : Vec Ideal S256x1024 .bf16) (g : Vec Ideal S1x1024 .f32) : FVec Ideal S256x1024 .f32 :=
  k0_pay35 v (k0_pay33 g) (pleV (nV v gn) p w wp)

section spell
variable (a : Vec Ideal S256x512 .bf16) (w : Vec Ideal S512x1024 .bf16) (b : Vec Ideal S256x512 .bf16) (u : Vec Ideal S512x1024 .bf16)
  (h : Vec Ideal S256x1024 .f32) (g : Vec Ideal S1x1024 .f32) (g2 : Vec Ideal S1x1024 .f32)
  (v : Vec Ideal S256x1024 .f32) (p : Vec Ideal S1x256x256 .f32) (gn : Vec Ideal S1x1024 .f32) (wg : Vec Ideal S1024x1024 .bf16) (wp : Vec Ideal S256x1024 .bf16)
theorem sp0 : k0_pay4 a w b u h g = resV h (mixV a w b u) g := rfl
theorem sp1 : k0_pay8 a w b u h g = resV h (mixV a w b u) g := rfl
theorem sp2 : k0_pay14 (k0_pay10 a w b u) (k0_pay11 h) (k0_pay12 g) (k0_pay13 a w b u) = resV h (mixV a w b u) g := rfl
theorem sp3 : k0_pay18 (k0_pay16 a w) (k0_pay17 b) u h g = resV h (mixV a w b u) g := rfl
theorem sp4 : k0_pay7 (resV h (mixV a w b u) g) (k0_pay5 g2) (k0_pay6 a w b u h g) = nrmV (resV h (mixV a w b u) g) g2 := rfl
theorem sp5 : k0_pay15 (k0_pay10 a w b u) (k0_pay11 h) (k0_pay12 g) (k0_pay13 a w b u) g2 = nrmV (resV h (mixV a w b u) g) g2 := rfl
theorem sp6 : k0_pay19 (k0_pay16 a w) (k0_pay17 b) u h g g2 = nrmV (resV h (mixV a w b u) g) g2 := rfl
theorem sq1 : k0_pay26 h v g = rsV (k0_pay20 h v g) := rfl
theorem sq2 : k0_pay47 h v g = rsV (k0_pay41 h v g) := rfl
theorem sq3 : k0_pay41 h v g = resV h v g := rfl
theorem sq4 : k0_pay36 h v g = resV h v g := rfl
theorem sq5 : k0_pay32 (k0_pay28 h) v (k0_pay29 g) (k0_pay30 v) k0_pay31 = resV h v g := rfl
theorem sq6 (A v : FVec Ideal S256x1024 .f32) (B : FVec Ideal S1x1024 .f32) (C D : FVec Ideal S256x1 .f32) :
    k0_pay34 A v B C D p gn wg wp = pleV (nV (k0_pay32 A v B C D) gn) p wg wp := by
  unfold k0_pay34 pleV nV rsV k0_pay21 k0_pay23 k0_pay24
  rfl
theorem sq7 (V : FVec Ideal S256x1024 .f32) : k0_pay40 V (k0_pay37 p) (k0_pay38 gn) (k0_pay39 wg) wp g2 = finV V p gn wg wp g2 := by
  unfold finV pleV nV rsV k0_pay35 k0_pay33 k0_pay40 k0_pay37 k0_pay38 k0_pay39 k0_pay21 k0_pay23 k0_pay24
  rfl
theorem sq8 (V : FVec Ideal S256x1024 .f32) : k0_pay27 V (k0_pay21 p) (k0_pay22 gn) (k0_pay23 wg) (k0_pay24 wp) (k0_pay25 g2) (rsV V)
    = finV V p gn wg wp g2 := by
  unfold finV pleV nV rsV k0_pay35 k0_pay33 k0_pay27 k0_pay25 k0_pay22 k0_pay21 k0_pay23 k0_pay24
  rfl
theorem sq9 (V : FVec Ideal S256x1024 .f32) : k0_pay3 V (k0_pay42 p) (k0_pay43 gn) (k0_pay44 wg) (k0_pay45 wp) (k0_pay46 g2) (rsV V)
    = finV V p gn wg wp g2 := by
  unfold finV pleV nV rsV k0_pay35 k0_pay33 k0_pay3 k0_pay42 k0_pay43 k0_pay44 k0_pay45 k0_pay46 k0_pay21 k0_pay23 k0_pay24
  rfl
theorem sp7 : k0_pay27 (k0_pay20 h v g) (k0_pay21 p) (k0_pay22 gn) (k0_pay23 wg) (k0_pay24 wp) (k0_pay25 g2) (k0_pay26 h v g)
    = finV (resV h v g) p gn wg wp g2 := by
  rw [sq1, sq8]
  rfl
theorem sp8 : k0_pay35 (k0_pay32 (k0_pay28 h) v (k0_pay29 g) (k0_pay30 v) k0_pay31) (k0_pay33 g2)
      (k0_pay34 (k0_pay28 h) v (k0_pay29 g) (k0_pay30 v) k0_pay31 p gn wg wp) = finV (resV h v g) p gn wg wp g2 := by
  rw [sq6, sq5, finV]
theorem sp9 : k0_pay40 (k0_pay36 h v g) (k0_pay37 p) (k0_pay38 gn) (k0_pay39 wg) wp g2 = finV (resV h v g) p gn wg wp g2 := by
  rw [sq7, sq4]
theorem sp10 : k0_pay3 (k0_pay41 h v g) (k0_pay42 p) (k0_pay43 gn) (k0_pay44 wg) (k0_pay45 wp) (k0_pay46 g2) (k0_pay47 h v g)
    = finV (resV h v g) p gn wg wp g2 := by
  rw [sq2, sq9, sq3]
end spell

theorem nrm_at (v : FVec Ideal S256x1024 .f32) (g : Vec Ideal S1x1024 .f32) (r : Fin 256) (j : Fin 1024) :
    nrmV v g (ix2 r j) = rms (fun k => v (ix2 r k)) (fun k => g (ix2 0 k)) j := by
  unfold nrmV rms
  pointwise [k0_pay9]

theorem n_at (v : FVec Ideal S256x1024 .f32) (g : Vec Ideal S1x1024 .f32) (r : Fin 256) (j : Fin 1024) :
    nV v g (ix2 r j) = rms (fun k => v (ix2 r k)) (fun k => g (ix2 0 k)) j := by
  unfold nV rsV rms
  pointwise []

theorem res_at (h : Vec Ideal S256x1024 .f32) (v : FVec Ideal S256x1024 .f32) (g : Vec Ideal S1x1024 .f32) (r : Fin 256) (j : Fin 1024) :
    resV h v g (ix2 r j) = h (ix2 r j) + rms (fun k => v (ix2 r k)) (fun k => g (ix2 0 k)) j := by
  unfold resV rms
  pointwise [k0_pay20]

theorem mix_at (a : Vec Ideal S256x512 .bf16) (w : Vec Ideal S512x1024 .bf16) (b : Vec Ideal S256x512 .bf16) (u : Vec Ideal S512x1024 .bf16)
    (r : Fin 256) (j : Fin 1024) :
    mixV a w b u (ix2 r j) = (∑ k : Fin 512, a (ix2 r k) * w (ix2 k j)) + ∑ k : Fin 512, b (ix2 r k) * u (ix2 k j) := by
  unfold mixV
  pointwise [k0_pay10]

theorem ple_at (n : FVec Ideal S256x1024 .bf16) (p : Vec Ideal S1x256x256 .f32) (w : Vec Ideal S1024x1024 .bf16) (wp : Vec Ideal S256x1024 .bf16)
    (r : Fin 256) (j : Fin 1024) :
    pleV n p w wp (ix2 r j) = (∑ k : Fin 256, p (ix3 0 r k) * wp (ix2 k j)) * lgst (∑ k : Fin 1024, n (ix2 r k) * w (ix2 k j)) := by
  unfold pleV lgst
  pointwise [k0_pay21, k0_pay23, k0_pay24]

theorem fin_at0 (v : FVec Ideal S256x1024 .f32) (g : Vec Ideal S1x1024 .f32) (e : FVec Ideal S256x1024 .f32) (r : Fin 256) (j : Fin 1024) :
    k0_pay35 v (k0_pay33 g) e (ix2 r j) = v (ix2 r j) + rms (fun k => e (ix2 r k)) (fun k => g (ix2 0 k)) j := by
  unfold rms
  pointwise [k0_pay35, k0_pay33]

/-- The gated unit's partial product accumulated at one grid point. -/
theorem acc_at (a : Vec Ideal S1024x1024 .bf16) (wg wu : Vec Ideal S1024x512 .bf16) (x : Vec Ideal S1024x1024 .f32) (wd : Vec Ideal S512x1024 .bf16)
    (r j : Fin 1024) :
    k0_pay2 a wg wu x wd (ix2 r j) = x (ix2 r j) + ∑ k : Fin 512,
      (∑ d : Fin 1024, a (ix2 r d) * wg (ix2 d k)) * lgst (∑ d : Fin 1024, a (ix2 r d) * wg (ix2 d k)) * (∑ d : Fin 1024, a (ix2 r d) * wu (ix2 d k)) * wd (ix2 k j) := by
  unfold lgst
  pointwise [k0_pay2]

theorem zero_at (r j : Fin 1024) : (k0_pay1 : FVec Ideal S1024x1024 .f32) (ix2 r j) = 0 := by
  pointwise [k0_pay1]

end Cert.TailIdeal.Block

end
-- ==== Proof.TailCase.lean ====
/- What each kind of grid point of the tail kernel leaves in its output block and scratch, element by element. -/
module

public import proofs.«01_k».proof.Proof.Gen.TailIdeal.Frame
public import proofs.«01_k».proof.Proof.TailPay
public import proofs.«01_k».proof.Proof.TailMath
public import Idealize.ShloMosaic.PureOps.Ideal
public import Idealize.ShloMosaic.Lib.Pointwise.Index
import Idealize.ShloMosaic.Lib.Pipeline.ValueKit

@[expose] public section

set_option maxRecDepth 16384

noncomputable section

namespace Cert.TailIdeal.Block

open Cert.TailIdeal Cert.TailIdeal.Gen Idealize.ShloMosaic Cert.TailMath

theorem fin_at (v : FVec Ideal S256x1024 .f32) (p : Vec Ideal S1x256x256 .f32) (gn : Vec Ideal S1x1024 .f32) (w : Vec Ideal S1024x1024 .bf16)
    (wp : Vec Ideal S256x1024 .bf16) (g : Vec Ideal S1x1024 .f32) (r : Fin 256) (j : Fin 1024) :
    finV v p gn w wp g (ix2 r j) = v (ix2 r j) + rms (fun c => (∑ k : Fin 256, p (ix3 0 r k) * wp (ix2 k c))
      * lgst (∑ k : Fin 1024, rms (fun k => v (ix2 r k)) (fun k => gn (ix2 0 k)) k * w (ix2 k c))) (fun k => g (ix2 0 k)) j := by
  unfold finV
  rw [fin_at0]
  simp only [ple_at, n_at]

/-! ### The loads, element by element -/

theorem hz : (![0, 0] : Fin 2 → Nat) = fun _ => 0 := funext fun a => by fin_cases a <;> rfl

/-- Row `r` of the chunk starting at row `o` is row `o + r` of the block. -/
theorem ld_row {n : ℕ} {e : EltTy} (X : Vec Ideal ⟨2, ![1024, n]⟩ e) (o : ℕ) (inb : ∀ a, (![o, 0] : Fin 2 → ℕ) a + (![256, n] : Fin 2 → ℕ) a ≤ (⟨2, ![1024, n]⟩ : Shape).size a)
    (r : Fin 256) (j : Fin n) (h : o + r < 1024) :
    View.ld X (Rect.unit (s := ⟨2, ![1024, n]⟩) ![o, 0] ![256, n] inb) (ix2 r j) = X (ix2 ⟨o + r, h⟩ j) := by
  refine congrArg X (funext fun a => Fin.ext ?_)
  match a with
  | ⟨0, _⟩ => show o + 1 * (r : ℕ) = o + r; omega
  | ⟨1, _⟩ => show 0 + 1 * (j : ℕ) = j; omega

/-- Row `r` of the half starting at row `o` is row `o + r` of the weights. -/
theorem ld_half {e : EltTy} (X : Vec Ideal S1024x1024 e) (o : ℕ) (inb : ∀ a, (![o, 0] : Fin 2 → ℕ) a + (![512, 1024] : Fin 2 → ℕ) a ≤ S1024x1024.size a)
    (r : Fin 512) (j : Fin 1024) (h : o + r < 1024) :
    View.ld X (Rect.unit (s := S1024x1024) ![o, 0] ![512, 1024] inb) (ix2 r j) = X (ix2 ⟨o + r, h⟩ j) := by
  refine congrArg X (funext fun a => Fin.ext ?_)
  match a with
  | ⟨0, _⟩ => show o + 1 * (r : ℕ) = o + r; omega
  | ⟨1, _⟩ => show 0 + 1 * (j : ℕ) = j; omega

/-- Row `r` of the chunk starting at row `o` of the per-layer embedding block. -/
theorem ld_emb {e : EltTy} (X : Vec Ideal S1x1024x256 e) (o : ℕ) (inb : ∀ a, (![0, o, 0] : Fin 3 → ℕ) a + (![1, 256, 256] : Fin 3 → ℕ) a ≤ S1x1024x256.size a)
    (r : Fin 256) (j : Fin 256) (h : o + r < 1024) :
    View.ld X (Rect.unit (s := S1x1024x256) ![0, o, 0] ![1, 256, 256] inb) (ix3 0 r j) = X (ix3 0 ⟨o + r, h⟩ j) := by
  refine congrArg X (funext fun a => Fin.ext ?_)
  match a with
  | ⟨0, _⟩ => rfl
  | ⟨1, _⟩ => show o + 1 * (r : ℕ) = o + r; omega
  | ⟨2, _⟩ => show 0 + 1 * (j : ℕ) = j; omega

theorem emb_row (o : ℕ) (inb : ∀ a, (![o, 0] : Fin 2 → ℕ) a + (![256, 1024] : Fin 2 → ℕ) a ≤ S1024x1024.size a) (r : Fin 256) (j : Fin 1024) (h : o + r < 1024) :
    (Rect.unit (s := S1024x1024) ![o, 0] ![256, 1024] inb).emb (ix2 r j) = ix2 ⟨o + r, h⟩ j := by
  refine funext fun a => Fin.ext ?_
  match a with
  | ⟨0, _⟩ => show o + 1 * (r : ℕ) = o + r; omega
  | ⟨1, _⟩ => show 0 + 1 * (j : ℕ) = j; omega

/-- Four chunks of 256 rows stored one below the other are the block whose rows they are. -/
theorem canon4 {e : EltTy} (G : S1024x1024.Idx → Elt Ideal e) (w3 w2 w1 w0 : S256x1024.Idx → Elt Ideal e)
    (h3 : ∀ (r : Fin 256) (j : Fin 1024), w3 (ix2 r j) = G (ix2 ⟨768 + r, by omega⟩ j))
    (h2 : ∀ (r : Fin 256) (j : Fin 1024), w2 (ix2 r j) = G (ix2 ⟨512 + r, by omega⟩ j))
    (h1 : ∀ (r : Fin 256) (j : Fin 1024), w1 (ix2 r j) = G (ix2 ⟨256 + r, by omega⟩ j))
    (h0 : ∀ (r : Fin 256) (j : Fin 1024), w0 (ix2 r j) = G (ix2 ⟨0 + r, by omega⟩ j)) :
    View.canon (Val := Elt Ideal) (s := S1024x1024) (e := e) [⟨Rect.unit ![768, 0] ![256, 1024] inb_S1024x1024_S256x1024_768_0, w3⟩,
      ⟨Rect.unit ![512, 0] ![256, 1024] inb_S1024x1024_S256x1024_512_0, w2⟩,
      ⟨Rect.unit ![256, 0] ![256, 1024] inb_S1024x1024_S256x1024_256_0, w1⟩,
      ⟨Rect.unit ![0, 0] ![256, 1024] inb_S1024x1024_S256x1024_0_0, w0⟩] = G := by
  have key : ∀ (o : ℕ) (inb : ∀ a, (![o, 0] : Fin 2 → ℕ) a + (![256, 1024] : Fin 2 → ℕ) a ≤ S1024x1024.size a) (ho : o ≤ 768) (w : S256x1024.Idx → Elt Ideal e)
      (_ : ∀ (r : Fin 256) (j : Fin 1024), w (ix2 r j) = G (ix2 ⟨o + r, by omega⟩ j)) (x : S256x1024.Idx),
      w x = G ((Rect.unit (s := S1024x1024) ![o, 0] ![256, 1024] inb).emb x) := by
    intro o inb ho w h x
    idx_vars x
    rw [h, emb_row]
  funext y
  refine View.canon_apply_of_pieces G _ ?_ y (View.cover_of_tiledL (s := S1024x1024) _ S256x1024.size (by sl_kernel_rfl) y)
  intro pc hpc
  rcases List.mem_cons.mp hpc with rfl | hpc
  · exact key 768 inb_S1024x1024_S256x1024_768_0 (by omega) w3 h3
  rcases List.mem_cons.mp hpc with rfl | hpc
  · exact key 512 inb_S1024x1024_S256x1024_512_0 (by omega) w2 h2
  rcases List.mem_cons.mp hpc with rfl | hpc
  · exact key 256 inb_S1024x1024_S256x1024_256_0 (by omega) w1 h1
  rcases List.mem_cons.mp hpc with rfl | hpc
  · exact key 0 inb_S1024x1024_S256x1024_0_0 (by omega) w0 h0
  · nomatch hpc

/-! ### What a grid point computes, row by row of its blocks -/

/-- The output projection of one row. -/
def mixB (x0 x1 : Vec Ideal S1024x512 .bf16) (x2 : Vec Ideal S1024x1024 .bf16) (r j : Fin 1024) : EReal :=
  (∑ k : Fin 512, x0 (ix2 r k) * x2 (ix2 ⟨k, by omega⟩ j)) + ∑ k : Fin 512, x1 (ix2 r k) * x2 (ix2 ⟨512 + k, by omega⟩ j)

/-- The residual after the mixing branch. -/
def h1B (x0 x1 : Vec Ideal S1024x512 .bf16) (x2 : Vec Ideal S1024x1024 .bf16) (x3 : Vec Ideal S1x1024 .f32) (x4 : Vec Ideal S1024x1024 .f32) (r j : Fin 1024) : EReal :=
  x4 (ix2 r j) + rms (mixB x0 x1 x2 r) (fun k => x3 (ix2 0 k)) j

/-- What the gated unit is applied to. -/
def aB (x0 x1 : Vec Ideal S1024x512 .bf16) (x2 : Vec Ideal S1024x1024 .bf16) (x3 : Vec Ideal S1x1024 .f32) (x4 : Vec Ideal S1024x1024 .f32)
    (x5 : Vec Ideal S1x1024 .f32) (r j : Fin 1024) : EReal :=
  rms (h1B x0 x1 x2 x3 x4 r) (fun k => x5 (ix2 0 k)) j

/-- One chunk's share of the gated unit. -/
def partB (a : Fin 1024 → EReal) (x6 x7 : Vec Ideal S1024x512 .bf16) (x8 : Vec Ideal S512x1024 .bf16) (j : Fin 1024) : EReal :=
  ∑ k : Fin 512, (∑ d : Fin 1024, a d * x6 (ix2 d k)) * lgst (∑ d : Fin 1024, a d * x6 (ix2 d k)) * (∑ d : Fin 1024, a d * x7 (ix2 d k)) * x8 (ix2 k j)

/-- The residual after the gated unit. -/
def h2B (xo : Vec Ideal S1024x1024 .f32) (f : Fin 1024 → Fin 1024 → EReal) (x9 : Vec Ideal S1x1024 .f32) (r j : Fin 1024) : EReal :=
  xo (ix2 r j) + rms (f r) (fun k => x9 (ix2 0 k)) j

/-- The final row: the residual plus the normalised gated embedding. -/
def finB (h : Fin 1024 → Fin 1024 → EReal) (x10 : Vec Ideal S1x1024x256 .f32) (x11 : Vec Ideal S1x1024 .f32) (x12 : Vec Ideal S1024x1024 .bf16)
    (x13 : Vec Ideal S256x1024 .bf16) (x14 : Vec Ideal S1x1024 .f32) (r j : Fin 1024) : EReal :=
  h r j + rms (fun c => (∑ k : Fin 256, x10 (ix3 0 r k) * x13 (ix2 k c))
    * lgst (∑ k : Fin 1024, rms (h r) (fun k => x11 (ix2 0 k)) k * x12 (ix2 k c))) (fun k => x14 (ix2 0 k)) j

section chunks
variable (o : ℕ) (ho : o ≤ 768)
  (i5 : ∀ a, (![o, 0] : Fin 2 → ℕ) a + (![256, 512] : Fin 2 → ℕ) a ≤ S1024x512.size a)
  (i5' : ∀ a, (![o, 0] : Fin 2 → ℕ) a + (![256, 512] : Fin 2 → ℕ) a ≤ S1024x512.size a)
  (i1 i1' : ∀ a, (![o, 0] : Fin 2 → ℕ) a + (![256, 1024] : Fin 2 → ℕ) a ≤ S1024x1024.size a)
  (it : ∀ a, (![0, 0] : Fin 2 → ℕ) a + (![512, 1024] : Fin 2 → ℕ) a ≤ S1024x1024.size a)
  (ib : ∀ a, (![512, 0] : Fin 2 → ℕ) a + (![512, 1024] : Fin 2 → ℕ) a ≤ S1024x1024.size a)
  (ip : ∀ a, (![0, o, 0] : Fin 3 → ℕ) a + (![1, 256, 256] : Fin 3 → ℕ) a ≤ S1x1024x256.size a)
  (x0 x1 : Vec Ideal S1024x512 .bf16) (x2 : Vec Ideal S1024x1024 .bf16) (x3 : Vec Ideal S1x1024 .f32) (x4 : Vec Ideal S1024x1024 .f32)
  (x5 : Vec Ideal S1x1024 .f32)

include ho in
theorem h1_at (r : Fin 256) (j : Fin 1024) :
    resV (View.ld x4 (Rect.unit ![o, 0] ![256, 1024] i1))
      (mixV (View.ld x0 (Rect.unit ![o, 0] ![256, 512] i5)) (View.ld x2 (Rect.unit ![0, 0] ![512, 1024] it))
        (View.ld x1 (Rect.unit ![o, 0] ![256, 512] i5')) (View.ld x2 (Rect.unit ![512, 0] ![512, 1024] ib))) x3 (ix2 r j)
      = h1B x0 x1 x2 x3 x4 ⟨o + r, by omega⟩ j := by
  rw [res_at, h1B, ld_row x4 o i1 r j (by omega)]
  refine congrArg (fun f => _ + rms f _ j) (funext fun c => ?_)
  rw [mix_at, mixB]
  refine congrArg₂ (fun x y : EReal => x + y) (Finset.sum_congr rfl fun k _ => ?_) (Finset.sum_congr rfl fun k _ => ?_)
  · rw [ld_row x0 o i5 r k (by omega), ld_half x2 0 it k c (by omega)]
    exact congrArg (fun q => _ * x2 (ix2 q c)) (Fin.ext (by show 0 + (k : ℕ) = k; omega))
  · rw [ld_row x1 o i5' r k (by omega), ld_half x2 512 ib k c (by omega)]

include ho in
theorem a_at (r : Fin 256) (j : Fin 1024) :
    nrmV (resV (View.ld x4 (Rect.unit ![o, 0] ![256, 1024] i1))
      (mixV (View.ld x0 (Rect.unit ![o, 0] ![256, 512] i5)) (View.ld x2 (Rect.unit ![0, 0] ![512, 1024] it))
        (View.ld x1 (Rect.unit ![o, 0] ![256, 512] i5')) (View.ld x2 (Rect.unit ![512, 0] ![512, 1024] ib))) x3) x5 (ix2 r j)
      = aB x0 x1 x2 x3 x4 x5 ⟨o + r, by omega⟩ j := by
  rw [nrm_at, aB]
  exact congrArg (fun f => rms f _ j) (funext fun c => h1_at o ho i5 i5' i1 it ib x0 x1 x2 x3 x4 r c)

include ho in
theorem last_at (xo acc : Vec Ideal S1024x1024 .f32) (x9 : Vec Ideal S1x1024 .f32) (x10 : Vec Ideal S1x1024x256 .f32) (x11 : Vec Ideal S1x1024 .f32)
    (x12 : Vec Ideal S1024x1024 .bf16) (x13 : Vec Ideal S256x1024 .bf16) (x14 : Vec Ideal S1x1024 .f32) (r : Fin 256) (j : Fin 1024) :
    finV (resV (View.ld xo (Rect.unit ![o, 0] ![256, 1024] i1)) (View.ld acc (Rect.unit ![o, 0] ![256, 1024] i1')) x9)
      (View.ld x10 (Rect.unit ![0, o, 0] ![1, 256, 256] ip)) x11 x12 x13 x14 (ix2 r j)
      = finB (h2B xo (fun r k => acc (ix2 r k)) x9) x10 x11 x12 x13 x14 ⟨o + r, by omega⟩ j := by
  have e : ∀ c, resV (View.ld xo (Rect.unit ![o, 0] ![256, 1024] i1)) (View.ld acc (Rect.unit ![o, 0] ![256, 1024] i1')) x9 (ix2 r c)
      = h2B xo (fun r k => acc (ix2 r k)) x9 ⟨o + r, by omega⟩ c := by
    intro c
    rw [res_at, h2B, ld_row xo o i1 r c (by omega)]
    exact congrArg (fun f => _ + rms f _ c) (funext fun k => ld_row acc o i1' r k (by omega))
  rw [fin_at, finB, e]
  simp only [e]
  refine congrArg (fun f => _ + rms f _ j) (funext fun c => ?_)
  refine congrArg (fun s : EReal => s * _) (Finset.sum_congr rfl fun k _ => ?_)
  rw [ld_emb x10 o ip r k (by omega)]
end chunks

/-- The first store over a whole block read back through a smaller rectangle. -/
theorem rc (v : View sig .tc .vmem S1024x1024 .f32) (inb) (w : Vec Ideal S1024x1024 .f32) (r : Rect S1024x1024) :
    v.readCov [⟨Rect.unit ![0, 0] ![1024, 1024] inb, w⟩] r.toLoadRect = View.ld w r := by
  rw [View.readCov_eq_canon', View.canon_unit_zero (S := S1024x1024) hz]

/-! ### The three kinds of grid point -/

/-- A first point leaves the residual after the mixing branch in the output block. -/
theorem out_A (c : Dev nD) (i : grid0.Coords) (a0 : Memref sig .tc .vmem S1024x512 .bf16) (h0 : a0.IsWhole) (a1 : Memref sig .tc .vmem S1024x512 .bf16) (h1 : a1.IsWhole) (a2 : Memref sig .tc .vmem S1024x1024 .bf16) (h2 : a2.IsWhole) (a3 : Memref sig .tc .vmem S1x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x512 .bf16) (h6 : a6.IsWhole) (a7 : Memref sig .tc .vmem S1024x512 .bf16) (h7 : a7.IsWhole) (a8 : Memref sig .tc .vmem S512x1024 .bf16) (h8 : a8.IsWhole) (a9 : Memref sig .tc .vmem S1x1024 .f32) (h9 : a9.IsWhole) (a10 : Memref sig .tc .vmem S1x1024x256 .f32) (h10 : a10.IsWhole) (a11 : Memref sig .tc .vmem S1x1024 .f32) (h11 : a11.IsWhole) (a12 : Memref sig .tc .vmem S1024x1024 .bf16) (h12 : a12.IsWhole) (a13 : Memref sig .tc .vmem S256x1024 .bf16) (h13 : a13.IsWhole) (a14 : Memref sig .tc .vmem S1x1024 .f32) (h14 : a14.IsWhole) (a15 : Memref sig .tc .vmem S1024x1024 .f32) (h15 : a15.IsWhole) (a16 : Memref sig .tc .vmem S1024x1024 .bf16) (h16 : a16.IsWhole) (a17 : Memref sig .tc .vmem S1024x1024 .f32) (h17 : a17.IsWhole)
    (hc0 : cond0_0 i) (hc1 : ¬cond0_1 i)
    (x0 : Vec Ideal S1024x512 .bf16) (x1 : Vec Ideal S1024x512 .bf16) (x2 : Vec Ideal S1024x1024 .bf16) (x3 : Vec Ideal S1x1024 .f32) (x4 : Vec Ideal S1024x1024 .f32) (x5 : Vec Ideal S1x1024 .f32) (x6 : Vec Ideal S1024x512 .bf16) (x7 : Vec Ideal S1024x512 .bf16) (x8 : Vec Ideal S512x1024 .bf16) (x9 : Vec Ideal S1x1024 .f32) (x10 : Vec Ideal S1x1024x256 .f32) (x11 : Vec Ideal S1x1024 .f32) (x12 : Vec Ideal S1024x1024 .bf16) (x13 : Vec Ideal S256x1024 .bf16) (x14 : Vec Ideal S1x1024 .f32)  (r j : Fin 1024) :
    out0_A_15 c i a0 h0 a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 x9 x10 x11 x12 x13 x14 (ix2 r j) = h1B x0 x1 x2 x3 x4 r j := by
  unfold out0_A_15
  rw [View.read_writes_junk_eq_canon]
  unfold kernelRun0_A
  dsimp only
  sl_unfold_words
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread]
  simp only [View.ld_unit_zero (S := S1x1024) hz, View.ld_unit_zero (S := S1024x1024) hz, View.ld_unit_zero (S := S1024x512) hz, View.ld_unit_zero (S := S512x1024) hz, View.ld_unit_zero (S := S256x1024) hz]
  simp only [sp0, sp1, sp2, sp3, sp4, sp5, sp6, sp7, sp8, sp9, sp10]
  rw [canon4 (fun y => h1B x0 x1 x2 x3 x4 (y 0) (y 1)) _ _ _ _
    (fun r j => h1_at 768 (by omega) _ _ _ _ _ x0 x1 x2 x3 x4 r j) (fun r j => h1_at 512 (by omega) _ _ _ _ _ x0 x1 x2 x3 x4 r j)
    (fun r j => h1_at 256 (by omega) _ _ _ _ _ x0 x1 x2 x3 x4 r j) (fun r j => h1_at 0 (by omega) _ _ _ _ _ x0 x1 x2 x3 x4 r j)]
  rfl

/-- A first point leaves what the gated unit is applied to in the first scratch. -/
theorem act_A (c : Dev nD) (i : grid0.Coords) (a0 : Memref sig .tc .vmem S1024x512 .bf16) (h0 : a0.IsWhole) (a1 : Memref sig .tc .vmem S1024x512 .bf16) (h1 : a1.IsWhole) (a2 : Memref sig .tc .vmem S1024x1024 .bf16) (h2 : a2.IsWhole) (a3 : Memref sig .tc .vmem S1x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x512 .bf16) (h6 : a6.IsWhole) (a7 : Memref sig .tc .vmem S1024x512 .bf16) (h7 : a7.IsWhole) (a8 : Memref sig .tc .vmem S512x1024 .bf16) (h8 : a8.IsWhole) (a9 : Memref sig .tc .vmem S1x1024 .f32) (h9 : a9.IsWhole) (a10 : Memref sig .tc .vmem S1x1024x256 .f32) (h10 : a10.IsWhole) (a11 : Memref sig .tc .vmem S1x1024 .f32) (h11 : a11.IsWhole) (a12 : Memref sig .tc .vmem S1024x1024 .bf16) (h12 : a12.IsWhole) (a13 : Memref sig .tc .vmem S256x1024 .bf16) (h13 : a13.IsWhole) (a14 : Memref sig .tc .vmem S1x1024 .f32) (h14 : a14.IsWhole) (a15 : Memref sig .tc .vmem S1024x1024 .f32) (h15 : a15.IsWhole) (a16 : Memref sig .tc .vmem S1024x1024 .bf16) (h16 : a16.IsWhole) (a17 : Memref sig .tc .vmem S1024x1024 .f32) (h17 : a17.IsWhole)
    (hc0 : cond0_0 i) (hc1 : ¬cond0_1 i)
    (x0 : Vec Ideal S1024x512 .bf16) (x1 : Vec Ideal S1024x512 .bf16) (x2 : Vec Ideal S1024x1024 .bf16) (x3 : Vec Ideal S1x1024 .f32) (x4 : Vec Ideal S1024x1024 .f32) (x5 : Vec Ideal S1x1024 .f32) (x6 : Vec Ideal S1024x512 .bf16) (x7 : Vec Ideal S1024x512 .bf16) (x8 : Vec Ideal S512x1024 .bf16) (x9 : Vec Ideal S1x1024 .f32) (x10 : Vec Ideal S1x1024x256 .f32) (x11 : Vec Ideal S1x1024 .f32) (x12 : Vec Ideal S1024x1024 .bf16) (x13 : Vec Ideal S256x1024 .bf16) (x14 : Vec Ideal S1x1024 .f32)  (r j : Fin 1024) :
    sout0_A_0 c i a0 h0 a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 x9 x10 x11 x12 x13 x14 (ix2 r j) = aB x0 x1 x2 x3 x4 x5 r j := by
  unfold sout0_A_0
  rw [View.read_writes_junk_eq_canon]
  unfold kernelRun0_A
  dsimp only
  sl_unfold_words
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread]
  simp only [View.ld_unit_zero (S := S1x1024) hz, View.ld_unit_zero (S := S1024x1024) hz, View.ld_unit_zero (S := S1024x512) hz, View.ld_unit_zero (S := S512x1024) hz, View.ld_unit_zero (S := S256x1024) hz]
  simp only [sp0, sp1, sp2, sp3, sp4, sp5, sp6, sp7, sp8, sp9, sp10]
  rw [canon4 (fun y => aB x0 x1 x2 x3 x4 x5 (y 0) (y 1)) _ _ _ _
    (fun r j => a_at 768 (by omega) _ _ _ _ _ x0 x1 x2 x3 x4 x5 r j) (fun r j => a_at 512 (by omega) _ _ _ _ _ x0 x1 x2 x3 x4 x5 r j)
    (fun r j => a_at 256 (by omega) _ _ _ _ _ x0 x1 x2 x3 x4 x5 r j) (fun r j => a_at 0 (by omega) _ _ _ _ _ x0 x1 x2 x3 x4 x5 r j)]
  rfl

/-- A first point leaves the first chunk's share in the second scratch. -/
theorem acc_A (c : Dev nD) (i : grid0.Coords) (a0 : Memref sig .tc .vmem S1024x512 .bf16) (h0 : a0.IsWhole) (a1 : Memref sig .tc .vmem S1024x512 .bf16) (h1 : a1.IsWhole) (a2 : Memref sig .tc .vmem S1024x1024 .bf16) (h2 : a2.IsWhole) (a3 : Memref sig .tc .vmem S1x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x512 .bf16) (h6 : a6.IsWhole) (a7 : Memref sig .tc .vmem S1024x512 .bf16) (h7 : a7.IsWhole) (a8 : Memref sig .tc .vmem S512x1024 .bf16) (h8 : a8.IsWhole) (a9 : Memref sig .tc .vmem S1x1024 .f32) (h9 : a9.IsWhole) (a10 : Memref sig .tc .vmem S1x1024x256 .f32) (h10 : a10.IsWhole) (a11 : Memref sig .tc .vmem S1x1024 .f32) (h11 : a11.IsWhole) (a12 : Memref sig .tc .vmem S1024x1024 .bf16) (h12 : a12.IsWhole) (a13 : Memref sig .tc .vmem S256x1024 .bf16) (h13 : a13.IsWhole) (a14 : Memref sig .tc .vmem S1x1024 .f32) (h14 : a14.IsWhole) (a15 : Memref sig .tc .vmem S1024x1024 .f32) (h15 : a15.IsWhole) (a16 : Memref sig .tc .vmem S1024x1024 .bf16) (h16 : a16.IsWhole) (a17 : Memref sig .tc .vmem S1024x1024 .f32) (h17 : a17.IsWhole)
    (hc0 : cond0_0 i) (hc1 : ¬cond0_1 i)
    (x0 : Vec Ideal S1024x512 .bf16) (x1 : Vec Ideal S1024x512 .bf16) (x2 : Vec Ideal S1024x1024 .bf16) (x3 : Vec Ideal S1x1024 .f32) (x4 : Vec Ideal S1024x1024 .f32) (x5 : Vec Ideal S1x1024 .f32) (x6 : Vec Ideal S1024x512 .bf16) (x7 : Vec Ideal S1024x512 .bf16) (x8 : Vec Ideal S512x1024 .bf16) (x9 : Vec Ideal S1x1024 .f32) (x10 : Vec Ideal S1x1024x256 .f32) (x11 : Vec Ideal S1x1024 .f32) (x12 : Vec Ideal S1024x1024 .bf16) (x13 : Vec Ideal S256x1024 .bf16) (x14 : Vec Ideal S1x1024 .f32)  (r j : Fin 1024) :
    sout0_A_1 c i a0 h0 a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 x9 x10 x11 x12 x13 x14 (ix2 r j) = 0 + partB (aB x0 x1 x2 x3 x4 x5 r) x6 x7 x8 j := by
  unfold sout0_A_1
  rw [View.read_writes_junk_eq_canon]
  unfold kernelRun0_A
  dsimp only
  sl_unfold_words
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread]
  simp only [View.ld_unit_zero (S := S1x1024) hz, View.ld_unit_zero (S := S1024x1024) hz, View.ld_unit_zero (S := S1024x512) hz, View.ld_unit_zero (S := S512x1024) hz, View.ld_unit_zero (S := S256x1024) hz]
  simp only [sp0, sp1, sp2, sp3, sp4, sp5, sp6, sp7, sp8, sp9, sp10]
  rw [View.canon_cons_unit_zero (S := S1024x1024) hz, View.readCov_unit_zero (S := S1024x1024) _ hz, View.readCov_eq_canon',
    canon4 (fun y => aB x0 x1 x2 x3 x4 x5 (y 0) (y 1)) _ _ _ _
    (fun r j => a_at 768 (by omega) _ _ _ _ _ x0 x1 x2 x3 x4 x5 r j) (fun r j => a_at 512 (by omega) _ _ _ _ _ x0 x1 x2 x3 x4 x5 r j)
    (fun r j => a_at 256 (by omega) _ _ _ _ _ x0 x1 x2 x3 x4 x5 r j) (fun r j => a_at 0 (by omega) _ _ _ _ _ x0 x1 x2 x3 x4 x5 r j)]
  rw [acc_at, zero_at, partB]
  have e : ∀ d : Fin 1024, (fun y : S1024x1024.Idx => aB x0 x1 x2 x3 x4 x5 (y 0) (y 1)) ((Rect.unit (s := S1024x1024) ![0, 0] ![1024, 1024] inb_S1024x1024_S1024x1024_0_0).toLoadRect.idx (ix2 r d))
      = aB x0 x1 x2 x3 x4 x5 r d := by
    intro d
    refine congrArg₂ (aB x0 x1 x2 x3 x4 x5) (Fin.ext ?_) (Fin.ext ?_)
    · show 0 + 1 * (r : ℕ) = r; omega
    · show 0 + 1 * (d : ℕ) = d; omega
  simp only [e]

/-- A later point adds its chunk's share to the second scratch. -/
theorem acc_B (c : Dev nD) (i : grid0.Coords) (a0 : Memref sig .tc .vmem S1024x512 .bf16) (h0 : a0.IsWhole) (a1 : Memref sig .tc .vmem S1024x512 .bf16) (h1 : a1.IsWhole) (a2 : Memref sig .tc .vmem S1024x1024 .bf16) (h2 : a2.IsWhole) (a3 : Memref sig .tc .vmem S1x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x512 .bf16) (h6 : a6.IsWhole) (a7 : Memref sig .tc .vmem S1024x512 .bf16) (h7 : a7.IsWhole) (a8 : Memref sig .tc .vmem S512x1024 .bf16) (h8 : a8.IsWhole) (a9 : Memref sig .tc .vmem S1x1024 .f32) (h9 : a9.IsWhole) (a10 : Memref sig .tc .vmem S1x1024x256 .f32) (h10 : a10.IsWhole) (a11 : Memref sig .tc .vmem S1x1024 .f32) (h11 : a11.IsWhole) (a12 : Memref sig .tc .vmem S1024x1024 .bf16) (h12 : a12.IsWhole) (a13 : Memref sig .tc .vmem S256x1024 .bf16) (h13 : a13.IsWhole) (a14 : Memref sig .tc .vmem S1x1024 .f32) (h14 : a14.IsWhole) (a15 : Memref sig .tc .vmem S1024x1024 .f32) (h15 : a15.IsWhole) (a16 : Memref sig .tc .vmem S1024x1024 .bf16) (h16 : a16.IsWhole) (a17 : Memref sig .tc .vmem S1024x1024 .f32) (h17 : a17.IsWhole)
    (hc0 : ¬cond0_0 i) (hc1 : ¬cond0_1 i)
    (x0 : Vec Ideal S1024x512 .bf16) (x1 : Vec Ideal S1024x512 .bf16) (x2 : Vec Ideal S1024x1024 .bf16) (x3 : Vec Ideal S1x1024 .f32) (x4 : Vec Ideal S1024x1024 .f32) (x5 : Vec Ideal S1x1024 .f32) (x6 : Vec Ideal S1024x512 .bf16) (x7 : Vec Ideal S1024x512 .bf16) (x8 : Vec Ideal S512x1024 .bf16) (x9 : Vec Ideal S1x1024 .f32) (x10 : Vec Ideal S1x1024x256 .f32) (x11 : Vec Ideal S1x1024 .f32) (x12 : Vec Ideal S1024x1024 .bf16) (x13 : Vec Ideal S256x1024 .bf16) (x14 : Vec Ideal S1x1024 .f32) (xs0 : Vec Ideal S1024x1024 .bf16) (xs1 : Vec Ideal S1024x1024 .f32) (r j : Fin 1024) :
    sout0_B_1 c i a0 h0 a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 x9 x10 x11 x12 x13 x14 xs0 xs1 (ix2 r j) = xs1 (ix2 r j) + partB (fun d => xs0 (ix2 r d)) x6 x7 x8 j := by
  unfold sout0_B_1
  rw [View.read_writes_junk_eq_canon]
  unfold kernelRun0_B
  dsimp only
  sl_unfold_words
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread]
  simp only [View.ld_unit_zero (S := S1x1024) hz, View.ld_unit_zero (S := S1024x1024) hz, View.ld_unit_zero (S := S1024x512) hz, View.ld_unit_zero (S := S512x1024) hz, View.ld_unit_zero (S := S256x1024) hz]
  rw [View.canon_unit_zero (S := S1024x1024) hz, acc_at, partB]

/-- A last point leaves the final rows in the output block. -/
theorem out_C (c : Dev nD) (i : grid0.Coords) (a0 : Memref sig .tc .vmem S1024x512 .bf16) (h0 : a0.IsWhole) (a1 : Memref sig .tc .vmem S1024x512 .bf16) (h1 : a1.IsWhole) (a2 : Memref sig .tc .vmem S1024x1024 .bf16) (h2 : a2.IsWhole) (a3 : Memref sig .tc .vmem S1x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x512 .bf16) (h6 : a6.IsWhole) (a7 : Memref sig .tc .vmem S1024x512 .bf16) (h7 : a7.IsWhole) (a8 : Memref sig .tc .vmem S512x1024 .bf16) (h8 : a8.IsWhole) (a9 : Memref sig .tc .vmem S1x1024 .f32) (h9 : a9.IsWhole) (a10 : Memref sig .tc .vmem S1x1024x256 .f32) (h10 : a10.IsWhole) (a11 : Memref sig .tc .vmem S1x1024 .f32) (h11 : a11.IsWhole) (a12 : Memref sig .tc .vmem S1024x1024 .bf16) (h12 : a12.IsWhole) (a13 : Memref sig .tc .vmem S256x1024 .bf16) (h13 : a13.IsWhole) (a14 : Memref sig .tc .vmem S1x1024 .f32) (h14 : a14.IsWhole) (a15 : Memref sig .tc .vmem S1024x1024 .f32) (h15 : a15.IsWhole) (a16 : Memref sig .tc .vmem S1024x1024 .bf16) (h16 : a16.IsWhole) (a17 : Memref sig .tc .vmem S1024x1024 .f32) (h17 : a17.IsWhole)
    (hc0 : ¬cond0_0 i) (hc1 : cond0_1 i)
    (x0 : Vec Ideal S1024x512 .bf16) (x1 : Vec Ideal S1024x512 .bf16) (x2 : Vec Ideal S1024x1024 .bf16) (x3 : Vec Ideal S1x1024 .f32) (x4 : Vec Ideal S1024x1024 .f32) (x5 : Vec Ideal S1x1024 .f32) (x6 : Vec Ideal S1024x512 .bf16) (x7 : Vec Ideal S1024x512 .bf16) (x8 : Vec Ideal S512x1024 .bf16) (x9 : Vec Ideal S1x1024 .f32) (x10 : Vec Ideal S1x1024x256 .f32) (x11 : Vec Ideal S1x1024 .f32) (x12 : Vec Ideal S1024x1024 .bf16) (x13 : Vec Ideal S256x1024 .bf16) (x14 : Vec Ideal S1x1024 .f32) (xo15 : Vec Ideal S1024x1024 .f32) (xs0 : Vec Ideal S1024x1024 .bf16) (xs1 : Vec Ideal S1024x1024 .f32) (r j : Fin 1024) :
    out0_C_15 c i a0 h0 a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 x9 x10 x11 x12 x13 x14 xo15 xs0 xs1 (ix2 r j)
      = finB (h2B xo15 (fun r k => xs1 (ix2 r k) + partB (fun d => xs0 (ix2 r d)) x6 x7 x8 k) x9) x10 x11 x12 x13 x14 r j := by
  unfold out0_C_15
  rw [View.read_writes_junk_eq_canon]
  unfold kernelRun0_C
  dsimp only
  sl_unfold_words
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread]
  simp only [View.ld_unit_zero (S := S1x1024) hz, View.ld_unit_zero (S := S1024x1024) hz, View.ld_unit_zero (S := S1024x512) hz, View.ld_unit_zero (S := S512x1024) hz, View.ld_unit_zero (S := S256x1024) hz]
  simp only [rc]
  simp only [sp0, sp1, sp2, sp3, sp4, sp5, sp6, sp7, sp8, sp9, sp10]
  rw [canon4 (fun y => finB (h2B xo15 (fun r k => k0_pay2 xs0 x6 x7 xs1 x8 (ix2 r k)) x9) x10 x11 x12 x13 x14 (y 0) (y 1)) _ _ _ _
    (fun r j => last_at 768 (by omega) _ _ _ xo15 _ x9 x10 x11 x12 x13 x14 r j) (fun r j => last_at 512 (by omega) _ _ _ xo15 _ x9 x10 x11 x12 x13 x14 r j)
    (fun r j => last_at 256 (by omega) _ _ _ xo15 _ x9 x10 x11 x12 x13 x14 r j) (fun r j => last_at 0 (by omega) _ _ _ xo15 _ x9 x10 x11 x12 x13 x14 r j)]
  show finB (h2B xo15 (fun r k => k0_pay2 xs0 x6 x7 xs1 x8 (ix2 r k)) x9) x10 x11 x12 x13 x14 r j = _
  simp only [acc_at, partB]

end Cert.TailIdeal.Block

end
-- ==== Proof.TailValue.lean ====
/- What the tail kernel's output array holds: every row's output after the mixers, the feed forward network and the per
   layer embedding. -/
module

public import proofs.«01_k».proof.Proof.TailBlk
public import proofs.«01_k».proof.Proof.TailCase
import Idealize.ShloMosaic.Lib.Pipeline.ValueKit
import Idealize.ShloMosaic.Lib.KernelVsHost

@[expose] public section

set_option maxRecDepth 16384

noncomputable section

namespace Cert.TailIdeal.Block

open Cert.TailIdeal Cert.TailIdeal.Gen Idealize.ShloMosaic Cert.TailMath
open Idealize.ShloMosaic.TcCoe

variable (m : (ℓ : Loc nD τ sig) → Buf (Elt Ideal) ℓ) (c : Dev nD)

/-- The projected row a point computes. -/
theorem mix_blk (t : Fin cfg0.N) (r : Fin 1024) :
    mixB (iblk m c 0 t) (iblk m c 1 t) (iblk m c 2 t) r = mixR (arrs m c) (rb (row t r)) (rs (row t r)) := by
  funext j
  unfold mixB mixR
  simp only [blk0, blk1, blk2a, blk2b]
  exact congrArg (fun z : EReal => z + _) (sum_perm fun k => aOA m c (ix3 (rb (row t r)) (rs (row t r)) k) * aWO m c (ix2 ⟨k, by omega⟩ j))

/-- The row after the mixers a point computes. -/
theorem h1_blk (t : Fin cfg0.N) (r : Fin 1024) :
    h1B (iblk m c 0 t) (iblk m c 1 t) (iblk m c 2 t) (iblk m c 3 t) (iblk m c 4 t) r = h1R (arrs m c) (rb (row t r)) (rs (row t r)) := by
  funext j
  unfold h1B h1R
  rw [mix_blk]
  simp only [blk3, blk4]
  rfl

/-- The feed forward network's input row a point computes. -/
theorem a_blk (t : Fin cfg0.N) (r : Fin 1024) :
    aB (iblk m c 0 t) (iblk m c 1 t) (iblk m c 2 t) (iblk m c 3 t) (iblk m c 4 t) (iblk m c 5 t) r = aR (arrs m c) (rb (row t r)) (rs (row t r)) := by
  funext j
  unfold aB aR
  rw [h1_blk]
  simp only [blk5]
  rfl

/-- A point's share of the feed forward network's sum. -/
theorem part_blk (t : Fin cfg0.N) (a : Fin 1024 → EReal) (j : Fin 1024) :
    partB a (iblk m c 6 t) (iblk m c 7 t) (iblk m c 8 t) j = part (fT (arrs m c) a j) ((t : ℕ) % 7) := by
  unfold partB part
  rw [dif_pos (Nat.mod_lt _ (by omega))]
  simp only [blk6, blk7, blk8]
  rfl

/-- The row after the feed forward network. -/
theorem h2_blk (t : Fin cfg0.N) (r : Fin 1024) (xo : Vec Ideal S1024x1024 .f32) (f : Fin 1024 → Fin 1024 → EReal)
    (hx : ∀ j, xo (ix2 r j) = h1R (arrs m c) (rb (row t r)) (rs (row t r)) j)
    (hf : f r = fun j => ∑ k, fT (arrs m c) (aR (arrs m c) (rb (row t r)) (rs (row t r))) j k) :
    h2B xo f (iblk m c 9 t) r = h2R (arrs m c) (rb (row t r)) (rs (row t r)) := by
  funext j
  unfold h2B h2R
  rw [hx, hf]
  simp only [blk9]
  rfl

/-- The output row from the row after the feed forward network. -/
theorem fin_blk (t : Fin cfg0.N) (r : Fin 1024) (h : Fin 1024 → Fin 1024 → EReal)
    (hh : h r = h2R (arrs m c) (rb (row t r)) (rs (row t r))) (j : Fin 1024) :
    finB h (iblk m c 10 t) (iblk m c 11 t) (iblk m c 12 t) (iblk m c 13 t) (iblk m c 14 t) r j = outR (arrs m c) (rb (row t r)) (rs (row t r)) j := by
  unfold finB outR eR
  rw [hh]
  simp only [blk10, blk11, blk12, blk13, blk14]
  rfl

/-- A row block's first point: the output block. -/
theorem stA_out (t : Fin cfg0.N) (h0 : (t : ℕ) % 7 = 0) (h6 : ¬(t : ℕ) % 7 = 6) (r j : Fin 1024) :
    (outsAt0 m c t.val t.isLt).1 (ix2 r j) = h1B (iblk m c 0 t) (iblk m c 1 t) (iblk m c 2 t) (iblk m c 3 t) (iblk m c 4 t) r j := by
  have e := out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (fun h => h6 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r j
  rw [outsAt0_A m c t h0 h6]
  dsimp only
  with_reducible exact e

/-- A row block's first point: the first scratch. -/
theorem stA_act (t : Fin cfg0.N) (h0 : (t : ℕ) % 7 = 0) (h6 : ¬(t : ℕ) % 7 = 6) (r j : Fin 1024) :
    (outsAt0 m c t.val t.isLt).2.1 (ix2 r j) = aB (iblk m c 0 t) (iblk m c 1 t) (iblk m c 2 t) (iblk m c 3 t) (iblk m c 4 t) (iblk m c 5 t) r j := by
  have e := act_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (fun h => h6 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r j
  rw [outsAt0_A m c t h0 h6]
  dsimp only
  with_reducible exact e

/-- A row block's first point: the second scratch. -/
theorem stA_acc (t : Fin cfg0.N) (h0 : (t : ℕ) % 7 = 0) (h6 : ¬(t : ℕ) % 7 = 6) (r j : Fin 1024) :
    (outsAt0 m c t.val t.isLt).2.2 (ix2 r j) = 0 + partB (aB (iblk m c 0 t) (iblk m c 1 t) (iblk m c 2 t) (iblk m c 3 t) (iblk m c 4 t) (iblk m c 5 t) r)
      (iblk m c 6 t) (iblk m c 7 t) (iblk m c 8 t) j := by
  have e := acc_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) (fun h => h6 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r j
  rw [outsAt0_A m c t h0 h6]
  dsimp only
  with_reducible exact e

/-- What the point before left. -/
abbrev prev (t : Fin cfg0.N) := outsAt0 m c (t.val - 1) (Nat.lt_of_le_of_lt (Nat.sub_le _ _) t.isLt)

/-- A row block's middle point leaves the output block. -/
theorem stB_out (t : Fin cfg0.N) (h0 : ¬(t : ℕ) % 7 = 0) (h6 : ¬(t : ℕ) % 7 = 6) :
    (outsAt0 m c t.val t.isLt).1 = (prev m c t).1 := by
  rw [outsAt0_B m c t h0 h6]
  dsimp only
  unfold out0_B_15
  rfl

/-- A row block's middle point leaves the first scratch. -/
theorem stB_act (t : Fin cfg0.N) (h0 : ¬(t : ℕ) % 7 = 0) (h6 : ¬(t : ℕ) % 7 = 6) :
    (outsAt0 m c t.val t.isLt).2.1 = (prev m c t).2.1 := by
  rw [outsAt0_B m c t h0 h6]
  dsimp only
  unfold sout0_B_0
  rfl

/-- A row block's middle point adds its share to the second scratch. -/
theorem stB_acc (t : Fin cfg0.N) (h0 : ¬(t : ℕ) % 7 = 0) (h6 : ¬(t : ℕ) % 7 = 6) (r j : Fin 1024) :
    (outsAt0 m c t.val t.isLt).2.2 (ix2 r j) = (prev m c t).2.2 (ix2 r j)
      + partB (fun d => (prev m c t).2.1 (ix2 r d)) (iblk m c 6 t) (iblk m c 7 t) (iblk m c 8 t) j := by
  have e := acc_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h6 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (prev m c t).2.1 (prev m c t).2.2 r j
  rw [outsAt0_B m c t h0 h6]
  dsimp only
  with_reducible exact e

/-- A row block's last point: the output block. -/
theorem stC_out (t : Fin cfg0.N) (h0 : ¬(t : ℕ) % 7 = 0) (h6 : (t : ℕ) % 7 = 6) (r j : Fin 1024) :
    (outsAt0 m c t.val t.isLt).1 (ix2 r j)
      = finB (h2B (prev m c t).1 (fun r k => (prev m c t).2.2 (ix2 r k)
            + partB (fun d => (prev m c t).2.1 (ix2 r d)) (iblk m c 6 t) (iblk m c 7 t) (iblk m c 8 t) k) (iblk m c 9 t))
          (iblk m c 10 t) (iblk m c 11 t) (iblk m c 12 t) (iblk m c 13 t) (iblk m c 14 t) r j := by
  have e := out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) ((hcond0_1 t).mpr h6) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (prev m c t).1 (prev m c t).2.1 (prev m c t).2.2 r j
  rw [outsAt0_C m c t h0 h6]
  dsimp only
  with_reducible exact e

/-- The state after a point, before a row block's last: the rows after the mixers, the network's input rows, and the sum
    over the hidden units seen so far. -/
def Inv (t : Fin cfg0.N) (o : FVec Ideal S1024x1024 .f32) (a : FVec Ideal S1024x1024 .bf16) (s : FVec Ideal S1024x1024 .f32) (n : ℕ) : Prop :=
  ∀ r j : Fin 1024, o (ix2 r j) = h1R (arrs m c) (rb (row t r)) (rs (row t r)) j
    ∧ a (ix2 r j) = aR (arrs m c) (rb (row t r)) (rs (row t r)) j
    ∧ s (ix2 r j) = upTo (fT (arrs m c) (aR (arrs m c) (rb (row t r)) (rs (row t r))) j) n

/-- The state speaks of the row block alone. -/
theorem Inv.congr {t t' : Fin cfg0.N} (h : (t : ℕ) / 7 = (t' : ℕ) / 7) {o a s n} (H : Inv m c t o a s n) : Inv m c t' o a s n := by
  intro r j
  have hr : row t r = row t' r := Fin.ext (by show (t : ℕ) / 7 * 1024 + (r : ℕ) = (t' : ℕ) / 7 * 1024 + (r : ℕ); omega)
  rw [← hr]
  exact H r j

/-- The next share added. -/
theorem Inv.step {t : Fin cfg0.N} {o a s} {r j : Fin 1024} (H : Inv m c t o a s ((t : ℕ) % 7)) :
    s (ix2 r j) + partB (fun d => a (ix2 r d)) (iblk m c 6 t) (iblk m c 7 t) (iblk m c 8 t) j
      = upTo (fT (arrs m c) (aR (arrs m c) (rb (row t r)) (rs (row t r))) j) ((t : ℕ) % 7 + 1) := by
  rw [part_blk, (H r j).2.2, show (fun d => a (ix2 r d)) = aR (arrs m c) (rb (row t r)) (rs (row t r)) from funext fun d => (H r d).2.1]
  rfl

/-- The state holds after every point but a row block's last. -/
theorem inv : ∀ (n : ℕ) (hn : n < cfg0.N), ¬n % 7 = 6 →
    Inv m c ⟨n, hn⟩ (outsAt0 m c n hn).1 (outsAt0 m c n hn).2.1 (outsAt0 m c n hn).2.2 (n % 7 + 1) := by
  intro n
  induction n using Nat.strong_induction_on with
  | _ n ih =>
    intro hn h6
    by_cases h0 : n % 7 = 0
    · intro r j
      refine ⟨(stA_out m c ⟨n, hn⟩ h0 h6 r j).trans (congrFun (h1_blk m c ⟨n, hn⟩ r) j),
        (stA_act m c ⟨n, hn⟩ h0 h6 r j).trans (congrFun (a_blk m c ⟨n, hn⟩ r) j), (stA_acc m c ⟨n, hn⟩ h0 h6 r j).trans ?_⟩
      rw [a_blk, part_blk]
      show 0 + part _ (n % 7) = upTo _ (n % 7 + 1)
      rw [h0]
      rfl
    · have hl : n - 1 < cfg0.N := Nat.lt_of_le_of_lt (Nat.sub_le _ _) hn
      have hp := ih (n - 1) (by omega) hl (by omega)
      rw [show (n - 1) % 7 + 1 = n % 7 by omega] at hp
      have hq : Inv m c ⟨n, hn⟩ (prev m c ⟨n, hn⟩).1 (prev m c ⟨n, hn⟩).2.1 (prev m c ⟨n, hn⟩).2.2 (n % 7) :=
        Inv.congr m c (by show (n - 1) / 7 = n / 7; omega) hp
      intro r j
      exact ⟨(congrFun (stB_out m c ⟨n, hn⟩ h0 h6) _).trans (hq r j).1, (congrFun (stB_act m c ⟨n, hn⟩ h0 h6) _).trans (hq r j).2.1,
        (stB_acc m c ⟨n, hn⟩ h0 h6 r j).trans (Inv.step m c hq)⟩

/-- At a row block's last point the output block holds the output rows. -/
theorem point (t : Fin cfg0.N) (h6 : (t : ℕ) % 7 = 6) (r j : Fin 1024) :
    (outsAt0 m c t.val t.isLt).1 (ix2 r j) = outR (arrs m c) (rb (row t r)) (rs (row t r)) j := by
  have hl : (t : ℕ) - 1 < cfg0.N := Nat.lt_of_le_of_lt (Nat.sub_le _ _) t.isLt
  have hp := inv m c ((t : ℕ) - 1) hl (by omega)
  rw [show ((t : ℕ) - 1) % 7 + 1 = (t : ℕ) % 7 by omega] at hp
  have hq : Inv m c t (prev m c t).1 (prev m c t).2.1 (prev m c t).2.2 ((t : ℕ) % 7) :=
    Inv.congr m c (by show ((t : ℕ) - 1) / 7 = (t : ℕ) / 7; omega) hp
  refine (stC_out m c t (by omega) h6 r j).trans (fin_blk m c t r _ (h2_blk m c t r _ _ (fun j => (hq r j).1) (funext fun j => ?_)) j)
  refine (Inv.step m c hq).trans ?_
  rw [h6]
  exact upTo_seven _

/-- The output array at one index. -/
theorem G_at (A : Arr) (R : Fin 32768) (j : Fin 1024) : G A (ix2 R j) = outR A (rb R) (rs R) j := rfl

/-- THE OUTPUT ARRAY after the run. -/
theorem final : (dats m 0 c).arrAt 15 cfg0.N = G (arrs m c) := by
  refine (dats m 0 c).arrAt_eq_of_covers 15 _ (by decide +kernel) fun t hf y => ?_
  have ht := N_lt t
  have h6 : (t : ℕ) % 7 = 6 := (flush0_15 t).mp hf
  blk_simp
  rw [after0_15]
  idx_vars y
  have e : ((View.whole main_v48).slice (win0_15.rect t)).emb (ix2 y0 y1) = ix2 (row t y0) y1 := by
    funext a
    refine Fin.ext ?_
    match a with
    | ⟨0, _⟩ => blk_simp [idx t]
    | ⟨1, _⟩ => blk_simp [idx t]
  rw [e]
  exact (point m c t h6 y0 y1).trans (G_at (arrs m c) (row t y0) y1).symm

end Cert.TailIdeal.Block

end
-- ==== Proof.TailClaim.lean ====
/- The claims on the tail of the layer: both programs' frames and the equality of their results over the reals. -/
module

public import proofs.«01_k».proof.Defs
public import proofs.«01_k».proof.Proof.Gen.Tail.Frame
public import proofs.«01_k».proof.Proof.TailRef
public import proofs.«01_k».proof.Proof.TailValue
public import Idealize.ShloMosaic.Lib.Quiescent

@[expose] public section

noncomputable section

namespace Cert.Proof.Tail

open Idealize.ShloMosaic Idealize.ShloMosaic.TcCoe

/-- The kernel runs, leaves its arguments unchanged and every counter at zero. -/
theorem frame_p : Cert.quiescent_Tail := fun m ρ _ => Cert.Tail.Gen.frame m ρ

/-- The idealized kernel runs, leaves its arguments unchanged and every counter at zero. -/
theorem frame_pi : Cert.quiescent_TailIdeal := fun m ρ _ => Cert.TailIdeal.Gen.frame m ρ

/-- The idealized reference's run with its counters: it declares no semaphore. -/
theorem ref_run (m : (ℓ : Loc Cert.TailRefIdeal.nD Cert.TailRefIdeal.τ Cert.TailRefIdeal.sig) → Buf (Elt Ideal) ℓ) (ρ : Dev Cert.TailRefIdeal.nD → PrngReg) :
    θ_run (Cert.TailRefIdeal.defs (F := Ideal)) (onTc (τ := Cert.TailRefIdeal.τ) (Cert.TailRefIdeal.main (F := Ideal))) ⟨m, fun _ => 0, ρ⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11)
      ∧ r.2.mem ((c.tc : Thread Cert.TailRefIdeal.nD Cert.TailRefIdeal.τ).loc Cert.TailRefIdeal.main_arg12) = m ((c.tc : Thread Cert.TailRefIdeal.nD Cert.TailRefIdeal.τ).loc Cert.TailRefIdeal.main_arg12)
      ∧ r.2.mem ((c.tc : Thread Cert.TailRefIdeal.nD Cert.TailRefIdeal.τ).loc Cert.TailRefIdeal.main_arg13) = m ((c.tc : Thread Cert.TailRefIdeal.nD Cert.TailRefIdeal.τ).loc Cert.TailRefIdeal.main_arg13)
      ∧ r.2.mem ((c.tc : Thread Cert.TailRefIdeal.nD Cert.TailRefIdeal.τ).loc Cert.TailRefIdeal.main_arg14) = m ((c.tc : Thread Cert.TailRefIdeal.nD Cert.TailRefIdeal.τ).loc Cert.TailRefIdeal.main_arg14))
      ∧ r.2.sem = fun _ => 0) :=
  (θ_run Cert.TailRefIdeal.defs _ _).mono (fun r h => ⟨fun c => (h c).2, sem_eq_zero_of_no_sems (by decide) r.2⟩) (Cert.TailRefIdeal.Block.run m ρ)

/-- The idealized reference runs, leaves its arguments unchanged and every counter at zero. -/
theorem frame_ri : Cert.quiescent_TailRefIdeal := fun m ρ _ => ref_run m ρ

/-- The idealized kernel and the idealized reference end with the same result. -/
theorem value : Cert.algebraic_TailIdeal_TailRefIdeal := by
  intro m ρ m' ρ' hpre hag
  refine ⟨fun c => Cert.TailMath.G (Cert.TailIdeal.Block.arrs m c), ?_, ?_⟩
  · exact (θ_run Cert.TailIdeal.defs _ _).mono (fun r h c => ⟨(h c).1.trans (Cert.TailIdeal.Block.final m c), (h c).2⟩) (Cert.TailIdeal.Value.run_blocks m ρ)
  · refine (θ_run Cert.TailRefIdeal.defs _ _).mono (fun r h c => ⟨(h c).1.trans ?_, (h c).2⟩) (Cert.TailRefIdeal.Block.run m' ρ')
    obtain ⟨h0, h1, h2, h3, h4, h5, h6, h7, h8, h9, h10, h11, h12, h13, h14⟩ := hag c
    have e : Cert.TailRefIdeal.Block.arrs m' c = Cert.TailIdeal.Block.arrs m c := by
      unfold Cert.TailRefIdeal.Block.arrs
      rw [h0, h1, h2, h3, h4, h5, h6, h7, h8, h9, h10, h11, h12, h13, h14]
      rfl
    rw [Cert.TailRefIdeal.Block.ref_eq, e]

end Cert.Proof.Tail

end
-- ==== Proof.CombineSpec.lean ====
/- The rows the last call of the layer computes, in plain sums over its argument arrays. -/
module

public import proofs.«01_k».proof.Proof.Gen.CombineIdeal.Value
public import proofs.«01_k».proof.Proof.TailMath
public import Idealize.ShloMosaic.Lib.Pointwise.Index

@[expose] public section

set_option maxRecDepth 16384

noncomputable section

namespace Cert.CombineMath

open Cert.CombineIdeal Idealize.ShloMosaic Cert.TailMath

/-- The nine argument arrays. -/
structure Arr where
  X : FVec Ideal S16x2048x1024 .f32
  P : FVec Ideal S2x16x2048x256 .f32
  Y : FVec Ideal S16x2048x2x1024 .f32
  W : FVec Ideal S16x2048x2 .f32
  GF : FVec Ideal S2x1024 .f32
  GN : FVec Ideal S2x1024 .f32
  PG : FVec Ideal S2x1024x1024 .f32
  PP : FVec Ideal S2x256x1024 .f32
  GE : FVec Ideal S2x1024 .f32

variable (A : Arr) (b : Fin 16) (s : Fin 2048)

/-- The two chosen experts' outputs, weighted by their gates. -/
def mR (j : Fin 1024) : EReal := A.Y (ix4 b s 0 j) * A.W (ix3 b s 0) + A.Y (ix4 b s 1 j) * A.W (ix3 b s 1)

/-- The row after the experts. -/
def h2R (j : Fin 1024) : EReal := A.X (ix3 b s j) + rms (mR A b s) (fun k => A.GF (ix2 1 k)) j

/-- The gated per layer embedding row. -/
def eR (j : Fin 1024) : EReal :=
  (∑ k : Fin 256, A.P (ix4 1 b s k) * A.PP (ix3 1 k j)) * lgst (∑ k : Fin 1024, rms (h2R A b s) (fun k => A.GN (ix2 1 k)) k * A.PG (ix3 1 k j))

/-- The layer's output row. -/
def outR (j : Fin 1024) : EReal := h2R A b s j + rms (eR A b s) (fun k => A.GE (ix2 1 k)) j

/-- The output array: row `b * 2048 + s`. -/
def G : FVec Ideal S32768x1024 .f32 := fun i =>
  outR A ⟨(i 0 : ℕ) / 2048, by have : (i 0 : ℕ) < 32768 := (i 0).isLt; omega⟩ ⟨(i 0 : ℕ) % 2048, by omega⟩ (i 1)

end Cert.CombineMath

end
-- ==== Proof.CombineRef.lean ====
/- What the last call's reference computes: the same rows in the same plain sums. -/
module

public import proofs.«01_k».proof.Proof.Gen.CombineRefIdeal.Run
public import proofs.«01_k».proof.Proof.CombineSpec
import Idealize.ShloMosaic.Lib.Pipeline.ValueKit
import Idealize.ShloMosaic.Lib.KernelVsHost

@[expose] public section

set_option maxRecDepth 16384

noncomputable section

namespace Cert.CombineRefIdeal.Block

open Cert.CombineRefIdeal Cert.CombineRefIdeal.Gen Idealize.ShloMosaic Cert.TailMath Cert.CombineMath
open Idealize.ShloMosaic.TcCoe

/-- Each row's sum of squares. -/
def SQ (x : FVec Ideal S16x2048x1024 .f32) : FVec Ideal S16x2048 .f32 :=
  Host.reduceAdd (mulf x x) (constant S_ .f32 0x00000000#32) reducesTo_S16x2048x1024_S16x2048_d2 h_S_

/-- Each row's scale from its sum of squares, repeated along the row. -/
def RB (q : FVec Ideal S16x2048 .f32) : FVec Ideal S16x2048x1024 .f32 :=
  broadcastInDim S16x2048x1024 ![0, 1, 2] bcast_S16x2048x1_S16x2048x1024_0_1_2 (Host.rsqrt (addf (Host.divf (broadcastInDim S16x2048x1 ![0, 1] bcast_S16x2048_S16x2048x1_0_1 q) (broadcastInDim S16x2048x1 ![] bcast_S_S16x2048x1 (constant S_ .f32 0x44800000#32))) (broadcastInDim S16x2048x1 ![] bcast_S_S16x2048x1 (constant S_ .f32 0x358637BD#32))))

/-- The second layer's gains repeated along the rows. -/
def GB (g : FVec Ideal S2x1024 .f32) : FVec Ideal S16x2048x1024 .f32 :=
  broadcastInDim S16x2048x1024 ![0, 1, 2] bcast_S1x1x1024_S16x2048x1024_0_1_2 (broadcastInDim S1x1x1024 ![2] bcast_S1024_S1x1x1024_2 (shapeCast _ (extractStridedSlice S1x1024 ![1, 0] g slices_S2x1024_S1x1024_1_0) shapeCasts_S1x1024_S1024))

/-- The root mean square norm of every row. -/
def NM (x : FVec Ideal S16x2048x1024 .f32) (g : FVec Ideal S2x1024 .f32) : FVec Ideal S16x2048x1024 .f32 := mulf (mulf x (RB (SQ x))) (GB g)

/-- A product with the embedding gate's weights. -/
def DQ (a : FVec Ideal S16x2048x1024 .f32) (w : FVec Ideal S2x1024x1024 .f32) : FVec Ideal S16x2048x1024 .f32 :=
  Host.dotGeneral dot_S16x2048x1024_S1024x1024_S16x2048x1024_2_0_01_1_n_n none a (shapeCast _ (extractStridedSlice S1x1024x1024 ![1, 0, 0] w slices_S2x1024x1024_S1x1024x1024_1_0_0) shapeCasts_S1x1024x1024_S1024x1024)

/-- The embeddings' projection. -/
def DE (p : FVec Ideal S2x16x2048x256 .f32) (w : FVec Ideal S2x256x1024 .f32) : FVec Ideal S16x2048x1024 .f32 :=
  Host.dotGeneral dot_S16x2048x256_S256x1024_S16x2048x1024_2_0_01_1_n_n none (shapeCast _ (extractStridedSlice S1x16x2048x256 ![1, 0, 0, 0] p slices_S2x16x2048x256_S1x16x2048x256_1_0_0_0) shapeCasts_S1x16x2048x256_S16x2048x256) (shapeCast _ (extractStridedSlice S1x256x1024 ![1, 0, 0] w slices_S2x256x1024_S1x256x1024_1_0_0) shapeCasts_S1x256x1024_S256x1024)

/-- The logistic function over the model's columns. -/
def LQ (x : FVec Ideal S16x2048x1024 .f32) : FVec Ideal S16x2048x1024 .f32 :=
  Host.divf (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf x)))

theorem SQ_at (x : FVec Ideal S16x2048x1024 .f32) (b : Fin 16) (s : Fin 2048) : SQ x (ix2 b s) = ∑ k : Fin 1024, x (ix3 b s k) * x (ix3 b s k) := by
  pointwise [SQ]

theorem RB_at (q : FVec Ideal S16x2048 .f32) (b : Fin 16) (s : Fin 2048) (j : Fin 1024) :
    RB q (ix3 b s j) = Ideal.rsqrt (Ideal.div (q (ix2 b s)) (Ideal.ofBits .f32 0x44800000#32) + Ideal.ofBits .f32 0x358637BD#32) := by
  pointwise [RB]

theorem GB_at (g : FVec Ideal S2x1024 .f32) (b : Fin 16) (s : Fin 2048) (j : Fin 1024) : GB g (ix3 b s j) = g (ix2 1 j) := by
  pointwise [GB]

theorem NM_mul (x : FVec Ideal S16x2048x1024 .f32) (g : FVec Ideal S2x1024 .f32) (i : S16x2048x1024.Idx) :
    NM x g i = x i * RB (SQ x) i * GB g i := rfl

/-- A normed row, from the row. -/
theorem NM_at (x : FVec Ideal S16x2048x1024 .f32) (g : FVec Ideal S2x1024 .f32) (b : Fin 16) (s : Fin 2048) (f : Fin 1024 → EReal)
    (h : ∀ k, x (ix3 b s k) = f k) (j : Fin 1024) : NM x g (ix3 b s j) = rms f (fun k => g (ix2 1 k)) j := by
  rw [NM_mul, RB_at, SQ_at, GB_at]
  simp only [h]
  rfl

theorem DQ_at (a : FVec Ideal S16x2048x1024 .f32) (w : FVec Ideal S2x1024x1024 .f32) (b : Fin 16) (s : Fin 2048) (j : Fin 1024) :
    DQ a w (ix3 b s j) = ∑ k : Fin 1024, a (ix3 b s k) * w (ix3 1 k j) := by
  pointwise [DQ]

theorem DE_at (p : FVec Ideal S2x16x2048x256 .f32) (w : FVec Ideal S2x256x1024 .f32) (b : Fin 16) (s : Fin 2048) (j : Fin 1024) :
    DE p w (ix3 b s j) = ∑ k : Fin 256, p (ix4 1 b s k) * w (ix3 1 k j) := by
  pointwise [DE]

theorem LQ_at (x : FVec Ideal S16x2048x1024 .f32) (b : Fin 16) (s : Fin 2048) (k : Fin 1024) : LQ x (ix3 b s k) = lgst (x (ix3 b s k)) := by
  pointwise [LQ]
  unfold lgst
  rw [zero_sub]

/-- The two experts' rows weighted by their gates and added. -/
def MM (y : FVec Ideal S16x2048x2x1024 .f32) (w : FVec Ideal S16x2048x2 .f32) : FVec Ideal S16x2048x1024 .f32 :=
  Host.reduceAdd (mulf y (broadcastInDim S16x2048x2x1024 ![0, 1, 2, 3] bcast_S16x2048x2x1_S16x2048x2x1024_0_1_2_3 (broadcastInDim S16x2048x2x1 ![0, 1, 2] bcast_S16x2048x2_S16x2048x2x1_0_1_2 w))) (constant S_ .f32 0x00000000#32) reducesTo_S16x2048x2x1024_S16x2048x1024_d2 h_S_

theorem MM_at (y : FVec Ideal S16x2048x2x1024 .f32) (w : FVec Ideal S16x2048x2 .f32) (b : Fin 16) (s : Fin 2048) (j : Fin 1024) :
    MM y w (ix3 b s j) = y (ix4 b s 0 j) * w (ix3 b s 0) + y (ix4 b s 1 j) * w (ix3 b s 1) := by
  refine Eq.trans ?_ (Fin.sum_univ_two fun k : Fin 2 => y (ix4 b s k j) * w (ix3 b s k))
  pointwise [MM]

variable (A : Arr)

/-- The rows after the experts. -/
def H2 : FVec Ideal S16x2048x1024 .f32 := addf A.X (NM (MM A.Y A.W) A.GF)

/-- The gated embeddings. -/
def EE : FVec Ideal S16x2048x1024 .f32 := mulf (DE A.P A.PP) (LQ (DQ (NM (H2 A) A.GN) A.PG))

/-- The output rows. -/
def H3 : FVec Ideal S16x2048x1024 .f32 := addf (H2 A) (NM (EE A) A.GE)

/-- The reference's operations composed, over its argument arrays. -/
def REF : FVec Ideal S32768x1024 .f32 := shapeCast _ (H3 A) shapeCasts_S16x2048x1024_S32768x1024

theorem H2_at (b : Fin 16) (s : Fin 2048) (j : Fin 1024) : H2 A (ix3 b s j) = h2R A b s j := by
  show A.X (ix3 b s j) + NM _ _ (ix3 b s j) = _
  rw [NM_at _ _ b s (mR A b s) fun k => MM_at A.Y A.W b s k]
  rfl

theorem EE_at (b : Fin 16) (s : Fin 2048) (j : Fin 1024) : EE A (ix3 b s j) = eR A b s j := by
  show DE _ _ (ix3 b s j) * LQ _ (ix3 b s j) = _
  rw [LQ_at, DE_at, DQ_at]
  simp only [NM_at _ A.GN b s _ (H2_at A b s)]
  rfl

theorem H3_at (b : Fin 16) (s : Fin 2048) (j : Fin 1024) : H3 A (ix3 b s j) = outR A b s j := by
  show H2 A (ix3 b s j) + NM _ _ (ix3 b s j) = _
  rw [H2_at, NM_at _ _ b s _ (EE_at A b s)]
  rfl

/-- The flattened rows. -/
theorem flat_at (x : FVec Ideal S16x2048x1024 .f32) (R : Fin 32768) (j : Fin 1024) :
    shapeCast S32768x1024 x shapeCasts_S16x2048x1024_S32768x1024 (ix2 R j) = x (ix3 ⟨(R : ℕ) / 2048, by omega⟩ ⟨(R : ℕ) % 2048, by omega⟩ j) := by
  pointwise

/-- The composed operations are the plain sums. -/
theorem ref_eq : REF A = G A := by
  funext i
  idx_vars i
  exact (flat_at (H3 A) i0 i1).trans (H3_at A _ _ i1)

variable (m : (ℓ : Loc nD τ sig) → Buf (Elt Ideal) ℓ) (ρ : Dev nD → PrngReg)

/-- The argument arrays. -/
def arrs (c : Dev nD) : Arr := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8)⟩

/-- The printed result is the operations composed. -/
theorem res_eq (c : Dev nD) : Value.res_main_v66 m c = REF (arrs m c) := by
  unfold Value.res_main_v66 REF H3 EE H2 DE LQ DQ NM MM RB SQ GB arrs
  rfl

/-- The reference's run. -/
theorem run : θ_run defs (onTc (τ := τ) (main (F := Ideal))) ⟨m, fun _ => 0, ρ⟩ fun r => ∀ c : Dev nD,
      r.2.mem ((c : Thread nD τ).loc main_v66) = REF (arrs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  exact (θ_run defs _ _).mono (fun r h c => ⟨(h c).1.trans (res_eq m c), (h c).2⟩) (Value.run m ρ)

end Cert.CombineRefIdeal.Block

end
-- ==== Proof.CombineBlk.lean ====
/- The arrays the last call's windows stage, and their blocks, read back to the argument arrays. -/
module

public import proofs.«01_k».proof.Proof.CombineSpec
import Idealize.ShloMosaic.Lib.ValueIdxCore
import Idealize.ShloMosaic.Lib.Pipeline.ValueKit
import Idealize.ShloMosaic.Lib.KernelVsHost

@[expose] public section

set_option maxRecDepth 16384

noncomputable section

namespace Cert.CombineIdeal.Block

open Cert.CombineIdeal Cert.CombineIdeal.Gen Idealize.ShloMosaic Cert.TailMath Cert.CombineMath
open Idealize.ShloMosaic.TcCoe

variable (m : (ℓ : Loc nD τ sig) → Buf (Elt Ideal) ℓ) (c : Dev nD)

/-- The argument arrays. -/
abbrev aX : FVec Ideal S16x2048x1024 .f32 := m ((c : Thread nD τ).loc main_arg0)
abbrev aP : FVec Ideal S2x16x2048x256 .f32 := m ((c : Thread nD τ).loc main_arg1)
abbrev aY : FVec Ideal S16x2048x2x1024 .f32 := m ((c : Thread nD τ).loc main_arg2)
abbrev aW : FVec Ideal S16x2048x2 .f32 := m ((c : Thread nD τ).loc main_arg3)
abbrev aGF : FVec Ideal S2x1024 .f32 := m ((c : Thread nD τ).loc main_arg4)
abbrev aGN : FVec Ideal S2x1024 .f32 := m ((c : Thread nD τ).loc main_arg5)
abbrev aPG : FVec Ideal S2x1024x1024 .f32 := m ((c : Thread nD τ).loc main_arg6)
abbrev aPP : FVec Ideal S2x256x1024 .f32 := m ((c : Thread nD τ).loc main_arg7)
abbrev aGE : FVec Ideal S2x1024 .f32 := m ((c : Thread nD τ).loc main_arg8)

/-- The argument arrays, together. -/
def arrs : Arr := ⟨aX m c, aP m c, aY m c, aW m c, aGF m c, aGN m c, aPG m c, aPP m c, aGE m c⟩

/-- Batch and position of a row of the flattened arrays. -/
abbrev rb (R : Fin 32768) : Fin 16 := ⟨(R : ℕ) / 2048, by omega⟩
abbrev rs (R : Fin 32768) : Fin 2048 := ⟨(R : ℕ) % 2048, by omega⟩

/-- Indices with equal coordinates are equal. -/
theorem ix4_eq {b b' : Fin 16} {s s' : Fin 2048} {k k' : Fin 2} (hb : b = b') (hs : s = s') (hk : k = k') (j : Fin 1024) :
    ix4 b s k j = ix4 b' s' k' j := by
  rw [hb, hs, hk]

/-- Residual rows. -/
theorem v10_at (R : Fin 32768) (j : Fin 1024) : V m c main_v10 (ix2 R j) = aX m c (ix3 (rb R) (rs R) j) := by
  simp only [V, hostOps0, hostOps0_1, hostOps0_2, List.flatten_cons, List.flatten_nil, List.append_nil, List.cons_append, List.nil_append]
  entry_read
  pointwise

/-- Per layer embedding rows. -/
theorem v0_at (e : Fin 2) (R : Fin 32768) (j : Fin 256) : V m c main_v0 (ix3 e R j) = aP m c (ix4 e (rb R) (rs R) j) := by
  simp only [V, hostOps0, hostOps0_1, hostOps0_2, List.flatten_cons, List.flatten_nil, List.append_nil, List.cons_append, List.nil_append]
  entry_read
  pointwise

/-- The first expert's rows. -/
theorem v4_at0 (R : Fin 32768) (j : Fin 1024) : V m c main_v4 (ix2 ⟨R, by omega⟩ j) = aY m c (ix4 (rb R) (rs R) 0 j) := by
  simp only [V, hostOps0, hostOps0_1, hostOps0_2, List.flatten_cons, List.flatten_nil, List.append_nil, List.cons_append, List.nil_append]
  entry_read
  pointwise
  exact congrArg (aY m c) (ix4_eq (Fin.ext (by show _ = (R : ℕ) / 2048; dsimp only; omega)) (Fin.ext (by show _ = (R : ℕ) % 2048; dsimp only; omega)) (Fin.ext (by show _ = 0; dsimp only; omega)) j)

/-- The second expert's rows. -/
theorem v4_at1 (R : Fin 32768) (j : Fin 1024) : V m c main_v4 (ix2 ⟨32768 + R, by omega⟩ j) = aY m c (ix4 (rb R) (rs R) 1 j) := by
  simp only [V, hostOps0, hostOps0_1, hostOps0_2, List.flatten_cons, List.flatten_nil, List.append_nil, List.cons_append, List.nil_append]
  entry_read
  pointwise
  exact congrArg (aY m c) (ix4_eq (Fin.ext (by show _ = (R : ℕ) / 2048; dsimp only; omega)) (Fin.ext (by show _ = (R : ℕ) % 2048; dsimp only; omega)) (Fin.ext (by show _ = 1; dsimp only; omega)) j)

/-- The gates, in the first two lanes. -/
theorem v6_at (R : Fin 32768) (k : Fin 2) : V m c main_v6 (ix2 R ⟨k, by omega⟩) = aW m c (ix3 (rb R) (rs R) k) := by
  simp only [V, hostOps0, hostOps0_1, hostOps0_2, List.flatten_cons, List.flatten_nil, List.append_nil, List.cons_append, List.nil_append]
  entry_read
  simp -implicitDefEqProofs only [StableHlo.TRef.toBuf, StableHlo.TRef.ofBuf, cast_cast, cast_eq]
  refine (pad_apply_of_inside _ _ _ _ _ _ _ _ (ix2 R k) fun a => ?_).trans ?_
  · match a with
    | ⟨0, _⟩ => show (R : ℕ) = 0 + (R : ℕ) * (0 + 1); omega
    | ⟨1, _⟩ => show (k : ℕ) = 0 + (k : ℕ) * (0 + 1); omega
  · pointwise

/-- Gains of the feed forward norm. -/
theorem v9_at (j : Fin 1024) : V m c main_v9 (ix2 0 j) = aGF m c (ix2 1 j) := by
  simp only [V, hostOps0, hostOps0_1, hostOps0_2, List.flatten_cons, List.flatten_nil, List.append_nil, List.cons_append, List.nil_append]
  entry_read
  pointwise

/-- Gains of the gate norm. -/
theorem v13_at (j : Fin 1024) : V m c main_v13 (ix2 0 j) = aGN m c (ix2 1 j) := by
  simp only [V, hostOps0, hostOps0_1, hostOps0_2, List.flatten_cons, List.flatten_nil, List.append_nil, List.cons_append, List.nil_append]
  entry_read
  pointwise

/-- Gains of the embedding norm. -/
theorem v22_at (j : Fin 1024) : V m c main_v22 (ix2 0 j) = aGE m c (ix2 1 j) := by
  simp only [V, hostOps0, hostOps0_1, hostOps0_2, List.flatten_cons, List.flatten_nil, List.append_nil, List.cons_append, List.nil_append]
  entry_read
  pointwise

/-- Embedding gate weights. -/
theorem v16_at (k : Fin 1024) (j : Fin 1024) : V m c main_v16 (ix2 k j) = aPG m c (ix3 1 k j) := by
  simp only [V, hostOps0, hostOps0_1, hostOps0_2, List.flatten_cons, List.flatten_nil, List.append_nil, List.cons_append, List.nil_append]
  entry_read
  pointwise

/-- Embedding projection weights. -/
theorem v19_at (k : Fin 256) (j : Fin 1024) : V m c main_v19 (ix2 k j) = aPP m c (ix3 1 k j) := by
  simp only [V, hostOps0, hostOps0_1, hostOps0_2, List.flatten_cons, List.flatten_nil, List.append_nil, List.cons_append, List.nil_append]
  entry_read
  pointwise

/-- Each window's block at grid point `t`. -/
theorem idx : ∀ t : Fin cfg0.N, win0_0.index t = ![(t : ℕ), 0] ∧ win0_1.index t = ![64 + (t : ℕ), 0]
    ∧ win0_2.index t = ![(t : ℕ), 0] ∧ win0_3.index t = ![0, 0] ∧ win0_4.index t = ![(t : ℕ), 0] ∧ win0_5.index t = ![1, (t : ℕ), 0]
    ∧ win0_6.index t = ![0, 0] ∧ win0_7.index t = ![0, 0] ∧ win0_8.index t = ![0, 0]
    ∧ win0_9.index t = ![0, 0] ∧ win0_10.index t = ![(t : ℕ), 0] :=
  (by decide +kernel : ∀ t : Fin grid0.N, _)

/-- The grid has 64 points. -/
theorem N_lt (t : Fin cfg0.N) : (t : ℕ) < 64 := lt_of_lt_of_eq t.isLt (by decide +kernel : grid0.N = 64)

/-- The row of the arrays a block's row is. -/
abbrev row (t : Fin cfg0.N) (r : Fin 512) : Fin 32768 := ⟨(t : ℕ) * 512 + r, by have := N_lt t; omega⟩

/-- Any array's block of window 0 at point `t`. -/
theorem rd0 (A : FVec Ideal S65536x1024 .bf16) (t : Fin cfg0.N) (r : Fin 512) (j : Fin 1024) : ((cfg0.win 0).blk t).view.read (Elt Ideal) A (ix2 r j) = A (ix2 ⟨row t r, by have := N_lt t; omega⟩ j) := by
  have ht := N_lt t
  blk_ext [idx t]

/-- The block of window 0 at point `t`. -/
theorem blk0 (t : Fin cfg0.N) (r : Fin 512) (j : Fin 1024) : iblk m c 0 t (ix2 r j) = aY m c (ix4 (rb (row t r)) (rs (row t r)) 0 j) :=
  (rd0 (V m c main_v4) t r j).trans (v4_at0 m c (row t r) j)

/-- Any array's block of window 1 at point `t`. -/
theorem rd1 (A : FVec Ideal S65536x1024 .bf16) (t : Fin cfg0.N) (r : Fin 512) (j : Fin 1024) : ((cfg0.win 1).blk t).view.read (Elt Ideal) A (ix2 r j) = A (ix2 ⟨32768 + row t r, by have := N_lt t; omega⟩ j) := by
  have ht := N_lt t
  blk_ext [idx t]

/-- The block of window 1 at point `t`. -/
theorem blk1 (t : Fin cfg0.N) (r : Fin 512) (j : Fin 1024) : iblk m c 1 t (ix2 r j) = aY m c (ix4 (rb (row t r)) (rs (row t r)) 1 j) :=
  (rd1 (V m c main_v4) t r j).trans (v4_at1 m c (row t r) j)

/-- Any array's block of window 2 at point `t`. -/
theorem rd2 (A : FVec Ideal S32768x128 .f32) (t : Fin cfg0.N) (r : Fin 512) (k : Fin 2) : ((cfg0.win 2).blk t).view.read (Elt Ideal) A (ix2 r ⟨k, by omega⟩) = A (ix2 (row t r) ⟨k, by omega⟩) := by
  have ht := N_lt t
  blk_ext [idx t]

/-- The block of window 2 at point `t`. -/
theorem blk2 (t : Fin cfg0.N) (r : Fin 512) (k : Fin 2) : iblk m c 2 t (ix2 r ⟨k, by omega⟩) = aW m c (ix3 (rb (row t r)) (rs (row t r)) k) :=
  (rd2 (V m c main_v6) t r k).trans (v6_at m c (row t r) k)

/-- Any array's block of window 3 at point `t`. -/
theorem rd3 (A : FVec Ideal S1x1024 .f32) (t : Fin cfg0.N) (j : Fin 1024) : ((cfg0.win 3).blk t).view.read (Elt Ideal) A (ix2 0 j) = A (ix2 0 j) := by
  have ht := N_lt t
  blk_ext [idx t]

/-- The block of window 3 at point `t`. -/
theorem blk3 (t : Fin cfg0.N) (j : Fin 1024) : iblk m c 3 t (ix2 0 j) = aGF m c (ix2 1 j) :=
  (rd3 (V m c main_v9) t j).trans (v9_at m c j)

/-- Any array's block of window 4 at point `t`. -/
theorem rd4 (A : FVec Ideal S32768x1024 .f32) (t : Fin cfg0.N) (r : Fin 512) (j : Fin 1024) : ((cfg0.win 4).blk t).view.read (Elt Ideal) A (ix2 r j) = A (ix2 (row t r) j) := by
  have ht := N_lt t
  blk_ext [idx t]

/-- The block of window 4 at point `t`. -/
theorem blk4 (t : Fin cfg0.N) (r : Fin 512) (j : Fin 1024) : iblk m c 4 t (ix2 r j) = aX m c (ix3 (rb (row t r)) (rs (row t r)) j) :=
  (rd4 (V m c main_v10) t r j).trans (v10_at m c (row t r) j)

/-- Any array's block of window 5 at point `t`. -/
theorem rd5 (A : FVec Ideal S2x32768x256 .f32) (t : Fin cfg0.N) (r : Fin 512) (k : Fin 256) : ((cfg0.win 5).blk t).view.read (Elt Ideal) A (ix3 0 r k) = A (ix3 1 (row t r) k) := by
  have ht := N_lt t
  blk_ext [idx t]

/-- The block of window 5 at point `t`. -/
theorem blk5 (t : Fin cfg0.N) (r : Fin 512) (k : Fin 256) : iblk m c 5 t (ix3 0 r k) = aP m c (ix4 1 (rb (row t r)) (rs (row t r)) k) :=
  (rd5 (V m c main_v0) t r k).trans (v0_at m c 1 (row t r) k)

/-- Any array's block of window 6 at point `t`. -/
theorem rd6 (A : FVec Ideal S1x1024 .f32) (t : Fin cfg0.N) (j : Fin 1024) : ((cfg0.win 6).blk t).view.read (Elt Ideal) A (ix2 0 j) = A (ix2 0 j) := by
  have ht := N_lt t
  blk_ext [idx t]

/-- The block of window 6 at point `t`. -/
theorem blk6 (t : Fin cfg0.N) (j : Fin 1024) : iblk m c 6 t (ix2 0 j) = aGN m c (ix2 1 j) :=
  (rd6 (V m c main_v13) t j).trans (v13_at m c j)

/-- Any array's block of window 7 at point `t`. -/
theorem rd7 (A : FVec Ideal S1024x1024 .bf16) (t : Fin cfg0.N) (k j : Fin 1024) : ((cfg0.win 7).blk t).view.read (Elt Ideal) A (ix2 k j) = A (ix2 k j) := by
  have ht := N_lt t
  blk_ext [idx t]

/-- The block of window 7 at point `t`. -/
theorem blk7 (t : Fin cfg0.N) (k j : Fin 1024) : iblk m c 7 t (ix2 k j) = aPG m c (ix3 1 k j) :=
  (rd7 (V m c main_v16) t k j).trans (v16_at m c k j)

/-- Any array's block of window 8 at point `t`. -/
theorem rd8 (A : FVec Ideal S256x1024 .bf16) (t : Fin cfg0.N) (k : Fin 256) (j : Fin 1024) : ((cfg0.win 8).blk t).view.read (Elt Ideal) A (ix2 k j) = A (ix2 k j) := by
  have ht := N_lt t
  blk_ext [idx t]

/-- The block of window 8 at point `t`. -/
theorem blk8 (t : Fin cfg0.N) (k : Fin 256) (j : Fin 1024) : iblk m c 8 t (ix2 k j) = aPP m c (ix3 1 k j) :=
  (rd8 (V m c main_v19) t k j).trans (v19_at m c k j)

/-- Any array's block of window 9 at point `t`. -/
theorem rd9 (A : FVec Ideal S1x1024 .f32) (t : Fin cfg0.N) (j : Fin 1024) : ((cfg0.win 9).blk t).view.read (Elt Ideal) A (ix2 0 j) = A (ix2 0 j) := by
  have ht := N_lt t
  blk_ext [idx t]

/-- The block of window 9 at point `t`. -/
theorem blk9 (t : Fin cfg0.N) (j : Fin 1024) : iblk m c 9 t (ix2 0 j) = aGE m c (ix2 1 j) :=
  (rd9 (V m c main_v22) t j).trans (v22_at m c j)

end Cert.CombineIdeal.Block

end
-- ==== Proof.CombinePay.lean ====
/- What the last call's body computes on one block of 512 rows, element by element. -/
module

public import proofs.«01_k».proof.Proof.CombineSpec
import Idealize.ShloMosaic.Lib.Pipeline.ValueKit

@[expose] public section

set_option maxRecDepth 16384

noncomputable section

namespace Cert.CombineIdeal.Block

open Cert.CombineIdeal Cert.CombineIdeal.Gen Idealize.ShloMosaic Cert.TailMath

/-- The two experts' rows, weighted by the first two lanes of the gates. -/
def cmbV (a b : Vec Ideal S512x1024 .bf16) (w : Vec Ideal S512x128 .f32) : FVec Ideal S512x1024 .f32 :=
  addf
    (mulf (extf .f32 (shapeCast S512x1024 a shapeCasts_S512x1024_S512x1024 : FVec Ideal S512x1024 .bf16) bitsLt_bf16_f32)
      (broadcastTo S512x1024 (extractStridedSlice S512x1 ![0, 0] (shapeCast S512x128 w shapeCasts_S512x128_S512x128) slices_S512x128_o0_0_S512x1) broadcasts_S512x1_S512x1024))
    (mulf (extf .f32 (shapeCast S512x1024 b shapeCasts_S512x1024_S512x1024 : FVec Ideal S512x1024 .bf16) bitsLt_bf16_f32)
      (broadcastTo S512x1024 (extractStridedSlice S512x1 ![0, 1] (shapeCast S512x128 w shapeCasts_S512x128_S512x128) slices_S512x128_o0_1_S512x1) broadcasts_S512x1_S512x1024))

/-- The reciprocal root mean square of each row, spread over the row's lanes. -/
def rsV (v : FVec Ideal S512x1024 .f32) : FVec Ideal S512x1024 .f32 :=
  broadcastTo S512x1024 (rsqrt (addf (divf (shapeCast S512x1 (multiReduction .add [1] S512 (mulf v v) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024

/-- The rows normalised and scaled. -/
def nV (v : FVec Ideal S512x1024 .f32) (g : Vec Ideal S1x1024 .f32) : FVec Ideal S512x1024 .f32 :=
  mulf (mulf v (rsV v)) (broadcastTo S512x1024 (shapeCast S1x1024 g shapeCasts_S1x1024_S1x1024) broadcasts_S1x1024_S512x1024)

/-- The gated embedding: its projection times the logistic gate. -/
def pleV (n : FVec Ideal S512x1024 .bf16) (p : Vec Ideal S1x512x256 .f32) (w : Vec Ideal S1024x1024 .bf16) (wp : Vec Ideal S256x1024 .bf16) :
    FVec Ideal S512x1024 .f32 :=
  mulf (matmul dot_S512x256_S256x1024_S512x1024_1_0_0_1_n_n none (truncf .bf16 (k0_pay2 p) bitsLt_bf16_f32)
      (shapeCast S256x1024 wp shapeCasts_S256x1024_S256x1024 : FVec Ideal S256x1024 .bf16) (constant S512x1024 .f32 0x00000000#32))
    (divf (broadcast S512x1024 (Scalar.ofBits .f32 0x3F800000#32))
      (addf (broadcast S512x1024 (Scalar.ofBits .f32 0x3F800000#32))
        (exp (subf (broadcast S512x1024 (Scalar.ofBits .f32 0x00000000#32))
          (matmul dot_S512x1024_S1024x1024_S512x1024_1_0_0_1_n_n none n (k0_pay4 w) (constant S512x1024 .f32 0x00000000#32))))))

/-- The residual rows after the experts. -/
def resV (h v : FVec Ideal S512x1024 .f32) (g : Vec Ideal S1x1024 .f32) : FVec Ideal S512x1024 .f32 :=
  addf (shapeCast S512x1024 h shapeCasts_S512x1024_S512x1024) (nV v g)

section spell
variable (a b : Vec Ideal S512x1024 .bf16) (w : Vec Ideal S512x128 .f32) (h : Vec Ideal S512x1024 .f32) (g gn ge : Vec Ideal S1x1024 .f32)
  (v : FVec Ideal S512x1024 .f32) (p : Vec Ideal S1x512x256 .f32) (wg : Vec Ideal S1024x1024 .bf16) (wp : Vec Ideal S256x1024 .bf16)
theorem sp1 : k0_pay1 w a b h g = resV h (cmbV a b w) g := rfl
theorem sp2 : k0_pay5 v (k0_pay2 p) (k0_pay3 gn) (k0_pay4 wg) wp ge
    = addf v (nV (pleV (truncf .bf16 (nV v gn) bitsLt_bf16_f32) p wg wp) ge) := by
  unfold nV pleV rsV k0_pay5 k0_pay3 k0_pay2 k0_pay4
  rfl
end spell

theorem cmb_at (a b : Vec Ideal S512x1024 .bf16) (w : Vec Ideal S512x128 .f32) (r : Fin 512) (j : Fin 1024) :
    cmbV a b w (ix2 r j) = a (ix2 r j) * w (ix2 r 0) + b (ix2 r j) * w (ix2 r 1) := by
  unfold cmbV
  pointwise []

theorem n_at (v : FVec Ideal S512x1024 .f32) (g : Vec Ideal S1x1024 .f32) (r : Fin 512) (j : Fin 1024) :
    nV v g (ix2 r j) = rms (fun k => v (ix2 r k)) (fun k => g (ix2 0 k)) j := by
  unfold nV rsV rms
  pointwise []

theorem res_at (h v : FVec Ideal S512x1024 .f32) (g : Vec Ideal S1x1024 .f32) (r : Fin 512) (j : Fin 1024) :
    resV h v g (ix2 r j) = h (ix2 r j) + nV v g (ix2 r j) := by
  unfold resV
  generalize nV v g = x
  pointwise []

theorem ple_at (n : FVec Ideal S512x1024 .bf16) (p : Vec Ideal S1x512x256 .f32) (w : Vec Ideal S1024x1024 .bf16) (wp : Vec Ideal S256x1024 .bf16)
    (r : Fin 512) (j : Fin 1024) :
    pleV n p w wp (ix2 r j) = (∑ k : Fin 256, p (ix3 0 r k) * wp (ix2 k j)) * lgst (∑ k : Fin 1024, n (ix2 r k) * w (ix2 k j)) := by
  unfold pleV lgst
  pointwise [k0_pay2, k0_pay4]

/-- The block stored at one point is the body's payload over the staged blocks. -/
theorem out_eq (x0 x1 : Vec Ideal S512x1024 .bf16) (x2 : Vec Ideal S512x128 .f32) (x3 : Vec Ideal S1x1024 .f32) (x4 : Vec Ideal S512x1024 .f32)
    (x5 : Vec Ideal S1x512x256 .f32) (x6 : Vec Ideal S1x1024 .f32) (x7 : Vec Ideal S1024x1024 .bf16) (x8 : Vec Ideal S256x1024 .bf16) (x9 : Vec Ideal S1x1024 .f32) :
    out0_10 x0 x1 x2 x3 x4 x5 x6 x7 x8 x9
      = addf (resV x4 (cmbV x0 x1 x2) x3) (nV (pleV (truncf .bf16 (nV (resV x4 (cmbV x0 x1 x2) x3) x6) bitsLt_bf16_f32) x5 x7 x8) x9) := by
  have hz : (![0, 0] : Fin 2 → Nat) = fun _ => 0 := funext fun a => by fin_cases a <;> rfl
  have hz3 : (![0, 0, 0] : Fin 3 → Nat) = fun _ => 0 := funext fun a => by fin_cases a <;> rfl
  unfold out0_10
  rw [View.canon_unit_zero (S := S512x1024) hz]
  simp only [View.ld_unit_zero (S := S1x1024) hz, View.ld_unit_zero (S := S1024x1024) hz, View.ld_unit_zero (S := S512x1024) hz,
    View.ld_unit_zero (S := S512x128) hz, View.ld_unit_zero (S := S256x1024) hz, View.ld_unit_zero (S := S1x512x256) hz3]
  rw [sp1, sp2]

end Cert.CombineIdeal.Block

end
-- ==== Proof.CombineValue.lean ====
/- The last call's output array is the plain rows. -/
module

public import proofs.«01_k».proof.Proof.CombineBlk
public import proofs.«01_k».proof.Proof.CombinePay
import Idealize.ShloMosaic.Lib.Pipeline.ValueKit
import Idealize.ShloMosaic.Lib.KernelVsHost

@[expose] public section

set_option maxRecDepth 16384

noncomputable section

namespace Cert.CombineIdeal.Block

open Cert.CombineIdeal Cert.CombineIdeal.Gen Idealize.ShloMosaic Cert.TailMath Cert.CombineMath
open Idealize.ShloMosaic.TcCoe

variable (m : (ℓ : Loc nD τ sig) → Buf (Elt Ideal) ℓ) (c : Dev nD)

/-- A normed block row, from its row. -/
theorem n_of (v : FVec Ideal S512x1024 .f32) (g : Vec Ideal S1x1024 .f32) (r : Fin 512) (f : Fin 1024 → EReal) (g' : Fin 1024 → EReal)
    (hv : ∀ k, v (ix2 r k) = f k) (hg : ∀ k, g (ix2 0 k) = g' k) (j : Fin 1024) : nV v g (ix2 r j) = rms f g' j := by
  rw [n_at]
  simp only [hv, hg]

/-- The residual rows of a block. -/
theorem h2_blk (t : Fin cfg0.N) (r : Fin 512) (j : Fin 1024) :
    resV (iblk m c 4 t) (cmbV (iblk m c 0 t) (iblk m c 1 t) (iblk m c 2 t)) (iblk m c 3 t) (ix2 r j)
      = h2R (arrs m c) (rb (row t r)) (rs (row t r)) j := by
  refine (res_at _ _ _ r j).trans (congrArg₂ (fun x y : EReal => x + y) (blk4 m c t r j) ?_)
  refine n_of _ _ r (mR (arrs m c) (rb (row t r)) (rs (row t r))) _ (fun k => ?_) (fun k => blk3 m c t k) j
  refine (cmb_at _ _ _ r k).trans (congrArg₂ (fun x y : EReal => x + y) (congrArg₂ (fun x y : EReal => x * y) (blk0 m c t r k) (blk2 m c t r 0))
    (congrArg₂ (fun x y : EReal => x * y) (blk1 m c t r k) (blk2 m c t r 1)))

/-- The gated embedding rows of a block, from its residual rows. -/
theorem e_blk (t : Fin cfg0.N) (r : Fin 512) (v : FVec Ideal S512x1024 .f32)
    (hv : ∀ j, v (ix2 r j) = h2R (arrs m c) (rb (row t r)) (rs (row t r)) j) (j : Fin 1024) :
    pleV (truncf .bf16 (nV v (iblk m c 6 t)) bitsLt_bf16_f32) (iblk m c 5 t) (iblk m c 7 t) (iblk m c 8 t) (ix2 r j)
      = eR (arrs m c) (rb (row t r)) (rs (row t r)) j := by
  refine (ple_at _ _ _ _ r j).trans (congrArg₂ (fun x y : EReal => x * y) (Finset.sum_congr rfl fun k _ => ?_) (congrArg lgst (Finset.sum_congr rfl fun k _ => ?_)))
  · exact congrArg₂ (fun x y : EReal => x * y) (blk5 m c t r k) (blk8 m c t k j)
  · exact congrArg₂ (fun x y : EReal => x * y) (n_of v _ r _ _ hv (fun k => blk6 m c t k) k) (blk7 m c t k j)

/-- What grid point `t` stores. -/
theorem point (t : Fin cfg0.N) (r : Fin 512) (j : Fin 1024) :
    out0_10 (iblk m c 0 t) (iblk m c 1 t) (iblk m c 2 t) (iblk m c 3 t) (iblk m c 4 t) (iblk m c 5 t) (iblk m c 6 t) (iblk m c 7 t) (iblk m c 8 t) (iblk m c 9 t) (ix2 r j)
      = outR (arrs m c) (rb (row t r)) (rs (row t r)) j := by
  rw [out_eq]
  have hh := h2_blk m c t r
  generalize resV (iblk m c 4 t) (cmbV (iblk m c 0 t) (iblk m c 1 t) (iblk m c 2 t)) (iblk m c 3 t) = v at hh ⊢
  have he := e_blk m c t r v hh
  generalize pleV (truncf .bf16 (nV v (iblk m c 6 t)) bitsLt_bf16_f32) (iblk m c 5 t) (iblk m c 7 t) (iblk m c 8 t) = w at he ⊢
  exact congrArg₂ (fun x y : EReal => x + y) (hh j) (n_of w _ r _ _ he (fun k => blk9 m c t k) j)

/-- The output array at one index. -/
theorem G_at (A : Arr) (R : Fin 32768) (j : Fin 1024) : G A (ix2 R j) = outR A (rb R) (rs R) j := rfl

/-- THE OUTPUT ARRAY after the run. -/
theorem final : (dats m 0 c).arrAt 10 cfg0.N = G (arrs m c) := by
  refine (dats m 0 c).arrAt_eq_of_covers 10 _ (by decide +kernel) fun t hf y => ?_
  have ht := N_lt t
  blk_simp
  rw [after0_10]
  idx_vars y
  have e : ((View.whole main_v23).slice (win0_10.rect t)).emb (ix2 y0 y1) = ix2 (row t y0) y1 := by
    funext a
    refine Fin.ext ?_
    match a with
    | ⟨0, _⟩ => blk_simp [idx t]
    | ⟨1, _⟩ => blk_simp [idx t]
  rw [e]
  exact (point m c t y0 y1).trans (G_at (arrs m c) (row t y0) y1).symm

end Cert.CombineIdeal.Block

end
-- ==== Proof.CombineClaim.lean ====
/- The claims on the last call of the layer: both programs' frames and the equality of their results over the reals. -/
module

public import proofs.«01_k».proof.Defs
public import proofs.«01_k».proof.Proof.Gen.Combine.Frame
public import proofs.«01_k».proof.Proof.CombineRef
public import proofs.«01_k».proof.Proof.CombineValue
public import Idealize.ShloMosaic.Lib.Quiescent

@[expose] public section

noncomputable section

namespace Cert.Proof.Combine

open Idealize.ShloMosaic Idealize.ShloMosaic.TcCoe

/-- The kernel runs, leaves its arguments unchanged and every counter at zero. -/
theorem frame_p : Cert.quiescent_Combine := fun m ρ _ => Cert.Combine.Gen.frame m ρ

/-- The idealized kernel runs, leaves its arguments unchanged and every counter at zero. -/
theorem frame_pi : Cert.quiescent_CombineIdeal := fun m ρ _ => Cert.CombineIdeal.Gen.frame m ρ

/-- The idealized reference's run with its counters: it declares no semaphore. -/
theorem ref_run (m : (ℓ : Loc Cert.CombineRefIdeal.nD Cert.CombineRefIdeal.τ Cert.CombineRefIdeal.sig) → Buf (Elt Ideal) ℓ) (ρ : Dev Cert.CombineRefIdeal.nD → PrngReg) :
    θ_run (Cert.CombineRefIdeal.defs (F := Ideal)) (onTc (τ := Cert.CombineRefIdeal.τ) (Cert.CombineRefIdeal.main (F := Ideal))) ⟨m, fun _ => 0, ρ⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5)
      ∧ r.2.mem ((c.tc : Thread Cert.CombineRefIdeal.nD Cert.CombineRefIdeal.τ).loc Cert.CombineRefIdeal.main_arg6) = m ((c.tc : Thread Cert.CombineRefIdeal.nD Cert.CombineRefIdeal.τ).loc Cert.CombineRefIdeal.main_arg6)
      ∧ r.2.mem ((c.tc : Thread Cert.CombineRefIdeal.nD Cert.CombineRefIdeal.τ).loc Cert.CombineRefIdeal.main_arg7) = m ((c.tc : Thread Cert.CombineRefIdeal.nD Cert.CombineRefIdeal.τ).loc Cert.CombineRefIdeal.main_arg7)
      ∧ r.2.mem ((c.tc : Thread Cert.CombineRefIdeal.nD Cert.CombineRefIdeal.τ).loc Cert.CombineRefIdeal.main_arg8) = m ((c.tc : Thread Cert.CombineRefIdeal.nD Cert.CombineRefIdeal.τ).loc Cert.CombineRefIdeal.main_arg8))
      ∧ r.2.sem = fun _ => 0) :=
  (θ_run Cert.CombineRefIdeal.defs _ _).mono (fun r h => ⟨fun c => (h c).2, sem_eq_zero_of_no_sems (by decide) r.2⟩) (Cert.CombineRefIdeal.Block.run m ρ)

/-- The idealized reference runs, leaves its arguments unchanged and every counter at zero. -/
theorem frame_ri : Cert.quiescent_CombineRefIdeal := fun m ρ _ => ref_run m ρ

/-- The idealized kernel and the idealized reference end with the same result. -/
theorem value : Cert.algebraic_CombineIdeal_CombineRefIdeal := by
  intro m ρ m' ρ' hpre hag
  refine ⟨fun c => Cert.CombineMath.G (Cert.CombineIdeal.Block.arrs m c), ?_, ?_⟩
  · exact (θ_run Cert.CombineIdeal.defs _ _).mono (fun r h c => ⟨(h c).1.trans (Cert.CombineIdeal.Block.final m c), (h c).2⟩) (Cert.CombineIdeal.Value.run_blocks m ρ)
  · refine (θ_run Cert.CombineRefIdeal.defs _ _).mono (fun r h c => ⟨(h c).1.trans ?_, (h c).2⟩) (Cert.CombineRefIdeal.Block.run m' ρ')
    obtain ⟨h0, h1, h2, h3, h4, h5, h6, h7, h8⟩ := hag c
    have e : Cert.CombineRefIdeal.Block.arrs m' c = Cert.CombineIdeal.Block.arrs m c := by
      unfold Cert.CombineRefIdeal.Block.arrs
      rw [h0, h1, h2, h3, h4, h5, h6, h7, h8]
      rfl
    rw [Cert.CombineRefIdeal.Block.ref_eq, e]

end Cert.Proof.Combine

end
-- ==== Proof.ExpertsSpec.lean ====
/- What the experts call computes, in plain sums over the reals. -/
module

public import proofs.«01_k».proof.Proof.TailMath
public import Idealize.ShloMosaic.Lib.ValueIdxCore
public import Idealize.ShloMosaic.Lib.Pointwise.Index

@[expose] public section

noncomputable section

namespace Cert.ExpertsMath

open Idealize.ShloMosaic Cert.TailMath

/-- The argument arrays: each tile's expert, whether each tile is valid, the sorted rows, the experts' weights. -/
structure Arr where
  E : IVec ⟨1, ![72]⟩ 32
  V : IVec ⟨1, ![72]⟩ 32
  X : FVec Ideal ⟨2, ![73728, 1024]⟩ .bf16
  WG : FVec Ideal ⟨3, ![8, 1024, 3584]⟩ .f32
  WU : FVec Ideal ⟨3, ![8, 1024, 3584]⟩ .f32
  WD : FVec Ideal ⟨3, ![8, 3584, 1024]⟩ .f32

/-- The tables' words are in range. -/
def InRange (A : Arr) : Prop := ∀ k : Fin 72, (A.E (ix1 k)).toNat ≤ 7 ∧ (A.V (ix1 k)).toNat ≤ 1

/-- A word compared with its bounds as a signed number. -/
theorem word_le (w : BitVec 32) (n : ℕ) (hn : n < 2 ^ 31) (h0 : IntOp.cmpi .sge w 0#32 = 1#1) (h1 : IntOp.cmpi .sle w (BitVec.ofNat 32 n) = 1#1) : w.toNat ≤ n := by
  have b1 : ∀ b : Bool, BitVec.ofBool b = 1#1 → b = true := by decide
  have e0 : (0#32).sle w = true := b1 _ h0
  have e1 : w.sle (BitVec.ofNat 32 n) = true := b1 _ h1
  rw [BitVec.sle_iff_toInt_le] at e0 e1
  rw [BitVec.toInt_eq_toNat_cond] at e0 e1
  rw [BitVec.toInt_eq_toNat_cond] at e1
  rw [BitVec.toInt_eq_toNat_cond] at e0
  simp only [BitVec.toNat_ofNat] at e0 e1
  have := w.isLt
  have hm : n % 2 ^ 32 = n := Nat.mod_eq_of_lt (by omega)
  rw [hm] at e1
  split at e0 <;> split at e1 <;> split at e0 <;> split at e1 <;> omega

variable (A : Arr)

/-- A tile's expert. -/
def ex (k : Fin 72) : Fin 8 := ⟨(A.E (ix1 k)).toNat % 8, Nat.mod_lt _ (by decide)⟩

/-- The tile of a row. -/
abbrev tile (R : Fin 73728) : Fin 72 := ⟨(R : ℕ) / 1024, by omega⟩

/-- A row's product with the experts' gate weights, and with their up weights. -/
def gt (R : Fin 73728) (f : Fin 3584) : EReal := ∑ d : Fin 1024, A.X (ix2 R d) * A.WG (ix3 (ex A (tile R)) d f)
def up (R : Fin 73728) (f : Fin 3584) : EReal := ∑ d : Fin 1024, A.X (ix2 R d) * A.WU (ix3 (ex A (tile R)) d f)

/-- One hidden coordinate's part of a row's result. -/
def term (R : Fin 73728) (c : Fin 1024) (f : Fin 3584) : EReal :=
  gt A R f * lgst (gt A R f) * up A R f * A.WD (ix3 (ex A (tile R)) f c)

/-- A row's result: the gated unit of its tile's expert where the tile is valid, else zero. -/
def outR (R : Fin 73728) (c : Fin 1024) : EReal :=
  if IntOp.cmpi .sgt (A.V (ix1 (tile R))) 0#32 = 1#1 then ∑ f : Fin 3584, term A R c f else 0

/-- The result array. -/
def G : FVec Ideal ⟨2, ![73728, 1024]⟩ .bf16 := fun i => outR A (i 0) (i 1)

end Cert.ExpertsMath

end
-- ==== Proof.ExpertsRef.lean ====
/- What the experts call's reference computes: the same rows in the same plain sums. -/
module

public import proofs.«01_k».proof.Proof.Gen.ExpertsRefIdeal.Run
public import proofs.«01_k».proof.Proof.ExpertsSpec
import Idealize.ShloMosaic.Lib.Pipeline.ValueKit
import Idealize.ShloMosaic.Lib.KernelVsHost

@[expose] public section

set_option maxRecDepth 16384

noncomputable section

namespace Cert.ExpertsRefIdeal.Block

open Cert.ExpertsRefIdeal Cert.ExpertsRefIdeal.Gen Idealize.ShloMosaic Cert.TailMath Cert.ExpertsMath
open Idealize.ShloMosaic.TcCoe

/-- Each tile's expert as an index from the front. -/
def SE (te : IVec S72 32) : IVec S72x1 32 :=
  broadcastInDim S72x1 ![0] bcast_S72_S72x1_0 (select (cmpi .slt te (broadcastInDim S72 ![] bcast_S_S72 (constantI S_ 32 0#32))) (addi te (broadcastInDim S72 ![] bcast_S_S72 (constantI S_ 32 8#32))) te)

/-- A start of zero on an axis of length `n`, for every tile. -/
def SZ (n : BitVec 32) : IVec S72x1 32 :=
  broadcastInDim S72x1 ![] bcast_S_S72x1 (select (cmpi .slt (constantI S_ 32 0#32) (constantI S_ 32 0#32)) (addi (constantI S_ 32 0#32) (constantI S_ 32 n)) (constantI S_ 32 0#32))

/-- The starts of every tile's weights. -/
def IX (te : IVec S72 32) (a b : BitVec 32) : IVec S72x3 32 :=
  concatenate S72x3 1 [⟨S72x1, SE te⟩, ⟨S72x1, SZ a⟩, ⟨S72x1, SZ b⟩] concatenates_S72x1_S72x1_S72x1_S72x3_d1

theorem SE_at (te : IVec S72 32) (k : Fin 72) (h : (te (ix1 k)).toNat ≤ 7) : SE te (ix2 k 0) = te (ix1 k) := by
  have e : SE te (ix2 k 0) = Scalar.select (IntOp.cmpi .slt (te (ix1 k)) 0#32) (te (ix1 k) + 8#32) (te (ix1 k)) := by
    pointwise [SE]
    rfl
  rw [e]
  generalize te (ix1 k) = w at h ⊢
  have hc : IntOp.cmpi .slt w 0#32 = 0#1 := by
    show BitVec.ofBool (w.slt 0#32) = 0#1
    have : w.slt 0#32 = false := by
      rw [Bool.eq_false_iff, ne_eq, BitVec.slt_iff_toInt_lt, BitVec.toInt_eq_toNat_cond]
      simp only [BitVec.toInt_zero]
      split <;> omega
    rw [this]; rfl
  rw [hc]; rfl

theorem IX_at (te : IVec S72 32) (a b : BitVec 32) (k : Fin 72) : IX te a b (ix2 k 0) = SE te (ix2 k 0) := by
  pointwise [IX]

/-- A tile's start, read as a signed number and clamped, is its expert. -/
theorem IX_ex (te : IVec S72 32) (a b : BitVec 32) (k : Fin 72) (h : (te (ix1 k)).toNat ≤ 7) :
    min (IX te a b (ix2 k 0)).toInt.toNat 7 = (te (ix1 k)).toNat % 8 := by
  rw [IX_at, SE_at te k h, BitVec.toInt_eq_toNat_cond]
  split <;> omega

theorem gat1 (x : FVec Ideal S8x1024x3584 .f32) (idx : IVec S72x3 32) (k : Fin 72) (d : Fin 1024) (f : Fin 3584) (e : Fin 8)
    (he : min (idx (ix2 k 0)).toInt.toNat 7 = e.val) :
    Host.gather gather_S8x1024x3584_S72x3_S72x1x1024x3584_123_n_n_n_012_1_110243584 x idx (ix4 k 0 d f) = x (ix3 e d f) := by
  unfold Host.gather
  congr 1
  funext a
  refine Fin.ext ?_
  show (gather_S8x1024x3584_S72x3_S72x1x1024x3584_123_n_n_n_012_1_110243584).start (ix4 k 0 d f) idx a + (gather_S8x1024x3584_S72x3_S72x1x1024x3584_123_n_n_n_012_1_110243584).batchCoord (ix4 k 0 d f) a
    + (gather_S8x1024x3584_S72x3_S72x1x1024x3584_123_n_n_n_012_1_110243584).offCoord (ix4 k 0 d f) a = _
  rw [GatherDims.batchCoord_eq_zero _ _ _ List.not_mem_nil]
  have h012 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h012 with rfl | rfl | rfl
  · unfold GatherDims.start
    rw [dif_pos (show (0 : Fin 3) ∈ (gather_S8x1024x3584_S72x3_S72x1x1024x3584_123_n_n_n_012_1_110243584).startIndexMap from (by decide : (0 : Fin 3) ∈ ([0, 1, 2] : List (Fin 3))))]
    have hsi : (gather_S8x1024x3584_S72x3_S72x1x1024x3584_123_n_n_n_012_1_110243584).siIdx (ix4 k 0 d f) ⟨List.idxOf (0 : Fin 3) (gather_S8x1024x3584_S72x3_S72x1x1024x3584_123_n_n_n_012_1_110243584).startIndexMap,
        List.idxOf_lt_length_iff.2 (by decide : (0 : Fin 3) ∈ ([0, 1, 2] : List (Fin 3)))⟩ = ix2 k 0 := by
      funext b; refine Fin.ext ?_
      match b with
      | ⟨0, _⟩ => rfl
      | ⟨1, _⟩ => rfl
    rw [hsi]
    exact he
  · unfold GatherDims.start
    rw [dif_pos (show (1 : Fin 3) ∈ (gather_S8x1024x3584_S72x3_S72x1x1024x3584_123_n_n_n_012_1_110243584).startIndexMap from (by decide : (1 : Fin 3) ∈ ([0, 1, 2] : List (Fin 3))))]
    show min _ 0 + 0 + d.val = d.val
    omega
  · unfold GatherDims.start
    rw [dif_pos (show (2 : Fin 3) ∈ (gather_S8x1024x3584_S72x3_S72x1x1024x3584_123_n_n_n_012_1_110243584).startIndexMap from (by decide : (2 : Fin 3) ∈ ([0, 1, 2] : List (Fin 3))))]
    show min _ 0 + 0 + f.val = f.val
    omega

theorem gat2 (x : FVec Ideal S8x3584x1024 .f32) (idx : IVec S72x3 32) (k : Fin 72) (d : Fin 3584) (f : Fin 1024) (e : Fin 8)
    (he : min (idx (ix2 k 0)).toInt.toNat 7 = e.val) :
    Host.gather gather_S8x3584x1024_S72x3_S72x1x3584x1024_123_n_n_n_012_1_135841024 x idx (ix4 k 0 d f) = x (ix3 e d f) := by
  unfold Host.gather
  congr 1
  funext a
  refine Fin.ext ?_
  show (gather_S8x3584x1024_S72x3_S72x1x3584x1024_123_n_n_n_012_1_135841024).start (ix4 k 0 d f) idx a + (gather_S8x3584x1024_S72x3_S72x1x3584x1024_123_n_n_n_012_1_135841024).batchCoord (ix4 k 0 d f) a
    + (gather_S8x3584x1024_S72x3_S72x1x3584x1024_123_n_n_n_012_1_135841024).offCoord (ix4 k 0 d f) a = _
  rw [GatherDims.batchCoord_eq_zero _ _ _ List.not_mem_nil]
  have h012 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h012 with rfl | rfl | rfl
  · unfold GatherDims.start
    rw [dif_pos (show (0 : Fin 3) ∈ (gather_S8x3584x1024_S72x3_S72x1x3584x1024_123_n_n_n_012_1_135841024).startIndexMap from (by decide : (0 : Fin 3) ∈ ([0, 1, 2] : List (Fin 3))))]
    have hsi : (gather_S8x3584x1024_S72x3_S72x1x3584x1024_123_n_n_n_012_1_135841024).siIdx (ix4 k 0 d f) ⟨List.idxOf (0 : Fin 3) (gather_S8x3584x1024_S72x3_S72x1x3584x1024_123_n_n_n_012_1_135841024).startIndexMap,
        List.idxOf_lt_length_iff.2 (by decide : (0 : Fin 3) ∈ ([0, 1, 2] : List (Fin 3)))⟩ = ix2 k 0 := by
      funext b; refine Fin.ext ?_
      match b with
      | ⟨0, _⟩ => rfl
      | ⟨1, _⟩ => rfl
    rw [hsi]
    exact he
  · unfold GatherDims.start
    rw [dif_pos (show (1 : Fin 3) ∈ (gather_S8x3584x1024_S72x3_S72x1x3584x1024_123_n_n_n_012_1_135841024).startIndexMap from (by decide : (1 : Fin 3) ∈ ([0, 1, 2] : List (Fin 3))))]
    show min _ 0 + 0 + d.val = d.val
    omega
  · unfold GatherDims.start
    rw [dif_pos (show (2 : Fin 3) ∈ (gather_S8x3584x1024_S72x3_S72x1x3584x1024_123_n_n_n_012_1_135841024).startIndexMap from (by decide : (2 : Fin 3) ∈ ([0, 1, 2] : List (Fin 3))))]
    show min _ 0 + 0 + f.val = f.val
    omega

/-- The rows by tiles. -/
def XT (x : FVec Ideal S73728x1024 .bf16) : FVec Ideal S72x1024x1024 .bf16 := shapeCast _ x shapeCasts_S73728x1024_S72x1024x1024

/-- Each tile's gate or up weights. -/
def WT (w : FVec Ideal S8x1024x3584 .f32) (te : IVec S72 32) : FVec Ideal S72x1024x3584 .f32 :=
  shapeCast _ (Host.gather gather_S8x1024x3584_S72x3_S72x1x1024x3584_123_n_n_n_012_1_110243584 w (IX te 1024#32 3584#32)) shapeCasts_S72x1x1024x3584_S72x1024x3584

/-- Each tile's down weights. -/
def DT (w : FVec Ideal S8x3584x1024 .f32) (te : IVec S72 32) : FVec Ideal S72x3584x1024 .f32 :=
  shapeCast _ (Host.gather gather_S8x3584x1024_S72x3_S72x1x3584x1024_123_n_n_n_012_1_135841024 w (IX te 3584#32 1024#32)) shapeCasts_S72x1x3584x1024_S72x3584x1024

/-- The tiles' products with their weights. -/
def MT (x : FVec Ideal S72x1024x1024 .bf16) (w : FVec Ideal S72x1024x3584 .f32) : FVec Ideal S72x1024x3584 .f32 :=
  Host.dotGeneral dot_S72x1024x1024_S72x1024x3584_S72x1024x3584_2_1_1_2_0_0 none x w

/-- The gate's unit. -/
def SL (z : FVec Ideal S72x1024x3584 .f32) : FVec Ideal S72x1024x3584 .f32 :=
  mulf z (Host.divf (broadcastInDim S72x1024x3584 ![] bcast_S_S72x1024x3584 (constant S_ .f32 0x3F800000#32)) (addf (broadcastInDim S72x1024x3584 ![] bcast_S_S72x1024x3584 (constant S_ .f32 0x3F800000#32)) (Host.exp (Host.negf z))))

/-- The tiles' hidden rows times the down weights. -/
def YT (h : FVec Ideal S72x1024x3584 .f32) (w : FVec Ideal S72x3584x1024 .f32) : FVec Ideal S72x1024x1024 .f32 :=
  Host.dotGeneral dot_S72x1024x3584_S72x3584x1024_S72x1024x1024_2_1_1_2_0_0 none h w

/-- The rows of the valid tiles, and zeros for the others. -/
def OT (tv : IVec S72 32) (y : FVec Ideal S72x1024x1024 .f32) : FVec Ideal S73728x1024 .bf16 :=
  truncf .bf16 (shapeCast _ (select (broadcastInDim S72x1024x1024 ![0, 1, 2] bcast_S72x1x1_S72x1024x1024_0_1_2 (broadcastInDim S72x1x1 ![0] bcast_S72_S72x1x1_0 (cmpi .sgt tv (broadcastInDim S72 ![] bcast_S_S72 (constantI S_ 32 0#32))))) y (broadcastInDim S72x1024x1024 ![] bcast_S_S72x1024x1024 (id (constant S_ .f32 0x00000000#32)))) shapeCasts_S72x1024x1024_S73728x1024) bitsLt_bf16_f32

theorem XT_at (x : FVec Ideal S73728x1024 .bf16) (k : Fin 72) (r d : Fin 1024) : XT x (ix3 k r d) = x (ix2 ⟨(k : ℕ) * 1024 + r, by omega⟩ d) := by
  pointwise [XT]

theorem WT_at (w : FVec Ideal S8x1024x3584 .f32) (te : IVec S72 32) (k : Fin 72) (d : Fin 1024) (f : Fin 3584) (e : Fin 8)
    (he : min (IX te 1024#32 3584#32 (ix2 k 0)).toInt.toNat 7 = e.val) : WT w te (ix3 k d f) = w (ix3 e d f) := by
  refine Eq.trans ?_ (gat1 w (IX te 1024#32 3584#32) k d f e he)
  unfold WT
  generalize Host.gather gather_S8x1024x3584_S72x3_S72x1x1024x3584_123_n_n_n_012_1_110243584 w (IX te 1024#32 3584#32) = g
  pointwise

theorem DT_at (w : FVec Ideal S8x3584x1024 .f32) (te : IVec S72 32) (k : Fin 72) (d : Fin 3584) (f : Fin 1024) (e : Fin 8)
    (he : min (IX te 3584#32 1024#32 (ix2 k 0)).toInt.toNat 7 = e.val) : DT w te (ix3 k d f) = w (ix3 e d f) := by
  refine Eq.trans ?_ (gat2 w (IX te 3584#32 1024#32) k d f e he)
  unfold DT
  generalize Host.gather gather_S8x3584x1024_S72x3_S72x1x3584x1024_123_n_n_n_012_1_135841024 w (IX te 3584#32 1024#32) = g
  pointwise

theorem MT_at (x : FVec Ideal S72x1024x1024 .bf16) (w : FVec Ideal S72x1024x3584 .f32) (k : Fin 72) (r : Fin 1024) (f : Fin 3584) :
    MT x w (ix3 k r f) = ∑ d : Fin 1024, x (ix3 k r d) * w (ix3 k d f) := by
  pointwise [MT]

theorem SL_at (z : FVec Ideal S72x1024x3584 .f32) (k : Fin 72) (r : Fin 1024) (f : Fin 3584) :
    SL z (ix3 k r f) = z (ix3 k r f) * lgst (z (ix3 k r f)) := by
  pointwise [SL]
  unfold lgst
  rw [zero_sub]

theorem YT_at (h : FVec Ideal S72x1024x3584 .f32) (w : FVec Ideal S72x3584x1024 .f32) (k : Fin 72) (r c : Fin 1024) :
    YT h w (ix3 k r c) = ∑ f : Fin 3584, h (ix3 k r f) * w (ix3 k f c) := by
  pointwise [YT]

theorem OT_at (tv : IVec S72 32) (y : FVec Ideal S72x1024x1024 .f32) (R : Fin 73728) (c : Fin 1024) :
    OT tv y (ix2 R c) = if IntOp.cmpi .sgt (tv (ix1 (tile R))) 0#32 = 1#1 then y (ix3 (tile R) ⟨(R : ℕ) % 1024, by omega⟩ c) else 0 := by
  pointwise [OT]
  have hz : (id (constant S_ .f32 0x00000000#32) : FVec Ideal S_ .f32) ix0 = 0 := by
    show Ideal.ofBits .f32 0x00000000#32 = 0
    simp [Ideal.ofBits, Ideal.ieee]
  rw [hz]
  unfold Scalar.select
  rfl

variable (A : Arr)

/-- The reference's operations composed, over its argument arrays. -/
def REF : FVec Ideal S73728x1024 .bf16 :=
  OT A.V (YT (mulf (SL (MT (XT A.X) (WT A.WG A.E))) (MT (XT A.X) (WT A.WU A.E))) (DT A.WD A.E))

/-- The composed operations are the plain sums. -/
theorem ref_eq (hA : InRange A) : REF A = G A := by
  funext i
  idx_vars i
  refine (OT_at _ _ i0 i1).trans ?_
  show _ = outR A i0 i1
  unfold outR
  have hR : (⟨((tile i0 : Fin 72) : ℕ) * 1024 + (⟨(i0 : ℕ) % 1024, by omega⟩ : Fin 1024), by have := i0.isLt; show (i0 : ℕ) / 1024 * 1024 + (i0 : ℕ) % 1024 < 73728; omega⟩ : Fin 73728) = i0 :=
    Fin.ext (by show (i0 : ℕ) / 1024 * 1024 + (i0 : ℕ) % 1024 = _; omega)
  have hx : ∀ d, XT A.X (ix3 (tile i0) ⟨(i0 : ℕ) % 1024, by omega⟩ d) = A.X (ix2 i0 d) := fun d =>
    (XT_at A.X _ _ d).trans (congrArg (fun R => A.X (ix2 R d)) hR)
  have hm : ∀ (w : FVec Ideal S8x1024x3584 .f32) f, MT (XT A.X) (WT w A.E) (ix3 (tile i0) ⟨(i0 : ℕ) % 1024, by omega⟩ f)
      = ∑ d : Fin 1024, A.X (ix2 i0 d) * w (ix3 (ex A (tile i0)) d f) := fun w f => by
    refine (MT_at _ _ _ _ f).trans (Finset.sum_congr rfl fun d _ => ?_)
    rw [hx, WT_at w A.E (tile i0) d f (ex A (tile i0)) (IX_ex A.E _ _ _ (hA _).1)]
  refine if_congr Iff.rfl ?_ rfl
  refine (YT_at _ _ _ _ i1).trans (Finset.sum_congr rfl fun f _ => ?_)
  rw [DT_at A.WD A.E (tile i0) f i1 (ex A (tile i0)) (IX_ex A.E _ _ _ (hA _).1)]
  show SL _ _ * MT _ _ _ * _ = _
  rw [SL_at, hm, hm]
  rfl

variable (m : (ℓ : Loc nD τ sig) → Buf (Elt Ideal) ℓ) (ρ : Dev nD → PrngReg)

/-- The argument arrays. -/
def arrs (c : Dev nD) : Arr := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5)⟩

/-- The printed result is the operations composed. -/
theorem res_eq (c : Dev nD) : Value.res_main_v62 m c = REF (arrs m c) := by
  unfold Value.res_main_v62 REF OT YT SL MT XT WT DT IX SE SZ arrs
  rfl

/-- The reference's run. -/
theorem run : θ_run defs (onTc (τ := τ) (main (F := Ideal))) ⟨m, fun _ => 0, ρ⟩ fun r => ∀ c : Dev nD,
      r.2.mem ((c : Thread nD τ).loc main_v62) = REF (arrs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  exact (θ_run defs _ _).mono (fun r h c => ⟨(h c).1.trans (res_eq m c), (h c).2⟩) (Value.run m ρ)

end Cert.ExpertsRefIdeal.Block

end
-- ==== Proof.ExpertsIdealKit.lean ====
/- The experts call: its arrays, tables, blocks and staging buffers, named. -/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ExpertsIdeal.Run

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- The host program up to the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- Every block read through the tables lies inside its array. -/
abbrev Ok : Prop := ok0 (F := F) (tbl m)
/-- The tables, with that condition. -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S72 .i32 := Memref.whole main_arg0
abbrev htbM0_0 : tbM0_0.IsWhole := Memref.isWhole_whole _
abbrev tbM0_1 : Memref sig .tc .smem S72 .i32 := Memref.whole main_arg1
abbrev htbM0_1 : tbM0_1.IsWhole := Memref.isWhole_whole _

/-- A table held at half the full share. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The two tables, one by one. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's staging buffer holds its block at every point. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame claim from a run. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c)))⟩) h

/-- The kernel body at point `t`, on what the pipeline calls it with. -/
abbrev bodyAt (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _)

/-- Each window's current staging memref at point `t`, spelled as the pipeline passes it (`bodyAt0`), and its wholeness. -/
abbrev ms0_0 (hO : Ok m) (t : Fin (cfgM m hO).N) : Memref sig .tc .vmem S1024x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x512x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1024x1024 .bf16 := spec0_4.stage ((cfgM m hO).slots t 4)
abbrev hs0_4 (hO : Ok m) (t : Fin (cfgM m hO).N) : (ms0_4 m hO t).IsWhole := hstage0_4 (((cfgM m hO).slots t 4).cast nbuf0_4)

end Cert.ExpertsIdeal.Run

end
-- ==== Proof.ExpertsIdealRun.lean ====
/- The experts call's body, run once at any grid point: what it leaves in its result block and in its scratch. -/
module

public import proofs.«01_k».proof.Proof.ExpertsIdealKit
public import Idealize.ShloMosaic.Lib.WritesUnit
public import Idealize.ShloMosaic.Lib.WholeRead
public import Idealize.ShloMosaic.Lib.Pipeline.Value

@[expose] public section

set_option maxRecDepth 16384

noncomputable section

namespace Cert.ExpertsIdeal.Run

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word the body loads: the tile's validity. -/
abbrev wrd (c : Dev nD) (i : grid0.Coords) (xt1 : TbBuf0 (F := F) c tbM0_1) : BitVec 32 :=
  View.readAt (Elt F) tbM0_1.view (Rect.unit (s := S72) (k0_off1 i) S1.size (k0_off1_inb i)).toLoadRect xt1
    (Shape.Idx.first (numel1_S1.symm ▸ Nat.one_pos))

/-- The body clears a slot of its scratch. -/
abbrev cz (i : grid0.Coords) (w : BitVec 32) : Prop :=
  Scalar.cmpi .ne (Scalar.extui (Scalar.andi (Scalar.cmpi .sgt w 0#32) (Scalar.cmpi .eq (BitVec.ofNat 32 (i 1).val) 0#32))) 0#32 = 1#1

/-- The body adds to a slot of its scratch. -/
abbrev cv (w : BitVec 32) : Prop := Scalar.cmpi .ne (Scalar.extui (Scalar.cmpi .sgt w 0#32)) 0#32 = 1#1

/-- The slot of the scratch a point works on. -/
def sl (i : grid0.Coords) (a : Vec F S4x1024x1024 .f32) : Vec F S1x1024x1024 .f32 :=
  fun y => a ((Rect.unit (s := S4x1024x1024) (k0_off3 i) S1x1024x1024.size (k0_off3_inb i)).toLoadRect.idx y)

/-- The scratch with that slot replaced. -/
def put (i : grid0.Coords) (a : Vec F S4x1024x1024 .f32) (v : Vec F S1x1024x1024 .f32) : Vec F S4x1024x1024 .f32 :=
  fun y => if h : ∀ a, k0_off3 i a ≤ (y a).val ∧ (y a).val < k0_off3 i a + S1x1024x1024.size a then
    v (Rect.unitLocal (s := S4x1024x1024) (off := k0_off3 i) (size := S1x1024x1024.size) y h) else a y

/-- The scratch after clearing. -/
def a1 (i : grid0.Coords) (w : BitVec 32) (a : Vec F S4x1024x1024 .f32) : Vec F S4x1024x1024 .f32 :=
  if cz i w then put i a (k0_pay1 (F := F)) else a

/-- The scratch after the body. -/
def a2 (i : grid0.Coords) (w : BitVec 32) (x0 : Vec F S1024x1024 .bf16) (x1 x2 : Vec F S1x1024x512 .f32) (x3 : Vec F S1x512x1024 .f32)
    (a : Vec F S4x1024x1024 .f32) : Vec F S4x1024x1024 .f32 :=
  if cv w then put i (a1 i w a) (k0_pay2 x0 x1 x2 (sl i (a1 i w a)) x3) else a1 i w a

/-- The result block after the body. -/
def o2 (i : grid0.Coords) (w : BitVec 32) (x4 : Vec F S1024x1024 .bf16) (a : Vec F S4x1024x1024 .f32) : Vec F S1024x1024 .bf16 :=
  if k0_cond4 i w = 1#1 then (k0_pay4 (F := F)) else if k0_cond3 i w = 1#1 then k0_pay3 (sl i a) else x4

/-- Reading a choice of contents. -/
theorem rd_ite {sp : Space} {S : Shape} {e : EltTy} (M : Memref sig .tc sp S e) {P : Prop} [Decidable P] (f g : M.view.ty.Contents (Elt F)) (x y : Vec F S e)
    (hf : M.view.read (Elt F) f = x) (hg : M.view.read (Elt F) g = y) : M.view.read (Elt F) (if hc : P then f else g) = if P then x else y := by
  by_cases h : P
  · rw [dif_pos h, if_pos h, hf]
  · rw [dif_neg h, if_neg h, hg]

/-- Reading after one slot is written. -/
theorem rd_put (M : Memref sig .tc .vmem S4x1024x1024 .f32) (i : grid0.Coords) (f : M.view.ty.Contents (Elt F)) (a : Vec F S4x1024x1024 .f32)
    (hf : M.view.read (Elt F) f = a) (v : Vec F S1x1024x1024 .f32) :
    M.view.read (Elt F) (M.view.writes (Elt F) f [⟨Rect.unit (s := S4x1024x1024) (k0_off3 i) S1x1024x1024.size (k0_off3_inb i), v⟩]) = put i a v := by
  funext y
  refine (View.read_writes_cons_unit M.view f (k0_off3_inb i) v [] y rfl).trans ?_
  unfold put
  by_cases h : ∀ a, k0_off3 i a ≤ (y a).val ∧ (y a).val < k0_off3 i a + S1x1024x1024.size a
  · rw [dif_pos h, dif_pos h]
  · rw [dif_neg h, dif_neg h, ← hf]
    rfl

/-- Reading the scratch after the clearing branch. -/
theorem rd_a1 (M : Memref sig .tc .vmem S4x1024x1024 .f32) (i : grid0.Coords) (w : BitVec 32) (f : M.view.ty.Contents (Elt F)) (a : Vec F S4x1024x1024 .f32)
    (hf : M.view.read (Elt F) f = a) :
    M.view.read (Elt F) (if hc : cz i w then M.view.writes (Elt F) f [⟨Rect.unit (s := S4x1024x1024) (k0_off3 i) S1x1024x1024.size (k0_off3_inb i), (k0_pay1 (F := F))⟩] else f) = a1 i w a :=
  rd_ite M _ _ _ _ (rd_put M i f a hf _) hf

/-- Reading the scratch after both branches. -/
theorem rd_a2 (M : Memref sig .tc .vmem S4x1024x1024 .f32) (i : grid0.Coords) (w : BitVec 32) (f : M.view.ty.Contents (Elt F)) (a : Vec F S4x1024x1024 .f32)
    (hf : M.view.read (Elt F) f = a) (x0 : Vec F S1024x1024 .bf16) (x1 x2 : Vec F S1x1024x512 .f32) (x3 : Vec F S1x512x1024 .f32) :
    M.view.read (Elt F) (if hc : cv w then M.view.writes (Elt F)
        (if hc : cz i w then M.view.writes (Elt F) f [⟨Rect.unit (s := S4x1024x1024) (k0_off3 i) S1x1024x1024.size (k0_off3_inb i), (k0_pay1 (F := F))⟩] else f)
        [⟨Rect.unit (s := S4x1024x1024) (k0_off3 i) S1x1024x1024.size (k0_off3_inb i), k0_pay2 x0 x1 x2
          (M.view.readAt (Elt F) (Rect.unit (s := S4x1024x1024) (k0_off3 i) S1x1024x1024.size (k0_off3_inb i)).toLoadRect
            (if hc : cz i w then M.view.writes (Elt F) f [⟨Rect.unit (s := S4x1024x1024) (k0_off3 i) S1x1024x1024.size (k0_off3_inb i), (k0_pay1 (F := F))⟩] else f)) x3⟩]
      else if hc : cz i w then M.view.writes (Elt F) f [⟨Rect.unit (s := S4x1024x1024) (k0_off3 i) S1x1024x1024.size (k0_off3_inb i), (k0_pay1 (F := F))⟩] else f)
      = a2 i w x0 x1 x2 x3 a := by
  have h1 := rd_a1 M i w f a hf
  refine rd_ite M _ _ _ _ ((rd_put M i _ _ h1 _).trans ?_) h1
  have e : M.view.readAt (Elt F) (Rect.unit (s := S4x1024x1024) (k0_off3 i) S1x1024x1024.size (k0_off3_inb i)).toLoadRect
            (if hc : cz i w then M.view.writes (Elt F) f [⟨Rect.unit (s := S4x1024x1024) (k0_off3 i) S1x1024x1024.size (k0_off3_inb i), (k0_pay1 (F := F))⟩] else f)
      = sl i (a1 i w a) := by
    rw [← h1]; rfl
  rw [e]

/-- Reading the result block. -/
theorem rd_o2 (M : Memref sig .tc .vmem S1024x1024 .bf16) (i : grid0.Coords) (w : BitVec 32) (f : M.view.ty.Contents (Elt F)) (x4 : Vec F S1024x1024 .bf16)
    (hf : M.view.read (Elt F) f = x4) (a : Vec F S4x1024x1024 .f32) (u : Vec F S1x1024x1024 .f32) (hu : u = sl i a) :
    M.view.read (Elt F) (if hc : k0_cond4 i w = 1#1 then M.view.writes (Elt F)
        (if hc : k0_cond3 i w = 1#1 then M.view.writes (Elt F) f [⟨Rect.unit (s := S1024x1024) ![0, 0] S1024x1024.size inb_S1024x1024_S1024x1024_0_0, k0_pay3 u⟩] else f)
        [⟨Rect.unit (s := S1024x1024) ![0, 0] S1024x1024.size inb_S1024x1024_S1024x1024_0_0, (k0_pay4 (F := F))⟩]
      else if hc : k0_cond3 i w = 1#1 then M.view.writes (Elt F) f [⟨Rect.unit (s := S1024x1024) ![0, 0] S1024x1024.size inb_S1024x1024_S1024x1024_0_0, k0_pay3 u⟩] else f)
      = o2 i w x4 a := by
  have hfull : ∀ (g : M.view.ty.Contents (Elt F)) (v : Vec F S1024x1024 .bf16),
      M.view.read (Elt F) (M.view.writes (Elt F) g [⟨Rect.unit (s := S1024x1024) ![0, 0] S1024x1024.size inb_S1024x1024_S1024x1024_0_0, v⟩]) = v := by
    intro g v
    funext y
    exact View.read_writes_cons_unit_of_mem M.view g inb_S1024x1024_S1024x1024_0_0 v [] y y rfl (fun a => by
      match a with
      | ⟨0, _⟩ => exact (Nat.zero_add _).symm
      | ⟨1, _⟩ => exact (Nat.zero_add _).symm)
  subst hu
  exact rd_ite M _ _ _ _ (hfull _ _) (rd_ite M _ _ _ _ (hfull _ _) hf)

/-- A whole block read back. -/
theorem rd_full {S : Shape} {e : EltTy} (M : Memref sig .tc .vmem S e) (h : M.IsWhole) (x : Vec F S e) {off : Fin S.rank → ℕ} (h0 : off = fun _ => 0)
    (inb : ∀ a, off a + S.size a ≤ S.size a) : M.view.readAt (Elt F) (Rect.unit (s := S) off S.size inb).toLoadRect (h.unread x) = x := by
  subst h0
  funext y
  show M.view.read (Elt F) (h.unread x) _ = _
  rw [h.read_unread]
  exact congrArg x (funext fun a => Fin.ext (by show 0 + 1 * (y a).val = (y a).val; omega))

set_option maxHeartbeats 1000000 in
/-- THE BODY at any grid point. -/
theorem run (c : Dev nD) (i : grid0.Coords) (arg5 : Memref sig .tc .vmem S1024x1024 .bf16) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1x512x1024 .f32) (harg8 : arg8.IsWhole) (arg9 : Memref sig .tc .vmem S1024x1024 .bf16) (harg9 : arg9.IsWhole) (arg10 : Memref sig .tc .vmem S4x1024x1024 .f32) (harg10 : arg10.IsWhole)
    (x0 : Vec F S1024x1024 .bf16) (x1 : Vec F S1x1024x512 .f32) (x2 : Vec F S1x1024x512 .f32) (x3 : Vec F S1x512x1024 .f32) (x4 : Vec F S1024x1024 .bf16) (a : Vec F S4x1024x1024 .f32) (xt0 : TbBuf0 (F := F) c tbM0_0) (xt1 : TbBuf0 (F := F) c tbM0_1) (E : Set ℕ) (K : PUnit → sProp 𝕄) :
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare a ∗ tbPt0 c tbM0_0 xt0 ∗ tbPt0 c tbM0_1 xt1
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare (o2 i (wrd c i xt1) x4 (a2 i (wrd c i xt1) x0 x1 x2 x3 a)) ∗ owns (c : Thread nD τ) arg10 fullShare (a2 i (wrd c i xt1) x0 x1 x2 x3 a) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg5 harg5 arg6 harg6 arg7 harg7 arg8 harg8 arg9 harg9 arg10 harg10) K := by
    have r0 := rd_full arg5 harg5 x0 (off := ![0, 0]) (by funext a; match a with | ⟨0, _⟩ => rfl | ⟨1, _⟩ => rfl) inb_S1024x1024_S1024x1024_0_0
    have r1 := rd_full arg6 harg6 x1 (off := ![0, 0, 0]) (by funext a; match a with | ⟨0, _⟩ => rfl | ⟨1, _⟩ => rfl | ⟨2, _⟩ => rfl) inb_S1x1024x512_S1x1024x512_0_0_0
    have r2 := rd_full arg7 harg7 x2 (off := ![0, 0, 0]) (by funext a; match a with | ⟨0, _⟩ => rfl | ⟨1, _⟩ => rfl | ⟨2, _⟩ => rfl) inb_S1x1024x512_S1x1024x512_0_0_0
    have r3 := rd_full arg8 harg8 x3 (off := ![0, 0, 0]) (by funext a; match a with | ⟨0, _⟩ => rfl | ⟨1, _⟩ => rfl | ⟨2, _⟩ => rfl) inb_S1x512x1024_S1x512x1024_0_0_0
    simp only [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, HT0, HT1, Hk⟩
    obtain rfl := harg5.eq_unread hf0; obtain rfl := harg6.eq_unread hf1; obtain rfl := harg7.eq_unread hf2; obtain rfl := harg8.eq_unread hf3
    obtain rfl := harg9.eq_unread hf4; obtain rfl := harg10.eq_unread hf5
    sl_exec
    sl_step
    iapply Hk
    delta run.sl.v21 run.sl.v30
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr
      swap; · iexact H4
      ipureintro
      refine rd_o2 arg9 i (wrd c i xt1) _ x4 hf4 _ _ ?_
      exact congrArg (sl i) (rd_a2 arg10 i (wrd c i xt1) _ a hf5 x0 x1 x2 x3)
    isplitl [H5]
    · iexists _; isplitr
      swap; · iexact H5
      ipureintro
      exact rd_a2 arg10 i (wrd c i xt1) _ a hf5 x0 x1 x2 x3
    isplitl [HT0]; · iexact HT0
    iexact HT1

end Cert.ExpertsIdeal.Run

end
-- ==== Proof.ExpertsIdealFrame.lean ====
/- The experts call: what its scratch holds point by point, and the run of the whole call. -/
module

public import proofs.«01_k».proof.Proof.ExpertsIdealRun
public import Idealize.ShloMosaic.Lib.ValueIdxCore
public import Idealize.ShloMosaic.Lib.Claim

@[expose] public section

set_option maxRecDepth 16384

noncomputable section

namespace Cert.ExpertsIdeal.Run

open Cert.ExpertsIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Slots of the scratch -/

/-- Slot `s` of the scratch. -/
def slot (s : Fin 4) (a : Vec F S4x1024x1024 .f32) : Vec F S1x1024x1024 .f32 := fun y => a (ix3 s (y 1) (y 2))

theorem off3 (i : grid0.Coords) : k0_off3 i 0 = (i 2).val := by
  have h : (i 2).val < 4 := (i 2).isLt
  show (BitVec.ofNat 32 (i 2).val).toNat = _
  rw [BitVec.toNat_ofNat]; omega

theorem sl_eq (i : grid0.Coords) (a : Vec F S4x1024x1024 .f32) : sl i a = slot (i 2) a := by
  funext y
  refine congrArg a (funext fun k => Fin.ext ?_)
  match k with
  | ⟨0, _⟩ =>
    have h0 : (y 0).val < 1 := (y 0).isLt
    show k0_off3 i 0 + 1 * (y 0).val = (i 2).val
    rw [off3]; omega
  | ⟨1, _⟩ => show 0 + 1 * (y 1).val = (y 1).val; omega
  | ⟨2, _⟩ => show 0 + 1 * (y 2).val = (y 2).val; omega

theorem slot_put_same (i : grid0.Coords) (a : Vec F S4x1024x1024 .f32) (v : Vec F S1x1024x1024 .f32) : slot (i 2) (put i a v) = v := by
  funext y
  have hh : ∀ k, k0_off3 i k ≤ ((ix3 (i 2) (y 1) (y 2) : S4x1024x1024.Idx) k).val ∧ ((ix3 (i 2) (y 1) (y 2) : S4x1024x1024.Idx) k).val < k0_off3 i k + S1x1024x1024.size k := fun k => by
    match k with
    | ⟨0, _⟩ => show k0_off3 i 0 ≤ (i 2).val ∧ (i 2).val < k0_off3 i 0 + 1; rw [off3]; omega
    | ⟨1, _⟩ => exact ⟨Nat.zero_le _, by show (y 1).val < 0 + 1024; have := (y 1).isLt; rw [Nat.zero_add]; exact this⟩
    | ⟨2, _⟩ => exact ⟨Nat.zero_le _, by show (y 2).val < 0 + 1024; have := (y 2).isLt; rw [Nat.zero_add]; exact this⟩
  unfold slot put
  rw [dif_pos hh]
  refine congrArg v (funext fun k => Fin.ext ?_)
  match k with
  | ⟨0, _⟩ =>
    have h0 : (y 0).val < 1 := (y 0).isLt
    show (i 2).val - k0_off3 i 0 = (y 0).val
    rw [off3]; omega
  | ⟨1, _⟩ => rfl
  | ⟨2, _⟩ => rfl

theorem slot_put_other (i : grid0.Coords) (s : Fin 4) (hs : s ≠ i 2) (a : Vec F S4x1024x1024 .f32) (v : Vec F S1x1024x1024 .f32) : slot s (put i a v) = slot s a := by
  funext y
  unfold slot put
  rw [dif_neg]
  intro hh
  have h0 : k0_off3 i 0 ≤ s.val ∧ s.val < k0_off3 i 0 + 1 := hh 0
  rw [off3] at h0
  exact hs (Fin.ext (by omega))

/-! ## Which branches a point takes -/

theorem co0 (t : Fin grid0.N) : (grid0.coords t 0).val = t.val / 28 % 18 := Pipeline.Grid.coords_val t 0 (by decide) rfl
theorem co1 (t : Fin grid0.N) : (grid0.coords t 1).val = t.val / 4 % 7 := Pipeline.Grid.coords_val t 1 (by decide) rfl
theorem co2 (t : Fin grid0.N) : (grid0.coords t 2).val = t.val % 4 := (Pipeline.Grid.coords_val (S := 1) (B := 4) t 2 (by decide) rfl).trans (by rw [Nat.div_one])

theorem cz_iff (i : grid0.Coords) (w : BitVec 32) : cz i w ↔ cv w ∧ (i 1).val = 0 := by
  have e : ∀ (b : BitVec 1) (j : Fin 7), (Scalar.cmpi .ne ((Scalar.extui (Scalar.andi b (Scalar.cmpi .eq (BitVec.ofNat 32 j.val) 0#32)) : BitVec 32)) 0#32 = 1#1)
      ↔ (Scalar.cmpi .ne ((Scalar.extui b : BitVec 32)) 0#32 = 1#1 ∧ j.val = 0) := by decide
  exact e _ (i 1)
theorem cond3_iff (i : grid0.Coords) (w : BitVec 32) : k0_cond3 i w = 1#1 ↔ cv w ∧ (i 1).val = 6 := by
  have e : ∀ (b : BitVec 1) (j : Fin 7), (Scalar.cmpi .ne ((Scalar.extui (Scalar.andi b (Scalar.cmpi .eq (BitVec.ofNat 32 j.val) 6#32)) : BitVec 32)) 0#32 = 1#1)
      ↔ (Scalar.cmpi .ne ((Scalar.extui b : BitVec 32)) 0#32 = 1#1 ∧ j.val = 6) := by decide
  exact e _ (i 1)
theorem cond4_iff (i : grid0.Coords) (w : BitVec 32) : k0_cond4 i w = 1#1 ↔ ¬cv w ∧ (i 1).val = 6 := by
  have e : ∀ (b : BitVec 1) (j : Fin 7), (Scalar.cmpi .ne ((Scalar.extui (Scalar.andi (Scalar.xori b 1#1) (Scalar.cmpi .eq (BitVec.ofNat 32 j.val) 6#32)) : BitVec 32)) 0#32 = 1#1)
      ↔ (¬(Scalar.cmpi .ne ((Scalar.extui b : BitVec 32)) 0#32 = 1#1) ∧ j.val = 6) := by decide
  exact e _ (i 1)

/-! ## The table of valid tiles -/

/-- Tile `k`'s word. -/
def tw (k : ℕ) : BitVec 32 := tbl m 1 (ix1 ⟨k % 72, Nat.mod_lt _ (by decide)⟩ : S72.Idx)

theorem off1 (t : Fin grid0.N) : k0_off1 (grid0.coords t) 0 = (t.val / 28 * 4 + t.val % 4) % 72 := by
  have ht : t.val < 504 := Nat.lt_of_lt_of_eq t.isLt N_0
  show (Scalar.addi (Scalar.muli (BitVec.ofNat 32 (grid0.coords t 0).val) 4#32) (BitVec.ofNat 32 (grid0.coords t 2).val)).toNat = _
  rw [co0, co2]
  show ((BitVec.ofNat 32 (t.val / 28 % 18)) * 4#32 + (BitVec.ofNat 32 (t.val % 4))).toNat = _
  rw [BitVec.toNat_add, BitVec.toNat_mul, BitVec.toNat_ofNat, BitVec.toNat_ofNat]
  show (t.val / 28 % 18 % 4294967296 * 4 % 4294967296 + t.val % 4 % 4294967296) % 4294967296 = _
  have h1 : t.val / 28 < 18 := by omega
  have h2 : t.val % 4 < 4 := by omega
  rw [Nat.mod_eq_of_lt h1]
  generalize t.val / 28 = x at *
  generalize t.val % 4 = y at *
  rw [Nat.mod_eq_of_lt (by omega : x < 4294967296), Nat.mod_eq_of_lt (by omega : x * 4 < 4294967296), Nat.mod_eq_of_lt (by omega : y < 4294967296),
    Nat.mod_eq_of_lt (by omega : x * 4 + y < 4294967296), Nat.mod_eq_of_lt (by omega : x * 4 + y < 72)]

theorem wrd_eq (c : Dev nD) (t : Fin grid0.N) : wrd c (grid0.coords t) (tbl m 1) = tw m (t.val / 28 * 4 + t.val % 4) := by
  refine congrArg (tbl m 1) (funext fun k => Fin.ext ?_)
  match k with
  | ⟨0, _⟩ => exact (Nat.add_zero _).trans (off1 t)

theorem atD_eq (t : Fin grid0.N) : (tbl m).atD 1 (k0_off1 (grid0.coords t)) = tw m (t.val / 28 * 4 + t.val % 4) := by
  have hb : ∀ a, k0_off1 (grid0.coords t) a + 1 ≤ ((pre0.ref 1).ty.shape).size a := fun a => by
    match a with
    | ⟨0, _⟩ => exact k0_off1_inb (grid0.coords t) 0
  refine (dif_pos hb).trans ?_
  refine congrArg (tbl m 1) (funext fun k => Fin.ext ?_)
  match k with
  | ⟨0, _⟩ => exact off1 t

/-! ## What the scratch holds -/

/-- The grid point of number `n`. -/
def pt (hO : Ok m) (n : ℕ) : Fin (cfgM m hO).N := ⟨n % 504, lt_of_lt_of_eq (Nat.mod_lt _ (by decide)) (show 504 = (cfgM m hO).N from N_0.symm)⟩

theorem pt_val (hO : Ok m) (t : Fin (cfgM m hO).N) : pt m hO t.val = t :=
  Fin.ext (Nat.mod_eq_of_lt (lt_of_lt_of_eq t.isLt (show (cfgM m hO).N = 504 from N_0)))

/-- Tile `4 * g + s`'s running sum after `k` of its points. -/
def acc (hO : Ok m) (c : Dev nD) (g s : ℕ) : ℕ → Vec F S1x1024x1024 .f32
  | 0 => k0_pay1 (F := F)
  | k + 1 => k0_pay2 (iblk m hO c 0 (pt m hO (g * 28 + k * 4 + s))) (iblk m hO c 1 (pt m hO (g * 28 + k * 4 + s)))
      (iblk m hO c 2 (pt m hO (g * 28 + k * 4 + s))) (acc hO c g s k) (iblk m hO c 3 (pt m hO (g * 28 + k * 4 + s)))

/-- Before point `n`: slot `s` holds its tile's sum so far, if the tile is valid and was begun. -/
def P (hO : Ok m) (c : Dev nD) (n : ℕ) (a : Vec F S4x1024x1024 .f32) : Prop :=
  ∀ s : Fin 4, 1 ≤ (n % 28 + 3 - s.val) / 4 → cv (tw m (n / 28 * 4 + s.val)) → slot s a = acc m hO c (n / 28) s.val ((n % 28 + 3 - s.val) / 4)

/-- The result block a point leaves where it leaves one. -/
def out (hO : Ok m) (c : Dev nD) (n : ℕ) : Vec F S1024x1024 .bf16 :=
  if cv (tw m (n / 28 * 4 + n % 4)) then k0_pay3 (acc m hO c (n / 28) (n % 4) 7) else k0_pay4 (F := F)

theorem P_zero (hO : Ok m) (c : Dev nD) (a : Vec F S4x1024x1024 .f32) : P m hO c 0 a := by
  intro s h1
  exfalso; omega

/-- The scratch after the body at point `t`. -/
abbrev nx (hO : Ok m) (c : Dev nD) (t : Fin (cfgM m hO).N) (a : Vec F S4x1024x1024 .f32) : Vec F S4x1024x1024 .f32 :=
  a2 (grid0.coords t) (wrd c (grid0.coords t) (tbl m 1)) (iblk m hO c 0 t) (iblk m hO c 1 t) (iblk m hO c 2 t) (iblk m hO c 3 t) a

theorem nx_same (hO : Ok m) (c : Dev nD) (t : Fin (cfgM m hO).N) (a : Vec F S4x1024x1024 .f32) (hP : P m hO c t.val a)
    (hv : cv (tw m (t.val / 28 * 4 + t.val % 4))) :
    slot (grid0.coords t 2) (nx m hO c t a) = acc m hO c (t.val / 28) (t.val % 4) (t.val / 4 % 7 + 1) := by
  have ht : t.val < 504 := lt_of_lt_of_eq t.isLt (show (cfgM m hO).N = 504 from N_0)
  have e2 : (grid0.coords t 2).val = t.val % 4 := co2 t
  unfold nx a2
  rw [wrd_eq, if_pos hv, slot_put_same, sl_eq]
  have hs : slot (grid0.coords t 2) (a1 (grid0.coords t) (tw m (t.val / 28 * 4 + t.val % 4)) a) = acc m hO c (t.val / 28) (t.val % 4) (t.val / 4 % 7) := by
    unfold a1
    by_cases h0 : (grid0.coords t 1).val = 0
    · rw [if_pos ((cz_iff _ _).mpr ⟨hv, h0⟩), slot_put_same]
      rw [← co1 t, h0]; rfl
    · rw [if_neg (fun h => h0 ((cz_iff _ _).mp h).2)]
      rw [co1] at h0
      have := hP (grid0.coords t 2) (by rw [e2]; omega) (by rw [e2]; exact hv)
      rw [this, e2]
      congr 1; omega
  rw [hs]
  have ep : pt m hO (t.val / 28 * 28 + t.val / 4 % 7 * 4 + t.val % 4) = t :=
    (congrArg (pt m hO) (by omega)).trans (pt_val m hO t)
  show _ = k0_pay2 (iblk m hO c 0 (pt m hO (t.val / 28 * 28 + t.val / 4 % 7 * 4 + t.val % 4))) (iblk m hO c 1 (pt m hO (t.val / 28 * 28 + t.val / 4 % 7 * 4 + t.val % 4)))
      (iblk m hO c 2 (pt m hO (t.val / 28 * 28 + t.val / 4 % 7 * 4 + t.val % 4))) (acc m hO c (t.val / 28) (t.val % 4) (t.val / 4 % 7)) (iblk m hO c 3 (pt m hO (t.val / 28 * 28 + t.val / 4 % 7 * 4 + t.val % 4)))
  rw [ep]

theorem nx_other (hO : Ok m) (c : Dev nD) (t : Fin (cfgM m hO).N) (a : Vec F S4x1024x1024 .f32) (s : Fin 4) (hs : s ≠ grid0.coords t 2) :
    slot s (nx m hO c t a) = slot s a := by
  have h1 : ∀ w, slot s (a1 (grid0.coords t) w a) = slot s a := by
    intro w
    unfold a1
    by_cases h : cz (grid0.coords t) w
    · rw [if_pos h, slot_put_other _ _ hs]
    · rw [if_neg h]
  unfold nx a2
  by_cases h : cv (wrd c (grid0.coords t) (tbl m 1))
  · rw [if_pos h, slot_put_other _ _ hs, h1]
  · rw [if_neg h, h1]

theorem P_step (hO : Ok m) (c : Dev nD) (t : Fin (cfgM m hO).N) (a : Vec F S4x1024x1024 .f32) (hP : P m hO c t.val a) :
    P m hO c (t.val + 1) (nx m hO c t a) := by
  have e2 : (grid0.coords t 2).val = t.val % 4 := co2 t
  intro s h1 hv
  have hlt : s.val < 4 := s.isLt
  have eg : (t.val + 1) / 28 = t.val / 28 := by omega
  rw [eg] at hv ⊢
  by_cases hs : s = grid0.coords t 2
  · have hsv : s.val = t.val % 4 := by rw [hs, e2]
    rw [hsv] at hv
    rw [hsv, hs, nx_same m hO c t a hP hv]
    congr 1; omega
  · have hsv : s.val ≠ t.val % 4 := fun h => hs (Fin.ext (h.trans e2.symm))
    have ek : ((t.val + 1) % 28 + 3 - s.val) / 4 = (t.val % 28 + 3 - s.val) / 4 := by omega
    rw [nx_other m hO c t a s hs, ek]
    exact hP s (by omega) hv

theorem o2_last (hO : Ok m) (c : Dev nD) (t : Fin (cfgM m hO).N) (a : Vec F S4x1024x1024 .f32) (hP : P m hO c t.val a) (h6 : t.val / 4 % 7 = 6) (x4 : Vec F S1024x1024 .bf16) :
    o2 (grid0.coords t) (wrd c (grid0.coords t) (tbl m 1)) x4 (nx m hO c t a) = out m hO c t.val := by
  have h6' : (grid0.coords t 1).val = 6 := (co1 t).trans h6
  unfold o2 out
  by_cases hv : cv (tw m (t.val / 28 * 4 + t.val % 4))
  · have h3 : k0_cond3 (grid0.coords t) (wrd c (grid0.coords t) (tbl m 1)) = 1#1 := (cond3_iff _ _).mpr ⟨by rw [wrd_eq]; exact hv, h6'⟩
    have h4 : ¬k0_cond4 (grid0.coords t) (wrd c (grid0.coords t) (tbl m 1)) = 1#1 := fun h => by
      have := ((cond4_iff _ _).mp h).1; rw [wrd_eq] at this; exact this hv
    rw [if_neg h4, if_pos h3, if_pos hv, sl_eq, nx_same m hO c t a hP hv, h6]
  · have h4 : k0_cond4 (grid0.coords t) (wrd c (grid0.coords t) (tbl m 1)) = 1#1 := (cond4_iff _ _).mpr ⟨by rw [wrd_eq]; exact hv, h6'⟩
    rw [if_pos h4, if_neg hv]

theorem o2_idle (c : Dev nD) (t : Fin grid0.N) (a : Vec F S4x1024x1024 .f32) (h6 : ¬t.val / 4 % 7 = 6) (w : BitVec 32) (x4 : Vec F S1024x1024 .bf16) :
    o2 (grid0.coords t) w x4 a = x4 := by
  have h6' : ¬(grid0.coords t 1).val = 6 := fun h => h6 ((co1 t).symm.trans h)
  unfold o2
  rw [if_neg (fun h => h6' ((cond4_iff _ _).mp h).2), if_neg (fun h => h6' ((cond3_iff _ _).mp h).2)]

/-! ## Idle points and write-backs of the result -/

theorem live0 (hO : Ok m) (t : Fin (cfgM m hO).N) : (cfgM m hO).idle 0 (grid0.coords t) = false := rfl
theorem live1 (hO : Ok m) (t : Fin (cfgM m hO).N) : (cfgM m hO).idle 1 (grid0.coords t) = false := rfl
theorem live2 (hO : Ok m) (t : Fin (cfgM m hO).N) : (cfgM m hO).idle 2 (grid0.coords t) = false := rfl
theorem live3 (hO : Ok m) (t : Fin (cfgM m hO).N) : (cfgM m hO).idle 3 (grid0.coords t) = false := rfl

theorem idle4_of (i : grid0.Coords) (w : BitVec 32) (h : ¬(i 1).val = 6) : (!(k0_cond3 i w == 1#1) && !(k0_cond4 i w == 1#1)) = true := by
  have h3 : ¬k0_cond3 i w = 1#1 := fun e => h ((cond3_iff _ _).mp e).2
  have h4 : ¬k0_cond4 i w = 1#1 := fun e => h ((cond4_iff _ _).mp e).2
  simp [h3, h4]
theorem live4_of (i : grid0.Coords) (w : BitVec 32) (h : (i 1).val = 6) : (!(k0_cond3 i w == 1#1) && !(k0_cond4 i w == 1#1)) = false := by
  by_cases hv : cv w
  · simp [(cond3_iff i w).mpr ⟨hv, h⟩]
  · simp [(cond4_iff i w).mpr ⟨hv, h⟩]

theorem idle4 (hO : Ok m) (t : Fin (cfgM m hO).N) (h : ¬t.val / 4 % 7 = 6) : (cfgM m hO).idle 4 (grid0.coords t) = true :=
  idle4_of (grid0.coords t) ((tbl m).atD 1 (k0_off1 (grid0.coords t))) fun e => h ((co1 t).symm.trans e)
theorem live4 (hO : Ok m) (t : Fin (cfgM m hO).N) (h : t.val / 4 % 7 = 6) : (cfgM m hO).idle 4 (grid0.coords t) = false :=
  live4_of (grid0.coords t) ((tbl m).atD 1 (k0_off1 (grid0.coords t))) ((co1 t).trans h)
theorem noFlush4 (hO : Ok m) (t : Fin (cfgM m hO).N) (h : ¬t.val / 4 % 7 = 6) : ((cfgM m hO).win 4).flush t = false :=
  (by decide +kernel : ∀ t : Fin grid0.N, ¬t.val / 4 % 7 = 6 → Pipeline.Window.flushOf grid0 true cc0_transform_4 t = false) t h

/-! ## The proof data -/

/-- The scratch, as a memref. -/
abbrev scM : Memref sig .tc .vmem S4x1024x1024 .f32 := Memref.whole cc0_scratch0

/-- Before point `n`: the scratch at contents `P` describes, the generator register, the tables. -/
def PhiN (hO : Ok m) (c : Dev nD) (n : ℕ) : sProp 𝕄 :=
  iprop((∃ a, ⌜P m hO c n a⌝ ∗ owns (c : Thread nD τ) scM fullShare a) ∗ (∃ r, prngReg c r) ∗ Pipeline.ΦT pre0 (tbl m) c)

/-- The proof data of the call. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (out m hO c t.val)
  Φ t := PhiN m hO c t.val
  q _ := fullShare
  owed _ := 0

theorem A_eq (hO : Ok m) (c : Dev nD) (w : Fin (cfgM m hO).W) : (dats m hO 0 c).A w = V m c (Pipeline.arrRef spec0 w) := by
  dsimp only [dats]

theorem Phi_eq (hO : Ok m) (c : Dev nD) (t : Fin ((cfgM m hO).N + 1)) : (dats m hO 0 c).Φ t = PhiN m hO c t.val := by
  dsimp only [dats]
theorem Phi_cast (hO : Ok m) (c : Dev nD) (t : Fin (cfgM m hO).N) : (dats m hO 0 c).Φ t.castSucc = PhiN m hO c t.val := by
  have e : t.castSucc.val = t.val := by first | exact Fin.val_castSucc t | exact Fin.coe_castSucc t
  rw [Phi_eq, e]
theorem Phi_succ (hO : Ok m) (c : Dev nD) (t : Fin (cfgM m hO).N) : (dats m hO 0 c).Φ t.succ = PhiN m hO c (t.val + 1) := by
  have e : t.succ.val = t.val + 1 := Fin.val_succ t
  rw [Phi_eq, e]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (out m hO c t.val) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body at a point -/

/-- What the body is called with, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

/-- `run`, the result block named. -/
theorem run_of (c : Dev nD) (i : grid0.Coords) (arg5 : Memref sig .tc .vmem S1024x1024 .bf16) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1x512x1024 .f32) (harg8 : arg8.IsWhole) (arg9 : Memref sig .tc .vmem S1024x1024 .bf16) (harg9 : arg9.IsWhole) (arg10 : Memref sig .tc .vmem S4x1024x1024 .f32) (harg10 : arg10.IsWhole)
    (x0 : Vec F S1024x1024 .bf16) (x1 : Vec F S1x1024x512 .f32) (x2 : Vec F S1x1024x512 .f32) (x3 : Vec F S1x512x1024 .f32) (x4 : Vec F S1024x1024 .bf16) (a : Vec F S4x1024x1024 .f32) (xt0 : TbBuf0 (F := F) c tbM0_0) (xt1 : TbBuf0 (F := F) c tbM0_1) (y4 : Vec F S1024x1024 .bf16) (hy : o2 i (wrd c i xt1) x4 (a2 i (wrd c i xt1) x0 x1 x2 x3 a) = y4) (E : Set ℕ) (K : PUnit → sProp 𝕄) :
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare a ∗ tbPt0 c tbM0_0 xt0 ∗ tbPt0 c tbM0_1 xt1
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare y4 ∗ owns (c : Thread nD τ) arg10 fullShare (a2 i (wrd c i xt1) x0 x1 x2 x3 a) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg5 harg5 arg6 harg6 arg7 harg7 arg8 harg8 arg9 harg9 arg10 harg10) K := by
  subst hy
  exact run c i arg5 harg5 arg6 harg6 arg7 harg7 arg8 harg8 arg9 harg9 arg10 harg10 x0 x1 x2 x3 x4 a xt0 xt1 E K

set_option maxHeartbeats 800000 in
/-- The body at any point. -/
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0_0, before0_1, before0_2, before0_3]
  rw [show (dats m hO 0 c).owesAt () t.succ = (dats m hO 0 c).owesAt () t.castSucc from rfl]
  rw [Phi_cast, Phi_succ]
  unfold PhiN
  rw [PhiT0_eq]
  rw [show (dats m hO 0 c).leavesExact 0 t = owns (c : Thread nD τ) (ms0_0 m hO t) fullShare ((dats m hO 0 c).after 0 t) from by
    unfold Dat.leavesExact; rw [live0 m hO t]; try rfl, after0_0]
  rw [show (dats m hO 0 c).leavesExact 1 t = owns (c : Thread nD τ) (ms0_1 m hO t) fullShare ((dats m hO 0 c).after 1 t) from by
    unfold Dat.leavesExact; rw [live1 m hO t]; try rfl, after0_1]
  rw [show (dats m hO 0 c).leavesExact 2 t = owns (c : Thread nD τ) (ms0_2 m hO t) fullShare ((dats m hO 0 c).after 2 t) from by
    unfold Dat.leavesExact; rw [live2 m hO t]; try rfl, after0_2]
  rw [show (dats m hO 0 c).leavesExact 3 t = owns (c : Thread nD τ) (ms0_3 m hO t) fullShare ((dats m hO 0 c).after 3 t) from by
    unfold Dat.leavesExact; rw [live3 m hO t]; try rfl, after0_3]
  by_cases h6 : t.val / 4 % 7 = 6
  · rw [show (dats m hO 0 c).leavesExact 4 t = owns (c : Thread nD τ) (ms0_4 m hO t) fullShare ((dats m hO 0 c).after 4 t) from by
      unfold Dat.leavesExact; rw [live4 m hO t h6]; try rfl, after0_4]
    iintro ⟨⟨⟨%a, %hP, Ha⟩, Hr, ⟨HT0, HT1⟩⟩, Ho, ⟨%d0, H0⟩, ⟨%d1, H1⟩, ⟨%d2, H2⟩, ⟨%d3, H3⟩, ⟨%d4, H4⟩⟩
    iapply (run_of c (grid0.coords t) _ _ _ _ _ _ _ _ _ _ _ _ (iblk m hO c 0 t) (iblk m hO c 1 t) (iblk m hO c 2 t) (iblk m hO c 3 t) _ a (tbl m 0) (tbl m 1) _ (o2_last m hO c t a hP h6 _) Set.univ _)
    isplitl [H0]; · iexact H0
    isplitl [H1]; · iexact H1
    isplitl [H2]; · iexact H2
    isplitl [H3]; · iexact H3
    isplitl [H4]; · iexact H4
    isplitl [Ha]; · iexact Ha
    isplitl [HT0]; · iexact HT0
    isplitl [HT1]; · iexact HT1
    iintro ⟨H0, H1, H2, H3, H4, Ha, HT0, HT1⟩
    isplitl [Ha Hr HT0 HT1]
    · isplitl [Ha]
      · iexists _; isplitr
        swap; · iexact Ha
        ipureintro; exact P_step m hO c t a hP
      isplitl [Hr]; · iexact Hr
      isplitl [HT0]; · iexact HT0
      iexact HT1
    isplitl [Ho]; · iexact Ho
    isplitl [H0]; · iexact H0
    isplitl [H1]; · iexact H1
    isplitl [H2]; · iexact H2
    isplitl [H3]; · iexact H3
    iexact H4
  · rw [Dat.leavesExact_idle (dats m hO 0 c) 4 t (idle4 m hO t h6) (noFlush4 m hO t h6)]
    iintro ⟨⟨⟨%a, %hP, Ha⟩, Hr, ⟨HT0, HT1⟩⟩, Ho, ⟨%d0, H0⟩, ⟨%d1, H1⟩, ⟨%d2, H2⟩, ⟨%d3, H3⟩, ⟨%d4, H4⟩⟩
    iapply (run_of c (grid0.coords t) _ _ _ _ _ _ _ _ _ _ _ _ (iblk m hO c 0 t) (iblk m hO c 1 t) (iblk m hO c 2 t) (iblk m hO c 3 t) _ a (tbl m 0) (tbl m 1) _ (o2_idle c t _ h6 _ _) Set.univ _)
    isplitl [H0]; · iexact H0
    isplitl [H1]; · iexact H1
    isplitl [H2]; · iexact H2
    isplitl [H3]; · iexact H3
    isplitl [H4]; · iexact H4
    isplitl [Ha]; · iexact Ha
    isplitl [HT0]; · iexact HT0
    isplitl [HT1]; · iexact HT1
    iintro ⟨H0, H1, H2, H3, H4, Ha, HT0, HT1⟩
    isplitl [Ha Hr HT0 HT1]
    · isplitl [Ha]
      · iexists _; isplitr
        swap; · iexact Ha
        ipureintro; exact P_step m hO c t a hP
      isplitl [Hr]; · iexact Hr
      isplitl [HT0]; · iexact HT0
      iexact HT1
    isplitl [Ho]; · iexact Ho
    isplitl [H0]; · iexact H0
    isplitl [H1]; · iexact H1
    isplitl [H2]; · iexact H2
    isplitl [H3]; · iexact H3
    iexists _; iexact H4

theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run -/

theorem PhiA0_eq (c : Dev nD) : (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

theorem hin (hO : Ok m) (c : Dev nD) : iprop(Pipeline.ΦA spec0 c ∗ Pipeline.ΦT pre0 (tbl m) c) ⊢ (dats m hO 0 c).Φ 0 := by
  rw [(Phi_eq m hO c 0).trans (congrArg (PhiN m hO c) (Fin.val_zero _)), PhiA0_eq]
  unfold PhiN
  iintro ⟨⟨⟨%d, Hd⟩, Hr⟩, HT⟩
  isplitl [Hd]
  · iexists d; isplitr
    swap; · iexact Hd
    ipureintro; exact P_zero m hO c d
  isplitl [Hr]; · iexact Hr
  iexact HT

theorem hout (hO : Ok m) (c : Dev nD) : (dats m hO 0 c).Φ (Fin.last (cfgM m hO).N) ⊢ Pipeline.ΦA spec0 c := by
  rw [Phi_eq m hO c, PhiA0_eq]
  unfold PhiN
  iintro ⟨⟨%d, -, Hd⟩, Hr, -⟩
  isplitl [Hd]
  · iexists d; iexact Hd
  iexact Hr

set_option backward.isDefEq.respectTransparency.types false in
/-- The call, run. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- The arguments end unchanged and every semaphore is at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.ExpertsIdeal.Run

end
-- ==== Proof.ExpertsIdealIdx.lean ====
/- The experts call: the blocks its tables name, and that tables in range name blocks inside the arrays. -/
module

public import proofs.«01_k».proof.Proof.ExpertsIdealFrame

@[expose] public section

set_option maxRecDepth 16384

noncomputable section

namespace Cert.ExpertsIdeal.Run

open Cert.ExpertsIdeal.Gen
open Idealize.ShloMosaic Idealize.ShloMosaic.TcCoe
open Idealize.ShloMosaic.ValueIdx

variable {F : FTy → Type} [FloatOps F]

variable (m : (ℓ : Loc nD τ sig) → Buf (Elt F) ℓ)

/-- Tile `k`'s expert word. -/
def te (k : S72.Idx) : BitVec 32 := tbl m 0 k
/-- Tile `k`'s validity word. -/
def tv (k : S72.Idx) : BitVec 32 := tbl m 1 k

/-- The tables' words are in range. -/
def InR : Prop := ∀ k : S72.Idx, (te m k).toNat ≤ 7 ∧ (tv m k).toNat ≤ 1

/-- The tile of a point. -/
def kk (i : grid0.Coords) : S72.Idx := ix1 ⟨k0_off1 i 0, k0_off1_inb i 0⟩

theorem at0 (i : grid0.Coords) : (tbl m).at 0 (Rect.unit (s := S72) (k0_off1 i) S1.size (k0_off1_inb i)) numel1_S1 = te m (kk i) := by
  refine congrArg (tbl m 0) (funext fun k => Fin.ext ?_)
  match k with
  | ⟨0, _⟩ => exact Nat.add_zero _
theorem at1 (i : grid0.Coords) : (tbl m).at 1 (Rect.unit (s := S72) (k0_off1 i) S1.size (k0_off1_inb i)) numel1_S1 = tv m (kk i) := by
  refine congrArg (tbl m 1) (funext fun k => Fin.ext ?_)
  match k with
  | ⟨0, _⟩ => exact Nat.add_zero _

theorem mul_word (j : Fin 7) (w : BitVec 32) (hw : w.toNat ≤ 1) : (Scalar.muli (BitVec.ofNat 32 j.val) w).toNat = j.val * w.toNat := by
  have hj := j.isLt
  show (BitVec.ofNat 32 j.val * w).toNat = _
  rw [BitVec.toNat_mul, BitVec.toNat_ofNat]
  rcases Nat.le_one_iff_eq_zero_or_eq_one.mp hw with h | h
  · rw [h]; omega
  · rw [h]; omega

theorem tr1 (h : InR m) (i : grid0.Coords) :
    cc0_transform_1 k0_off1_inb numel1_S1 (tbl m) i = ![(te m (kk i)).toNat, 0, (i 1).val * (tv m (kk i)).toNat] := by
  have e : cc0_transform_1 k0_off1_inb numel1_S1 (tbl m) i
      = ![((tbl m).at 0 (Rect.unit (s := S72) (k0_off1 i) S1.size (k0_off1_inb i)) numel1_S1 : BitVec 32).toNat, 0,
          (Scalar.muli (BitVec.ofNat 32 (i 1).val) ((tbl m).at 1 (Rect.unit (s := S72) (k0_off1 i) S1.size (k0_off1_inb i)) numel1_S1)).toNat] := rfl
  rw [e, at0, at1, mul_word (i 1) _ (h _).2]
theorem tr2 (h : InR m) (i : grid0.Coords) :
    cc0_transform_2 k0_off1_inb numel1_S1 (tbl m) i = ![(te m (kk i)).toNat, 0, (i 1).val * (tv m (kk i)).toNat] := by
  have e : cc0_transform_2 k0_off1_inb numel1_S1 (tbl m) i
      = ![((tbl m).at 0 (Rect.unit (s := S72) (k0_off1 i) S1.size (k0_off1_inb i)) numel1_S1 : BitVec 32).toNat, 0,
          (Scalar.muli (BitVec.ofNat 32 (i 1).val) ((tbl m).at 1 (Rect.unit (s := S72) (k0_off1 i) S1.size (k0_off1_inb i)) numel1_S1)).toNat] := rfl
  rw [e, at0, at1, mul_word (i 1) _ (h _).2]
theorem tr3 (h : InR m) (i : grid0.Coords) :
    cc0_transform_3 k0_off1_inb numel1_S1 (tbl m) i = ![(te m (kk i)).toNat, (i 1).val * (tv m (kk i)).toNat, 0] := by
  have e : cc0_transform_3 k0_off1_inb numel1_S1 (tbl m) i
      = ![((tbl m).at 0 (Rect.unit (s := S72) (k0_off1 i) S1.size (k0_off1_inb i)) numel1_S1 : BitVec 32).toNat,
          (Scalar.muli (BitVec.ofNat 32 (i 1).val) ((tbl m).at 1 (Rect.unit (s := S72) (k0_off1 i) S1.size (k0_off1_inb i)) numel1_S1)).toNat, 0] := rfl
  rw [e, at0, at1, mul_word (i 1) _ (h _).2]

theorem chunk_le (h : InR m) (i : grid0.Coords) : (i 1).val * (tv m (kk i)).toNat ≤ 6 := by
  have hj : (i 1).val < 7 := (i 1).isLt
  rcases Nat.le_one_iff_eq_zero_or_eq_one.mp (h (kk i)).2 with e | e
  · rw [e]; omega
  · rw [e]; omega

/-- Tables in range name blocks inside the arrays. -/
theorem ok_of (h : InR m) : Ok m := by
  refine ⟨fun i => ⟨fun a => ?_, .inl rfl⟩, fun i => ⟨fun a => ?_, .inl rfl⟩, fun i => ⟨fun a => ?_, .inl rfl⟩⟩
  · rw [tr1 m h i]
    have h0 := (h (kk i)).1
    have h1 := chunk_le m h i
    match a with
    | ⟨0, _⟩ => show ((te m (kk i)).toNat + 1) * 1 ≤ 8; omega
    | ⟨1, _⟩ => show (0 + 1) * 1024 ≤ 1024; omega
    | ⟨2, _⟩ => show ((i 1).val * (tv m (kk i)).toNat + 1) * 512 ≤ 3584; omega
  · rw [tr2 m h i]
    have h0 := (h (kk i)).1
    have h1 := chunk_le m h i
    match a with
    | ⟨0, _⟩ => show ((te m (kk i)).toNat + 1) * 1 ≤ 8; omega
    | ⟨1, _⟩ => show (0 + 1) * 1024 ≤ 1024; omega
    | ⟨2, _⟩ => show ((i 1).val * (tv m (kk i)).toNat + 1) * 512 ≤ 3584; omega
  · rw [tr3 m h i]
    have h0 := (h (kk i)).1
    have h1 := chunk_le m h i
    match a with
    | ⟨0, _⟩ => show ((te m (kk i)).toNat + 1) * 1 ≤ 8; omega
    | ⟨1, _⟩ => show ((i 1).val * (tv m (kk i)).toNat + 1) * 512 ≤ 3584; omega
    | ⟨2, _⟩ => show (0 + 1) * 1024 ≤ 1024; omega

end Cert.ExpertsIdeal.Run

end
-- ==== Proof.ExpertsPay.lean ====
/- The experts call's body over the reals: what one point adds to its tile's running sum. -/
module

public import proofs.«01_k».proof.Proof.ExpertsIdealIdx
public import proofs.«01_k».proof.Proof.ExpertsSpec
import Idealize.ShloMosaic.Lib.Pipeline.ValueKit
import Idealize.ShloMosaic.Lib.KernelVsHost

@[expose] public section

set_option maxRecDepth 16384

noncomputable section

namespace Cert.ExpertsIdeal.Block

open Cert.ExpertsIdeal Cert.ExpertsIdeal.Gen Idealize.ShloMosaic Cert.TailMath Cert.ExpertsMath
open Idealize.ShloMosaic.TcCoe

/-- One point's part of a row: 512 hidden coordinates. -/
def partOf (x : Vec Ideal S1024x1024 .bf16) (wg wu : Vec Ideal S1x1024x512 .f32) (wd : Vec Ideal S1x512x1024 .f32) (r c : Fin 1024) : EReal :=
  ∑ f : Fin 512, (∑ d : Fin 1024, x (ix2 r d) * wg (ix3 0 d f)) * lgst (∑ d : Fin 1024, x (ix2 r d) * wg (ix3 0 d f))
    * (∑ d : Fin 1024, x (ix2 r d) * wu (ix3 0 d f)) * wd (ix3 0 f c)

theorem pay1_at (r c : Fin 1024) : k0_pay1 (F := Ideal) (ix3 0 r c) = 0 := by
  pointwise [k0_pay1]

theorem pay2_at (x : Vec Ideal S1024x1024 .bf16) (wg wu : Vec Ideal S1x1024x512 .f32) (a : Vec Ideal S1x1024x1024 .f32) (wd : Vec Ideal S1x512x1024 .f32) (r c : Fin 1024) :
    k0_pay2 x wg wu a wd (ix3 0 r c) = a (ix3 0 r c) + partOf x wg wu wd r c := by
  unfold partOf lgst
  pointwise [k0_pay2]

theorem pay3_at (a : Vec Ideal S1x1024x1024 .f32) (r c : Fin 1024) : k0_pay3 a (ix2 r c) = a (ix3 0 r c) := by
  pointwise [k0_pay3]

theorem pay4_at (r c : Fin 1024) : k0_pay4 (F := Ideal) (ix2 r c) = 0 := by
  pointwise [k0_pay4]

/-- A sum over the hidden coordinates is the sum of its seven chunks. -/
theorem sum_chunks (h : Fin 3584 → EReal) : ∑ f, h f = ∑ j : Fin 7, ∑ f : Fin 512, h ⟨(j : ℕ) * 512 + f, by omega⟩ := by
  rw [← Fintype.sum_prod_type' (f := fun (j : Fin 7) (f : Fin 512) => h ⟨(j : ℕ) * 512 + f, by omega⟩)]
  refine (Fintype.sum_equiv (finProdFinEquiv (m := 7) (n := 512)) _ _ fun p => congrArg h (Fin.ext ?_)).symm
  show (p.1 : ℕ) * 512 + p.2 = (p.2 : ℕ) + 512 * p.1
  omega

end Cert.ExpertsIdeal.Block

end
-- ==== Proof.ExpertsBlk.lean ====
/- The experts call's blocks over the reals, read back to the argument arrays. -/
module

public import proofs.«01_k».proof.Proof.ExpertsPay
import Idealize.ShloMosaic.Lib.Pipeline.ValueKit
import Idealize.ShloMosaic.Lib.KernelVsHost

@[expose] public section

set_option maxRecDepth 16384

noncomputable section

namespace Cert.ExpertsIdeal.Block

open Cert.ExpertsIdeal Cert.ExpertsIdeal.Gen Cert.ExpertsIdeal.Run Idealize.ShloMosaic Cert.TailMath Cert.ExpertsMath
open Idealize.ShloMosaic.TcCoe

variable (m : (ℓ : Loc nD τ sig) → Buf (Elt Ideal) ℓ) (hO : Ok m) (c : Dev nD)

/-- The argument arrays. -/
def arrs : Arr := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5)⟩

theorem te_eq (k : S72.Idx) : te m k = (arrs m c).E k := (congrFun (V_pre m c 0) k).symm
theorem tv_eq (k : S72.Idx) : tv m k = (arrs m c).V k := (congrFun (V_pre m c 1) k).symm

theorem N_lt (t : Fin grid0.N) : (t : ℕ) < 504 := lt_of_lt_of_eq t.isLt N_0

/-- The row of the arrays a block's row is. -/
abbrev rowOf (t : Fin grid0.N) (r : Fin 1024) : Fin 73728 := ⟨((t : ℕ) / 28 * 4 + (t : ℕ) % 4) * 1024 + r, by have := N_lt t; omega⟩

theorem kk_eq (t : Fin grid0.N) (r : Fin 1024) : kk (grid0.coords t) = ix1 (tile (rowOf t r)) := by
  have ht := N_lt t
  funext a
  refine Fin.ext ?_
  match a with
  | ⟨0, _⟩ =>
    show k0_off1 (grid0.coords t) 0 = (((t : ℕ) / 28 * 4 + (t : ℕ) % 4) * 1024 + r) / 1024
    rw [off1]
    omega

theorem tr0 (t : Fin grid0.N) : cc0_transform_0 (grid0.coords t) = ![(t : ℕ) / 28 * 4 + (t : ℕ) % 4, 0] := by
  have ht := N_lt t
  have e : cc0_transform_0 (grid0.coords t) = ![k0_off1 (grid0.coords t) 0, 0] := rfl
  rw [e, off1, Nat.mod_eq_of_lt (by omega)]

/-- A valid tile's chunk. -/
theorem chunk_eq (t : Fin grid0.N) (hv : (tv m (kk (grid0.coords t))).toNat = 1) : (grid0.coords t 1).val * (tv m (kk (grid0.coords t))).toNat = (t : ℕ) / 4 % 7 := by
  rw [hv, co1, Nat.mul_one]

/-- Window 0's block at point `t`. -/
theorem blk0 (t : Fin grid0.N) (r d : Fin 1024) : iblk m hO c 0 t (ix2 r d) = (arrs m c).X (ix2 (rowOf t r) d) := by
  refine congrArg (V m c main_arg2) (funext fun a => Fin.ext ?_)
  match a with
  | ⟨0, _⟩ =>
    show cc0_transform_0 (grid0.coords t) 0 * 1024 + 1 * (r : ℕ) = ((t : ℕ) / 28 * 4 + (t : ℕ) % 4) * 1024 + r
    rw [tr0, Nat.one_mul]; rfl
  | ⟨1, _⟩ =>
    show cc0_transform_0 (grid0.coords t) 1 * 1024 + 1 * (d : ℕ) = d
    rw [tr0]; show 0 * 1024 + 1 * (d : ℕ) = d; omega

theorem ex_eq (h : InR m) (t : Fin grid0.N) (r : Fin 1024) : (te m (kk (grid0.coords t))).toNat = (ex (arrs m c) (tile (rowOf t r))).val := by
  have h7 := (h (kk (grid0.coords t))).1
  show _ = ((arrs m c).E (ix1 (tile (rowOf t r)))).toNat % 8
  rw [← kk_eq t r, ← te_eq]
  omega

/-- Window 1's block at point `t`. -/
theorem blk1 (h : InR m) (t : Fin grid0.N) (hv : (tv m (kk (grid0.coords t))).toNat = 1) (r d : Fin 1024) (f : Fin 512) :
    iblk m hO c 1 t (ix3 0 d f) = (arrs m c).WG (ix3 (ex (arrs m c) (tile (rowOf t r))) d ⟨(t : ℕ) / 4 % 7 * 512 + f, by omega⟩) := by
  refine congrArg (V m c main_arg3) (funext fun a => Fin.ext ?_)
  match a with
  | ⟨0, _⟩ =>
    show cc0_transform_1 k0_off1_inb numel1_S1 (tbl m) (grid0.coords t) 0 * 1 + 1 * 0 = _
    rw [tr1 m h]; exact (show _ = (te m (kk (grid0.coords t))).toNat from by show (te m (kk (grid0.coords t))).toNat * 1 + 1 * 0 = _; omega).trans (ex_eq m c h t r)
  | ⟨1, _⟩ =>
    show cc0_transform_1 k0_off1_inb numel1_S1 (tbl m) (grid0.coords t) 1 * 1024 + 1 * (d : ℕ) = d
    rw [tr1 m h]; show 0 * 1024 + 1 * (d : ℕ) = d; omega
  | ⟨2, _⟩ =>
    show cc0_transform_1 k0_off1_inb numel1_S1 (tbl m) (grid0.coords t) 2 * 512 + 1 * (f : ℕ) = (t : ℕ) / 4 % 7 * 512 + f
    rw [tr1 m h]; show (grid0.coords t 1).val * (tv m (kk (grid0.coords t))).toNat * 512 + 1 * (f : ℕ) = _
    rw [chunk_eq m t hv, Nat.one_mul]

/-- Window 2's block at point `t`. -/
theorem blk2 (h : InR m) (t : Fin grid0.N) (hv : (tv m (kk (grid0.coords t))).toNat = 1) (r d : Fin 1024) (f : Fin 512) :
    iblk m hO c 2 t (ix3 0 d f) = (arrs m c).WU (ix3 (ex (arrs m c) (tile (rowOf t r))) d ⟨(t : ℕ) / 4 % 7 * 512 + f, by omega⟩) := by
  refine congrArg (V m c main_arg4) (funext fun a => Fin.ext ?_)
  match a with
  | ⟨0, _⟩ =>
    show cc0_transform_2 k0_off1_inb numel1_S1 (tbl m) (grid0.coords t) 0 * 1 + 1 * 0 = _
    rw [tr2 m h]; exact (show _ = (te m (kk (grid0.coords t))).toNat from by show (te m (kk (grid0.coords t))).toNat * 1 + 1 * 0 = _; omega).trans (ex_eq m c h t r)
  | ⟨1, _⟩ =>
    show cc0_transform_2 k0_off1_inb numel1_S1 (tbl m) (grid0.coords t) 1 * 1024 + 1 * (d : ℕ) = d
    rw [tr2 m h]; show 0 * 1024 + 1 * (d : ℕ) = d; omega
  | ⟨2, _⟩ =>
    show cc0_transform_2 k0_off1_inb numel1_S1 (tbl m) (grid0.coords t) 2 * 512 + 1 * (f : ℕ) = (t : ℕ) / 4 % 7 * 512 + f
    rw [tr2 m h]; show (grid0.coords t 1).val * (tv m (kk (grid0.coords t))).toNat * 512 + 1 * (f : ℕ) = _
    rw [chunk_eq m t hv, Nat.one_mul]

/-- Window 3's block at point `t`. -/
theorem blk3 (h : InR m) (t : Fin grid0.N) (hv : (tv m (kk (grid0.coords t))).toNat = 1) (r : Fin 1024) (f : Fin 512) (q : Fin 1024) :
    iblk m hO c 3 t (ix3 0 f q) = (arrs m c).WD (ix3 (ex (arrs m c) (tile (rowOf t r))) ⟨(t : ℕ) / 4 % 7 * 512 + f, by omega⟩ q) := by
  refine congrArg (V m c main_arg5) (funext fun a => Fin.ext ?_)
  match a with
  | ⟨0, _⟩ =>
    show cc0_transform_3 k0_off1_inb numel1_S1 (tbl m) (grid0.coords t) 0 * 1 + 1 * 0 = _
    rw [tr3 m h]; exact (show _ = (te m (kk (grid0.coords t))).toNat from by show (te m (kk (grid0.coords t))).toNat * 1 + 1 * 0 = _; omega).trans (ex_eq m c h t r)
  | ⟨1, _⟩ =>
    show cc0_transform_3 k0_off1_inb numel1_S1 (tbl m) (grid0.coords t) 1 * 512 + 1 * (f : ℕ) = (t : ℕ) / 4 % 7 * 512 + f
    rw [tr3 m h]; show (grid0.coords t 1).val * (tv m (kk (grid0.coords t))).toNat * 512 + 1 * (f : ℕ) = _
    rw [chunk_eq m t hv, Nat.one_mul]
  | ⟨2, _⟩ =>
    show cc0_transform_3 k0_off1_inb numel1_S1 (tbl m) (grid0.coords t) 2 * 1024 + 1 * (q : ℕ) = q
    rw [tr3 m h]; show 0 * 1024 + 1 * (q : ℕ) = q; omega

/-- A point's part from the entries of its blocks. -/
theorem part_gen (A : Arr) (R : Fin 73728) (x : Vec Ideal S1024x1024 .bf16) (wg wu : Vec Ideal S1x1024x512 .f32) (wd : Vec Ideal S1x512x1024 .f32)
    (r q : Fin 1024) (u : Fin 512 → Fin 3584) (h0 : ∀ d : Fin 1024, x (ix2 r d) = A.X (ix2 R d))
    (h1 : ∀ (d : Fin 1024) (f : Fin 512), wg (ix3 0 d f) = A.WG (ix3 (ex A (tile R)) d (u f)))
    (h2 : ∀ (d : Fin 1024) (f : Fin 512), wu (ix3 0 d f) = A.WU (ix3 (ex A (tile R)) d (u f)))
    (h3 : ∀ f : Fin 512, wd (ix3 0 f q) = A.WD (ix3 (ex A (tile R)) (u f) q)) :
    partOf x wg wu wd r q = ∑ f : Fin 512, term A R q (u f) := by
  unfold partOf
  refine Finset.sum_congr rfl fun f _ => ?_
  have e1 : ∑ d : Fin 1024, x (ix2 r d) * wg (ix3 0 d f) = gt A R (u f) :=
    Finset.sum_congr rfl fun d _ => congrArg₂ (fun x y : EReal => x * y) (h0 d) (h1 d f)
  have e2 : ∑ d : Fin 1024, x (ix2 r d) * wu (ix3 0 d f) = up A R (u f) :=
    Finset.sum_congr rfl fun d _ => congrArg₂ (fun x y : EReal => x * y) (h0 d) (h2 d f)
  unfold term
  exact congrArg₂ (fun x y : EReal => x * y) (congrArg₂ (fun x y : EReal => x * y) (congrArg (fun z : EReal => z * lgst z) e1) e2) (h3 f)

/-- What point `t` of a valid tile adds. -/
theorem part_at (h : InR m) (t : Fin grid0.N) (hv : (tv m (kk (grid0.coords t))).toNat = 1) (r q : Fin 1024) :
    partOf (iblk m hO c 0 t) (iblk m hO c 1 t) (iblk m hO c 2 t) (iblk m hO c 3 t) r q
      = ∑ f : Fin 512, term (arrs m c) (rowOf t r) q ⟨(t : ℕ) / 4 % 7 * 512 + f, by omega⟩ :=
  part_gen (arrs m c) (rowOf t r) _ _ _ _ r q (fun f => ⟨(t : ℕ) / 4 % 7 * 512 + f, by omega⟩) (fun d => blk0 m hO c t r d)
    (fun d f => blk1 m hO c h t hv r d f) (fun d f => blk2 m hO c h t hv r d f) (fun f => blk3 m hO c h t hv r f q)

end Cert.ExpertsIdeal.Block

end
-- ==== Proof.ExpertsValue.lean ====
/- The experts call's result array over the reals. -/
module

public import proofs.«01_k».proof.Proof.ExpertsBlk
public import Idealize.ShloMosaic.Lib.Pipeline.ValueKit
import Idealize.ShloMosaic.Lib.KernelVsHost

@[expose] public section

set_option maxRecDepth 16384

noncomputable section

namespace Cert.ExpertsIdeal.Block

open Cert.ExpertsIdeal Cert.ExpertsIdeal.Gen Cert.ExpertsIdeal.Run Idealize.ShloMosaic Cert.TailMath Cert.ExpertsMath
open Idealize.ShloMosaic.TcCoe

variable (m : (ℓ : Loc nD τ sig) → Buf (Elt Ideal) ℓ) (hO : Ok m) (c : Dev nD)

theorem cv_iff (w : BitVec 32) : cv w ↔ IntOp.cmpi .sgt w 0#32 = 1#1 :=
  (by decide : ∀ b : BitVec 1, Scalar.cmpi .ne (Scalar.extui b : BitVec 32) 0#32 = 1#1 ↔ b = 1#1) (IntOp.cmpi .sgt w 0#32)

theorem one_of (w : BitVec 32) (h1 : w.toNat ≤ 1) (hs : IntOp.cmpi .sgt w 0#32 = 1#1) : w.toNat = 1 := by
  by_contra hne
  have h0 : w = 0#32 := BitVec.eq_of_toNat_eq (by show w.toNat = 0; omega)
  rw [h0] at hs
  exact absurd hs (by decide)

theorem tw_eq (t : Fin grid0.N) : tw m ((t : ℕ) / 28 * 4 + (t : ℕ) % 4) = tv m (kk (grid0.coords t)) :=
  congrArg (tbl m 1) (congrArg ValueIdx.ix1 (Fin.ext (off1 t).symm))

theorem pt_at (n : ℕ) (hn : n < 504) : ((pt m hO n : Fin grid0.N) : ℕ) = n := Nat.mod_eq_of_lt hn

/-- A valid tile's running sum. -/
theorem acc_sum (h : InR m) (t : Fin grid0.N) (hv : (tv m (kk (grid0.coords t))).toNat = 1) (r q : Fin 1024) : ∀ k : ℕ, k ≤ 7 →
    acc m hO c ((t : ℕ) / 28) ((t : ℕ) % 4) k (ix3 0 r q)
      = ∑ j ∈ Finset.range k, ∑ f : Fin 512, term (arrs m c) (rowOf t r) q ⟨(j * 512 + f) % 3584, Nat.mod_lt _ (by decide)⟩ := by
  have ht := N_lt t
  intro k
  induction k with
  | zero => intro _; exact (pay1_at r q).trans (Finset.sum_range_zero _).symm
  | succ k ih =>
    intro hk
    have hp := pt_at m hO ((t : ℕ) / 28 * 28 + k * 4 + (t : ℕ) % 4) (by omega)
    show k0_pay2 _ _ _ (acc m hO c ((t : ℕ) / 28) ((t : ℕ) % 4) k) _ (ix3 0 r q) = _
    rw [Finset.sum_range_succ]
    refine (pay2_at _ _ _ _ _ r q).trans (congrArg₂ (fun x y : EReal => x + y) (ih (by omega)) ?_)
    generalize (pt m hO ((t : ℕ) / 28 * 28 + k * 4 + (t : ℕ) % 4) : Fin grid0.N) = p at hp ⊢
    have er : rowOf p r = rowOf t r := Fin.ext (by show ((p : ℕ) / 28 * 4 + (p : ℕ) % 4) * 1024 + (r : ℕ) = ((t : ℕ) / 28 * 4 + (t : ℕ) % 4) * 1024 + r; rw [hp]; omega)
    have ek : kk (grid0.coords p) = kk (grid0.coords t) := by rw [kk_eq p r, kk_eq t r, er]
    refine (part_at m hO c h p (by rw [ek]; exact hv) r q).trans ?_
    rw [er]
    refine Finset.sum_congr rfl fun f _ => congrArg (term (arrs m c) (rowOf t r) q) (Fin.ext ?_)
    show (p : ℕ) / 4 % 7 * 512 + (f : ℕ) = (k * 512 + f) % 3584
    rw [hp]
    have hf := f.isLt
    omega

/-- What a block's last point leaves. -/
theorem out_at (h : InR m) (t : Fin grid0.N) (r q : Fin 1024) : out m hO c t.val (ix2 r q) = outR (arrs m c) (rowOf t r) q := by
  unfold out outR
  have e : tw m ((t : ℕ) / 28 * 4 + (t : ℕ) % 4) = (arrs m c).V (ix1 (tile (rowOf t r))) := by rw [tw_eq, kk_eq t r, ← tv_eq]
  by_cases hs : IntOp.cmpi .sgt ((arrs m c).V (ix1 (tile (rowOf t r)))) 0#32 = 1#1
  · rw [if_pos ((cv_iff _).2 (by rw [e]; exact hs)), if_pos hs]
    have hv : (tv m (kk (grid0.coords t))).toNat = 1 := one_of _ (h _).2 (by rw [← tw_eq, e]; exact hs)
    refine (pay3_at _ r q).trans ((acc_sum m hO c h t hv r q 7 le_rfl).trans ?_)
    rw [Finset.sum_range, sum_chunks]
    refine Finset.sum_congr rfl fun j _ => Finset.sum_congr rfl fun f _ => congrArg (term (arrs m c) (rowOf t r) q) (Fin.ext ?_)
    exact Nat.mod_eq_of_lt (by have := j.isLt; have := f.isLt; omega)
  · rw [if_neg (fun h' => hs (by have := (cv_iff _).1 h'; rwa [e] at this)), if_neg hs]
    exact pay4_at r q

theorem tr4 : ∀ t : Fin grid0.N, t.val / 4 % 7 = 6 → cc0_transform_4 (grid0.coords t) = ![(t : ℕ) / 28 * 4 + (t : ℕ) % 4, 0] := by
  decide +kernel

theorem flush4 : ∀ t : Fin grid0.N, t.val / 4 % 7 = 6 → Pipeline.Window.flushOf grid0 true cc0_transform_4 t = true := by
  decide +kernel

theorem covers : ((cfgM m hO).win 4).Covers := by
  refine ⟨fun a => ?_, fun β => ?_⟩
  · match a with
    | ⟨0, _⟩ => exact (by decide : 0 < 1024)
    | ⟨1, _⟩ => exact (by decide : 0 < 1024)
  · have n0 : ((cfgM m hO).win 4).nblk ⟨0, (by decide : 0 < 2)⟩ = 72 := (by decide +kernel : (73728 + 1024 - 1) / 1024 = 72)
    have n1 : ((cfgM m hO).win 4).nblk ⟨1, (by decide : 1 < 2)⟩ = 1 := (by decide +kernel : (1024 + 1024 - 1) / 1024 = 1)
    have h0 : (β ⟨0, (by decide : 0 < 2)⟩ : ℕ) < 72 := lt_of_lt_of_eq (β ⟨0, (by decide : 0 < 2)⟩).isLt n0
    have h1 : (β ⟨1, (by decide : 1 < 2)⟩ : ℕ) < 1 := lt_of_lt_of_eq (β ⟨1, (by decide : 1 < 2)⟩).isLt n1
    generalize hb : (β ⟨0, (by decide : 0 < 2)⟩ : ℕ) = b at h0
    have hlt : b / 4 * 28 + 24 + b % 4 < grid0.N := lt_of_lt_of_eq (by omega) N_0.symm
    have h6 : ((⟨b / 4 * 28 + 24 + b % 4, hlt⟩ : Fin grid0.N) : ℕ) / 4 % 7 = 6 := by
      show (b / 4 * 28 + 24 + b % 4) / 4 % 7 = 6; omega
    refine ⟨(⟨b / 4 * 28 + 24 + b % 4, hlt⟩ : Fin grid0.N), flush4 _ h6, fun a => ⟨?_, ?_⟩⟩
    · show cc0_transform_4 (grid0.coords ⟨b / 4 * 28 + 24 + b % 4, hlt⟩) a = β a
      rw [tr4 _ h6]
      match a with
      | ⟨0, _⟩ =>
        show (b / 4 * 28 + 24 + b % 4) / 28 * 4 + (b / 4 * 28 + 24 + b % 4) % 4 = (β ⟨0, _⟩ : ℕ)
        rw [hb]; omega
      | ⟨1, _⟩ =>
        show 0 = (β ⟨1, _⟩ : ℕ)
        omega
    · exact Or.inl rfl

/-- THE OUTPUT ARRAY after the run. -/
theorem final (h : InR m) : (dats m hO 0 c).arrAt 4 (cfgM m hO).N = G (arrs m c) := by
  refine (dats m hO 0 c).arrAt_eq_of_covers 4 _ (covers m hO) fun t hf y => ?_
  have h6 : t.val / 4 % 7 = 6 := by
    by_contra h6
    exact absurd (hf.symm.trans (noFlush4 m hO t h6)) (by decide)
  rw [after0_4]
  have ht := N_lt t
  have key : ∀ y : S1024x1024.Idx, (((cfgM m hO).win 4).blk t).view.emb y = ix2 (rowOf t (y 0)) (y 1) := fun y => by
    funext a
    refine Fin.ext ?_
    match a with
    | ⟨0, _⟩ =>
      show cc0_transform_4 (grid0.coords t) 0 * 1024 + 1 * (y 0 : ℕ) = ((t : ℕ) / 28 * 4 + (t : ℕ) % 4) * 1024 + (y 0 : ℕ)
      rw [tr4 t h6, Nat.one_mul]; rfl
    | ⟨1, _⟩ =>
      show cc0_transform_4 (grid0.coords t) 1 * 1024 + 1 * (y 1 : ℕ) = (y 1 : ℕ)
      rw [tr4 t h6]; show 0 * 1024 + 1 * (y 1 : ℕ) = _; omega
  have eo : ∀ y : S1024x1024.Idx, out m hO c t.val y = outR (arrs m c) (rowOf t (y 0)) (y 1) := fun y => by
    have ey : y = ix2 (y 0) (y 1) := by funext a; match a with | ⟨0, _⟩ => rfl | ⟨1, _⟩ => rfl
    refine (congrArg (out m hO c t.val) ey).trans (out_at m hO c h t (y 0) (y 1))
  exact (eo y).trans (congrArg (G (arrs m c)) (key y)).symm

/-- The run: the result array at `G`, the arguments unchanged. -/
theorem run (h : InR m) (ρ : Dev nD → PrngReg) : θ_run defs (onTc (τ := τ) (main (F := Ideal))) ⟨m, fun _ => 0, ρ⟩ (fun r => ∀ c : Dev nD,
      r.2.mem ((c : Thread nD τ).loc main_v0) = G (arrs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun _ hh c => ⟨((hh.1 c).1 4).trans (final m (ok_of m h) c h), hh.2 c⟩)
    (θ_run_and (run_main m ρ (ok_of m h)) (unchanged m ρ (ok_of m h)))

end Cert.ExpertsIdeal.Block

end
-- ==== Proof.ExpertsClaim.lean ====
/- The claims on the experts' call of the layer: both programs' frames and the equality of their results over the reals. -/
module

public import proofs.«01_k».proof.Defs
public import proofs.«01_k».proof.Proof.ExpertsFrame
public import proofs.«01_k».proof.Proof.ExpertsIdx
public import proofs.«01_k».proof.Proof.ExpertsRef
public import proofs.«01_k».proof.Proof.ExpertsValue
public import proofs.«01_k».proof.Proof.Gen.Pre_tables_in_range
public import Idealize.ShloMosaic.Lib.Quiescent

@[expose] public section

noncomputable section

namespace Cert.Proof.Experts

open Idealize.ShloMosaic Idealize.ShloMosaic.TcCoe

/-- The precondition, read at one tile. -/
theorem pre_at {F : FTy → Type} [FloatOps F] (a0 a1 : IVec Cert.Pre_tables_in_range.S72 32) (a2 : FVec F Cert.Pre_tables_in_range.S73728x1024 .bf16) (a3 a4 : FVec F Cert.Pre_tables_in_range.S8x1024x3584 .f32) (a5 : FVec F Cert.Pre_tables_in_range.S8x3584x1024 .f32)
    (h : Cert.Pre_tables_in_range.fn (F := F) a0 a1 a2 a3 a4 a5 = fun _ => 1#1) (w : Cert.Pre_tables_in_range.S72.Idx) : (a0 w).toNat ≤ 7 ∧ (a1 w).toNat ≤ 1 := by
  have andi_one (a b : BitVec 1) : IntOp.andi a b = 1#1 ↔ a = 1#1 ∧ b = 1#1 := by revert a b; decide
  have pre := congrFun h w
  simp only [Cert.Pre_tables_in_range.fn, constantI, broadcastInDim, cmpi, andi, andi_one] at pre
  exact ⟨Cert.ExpertsMath.word_le _ 7 (by decide) pre.1.1.1 pre.1.1.2, Cert.ExpertsMath.word_le _ 1 (by decide) pre.1.2 pre.2⟩

theorem inR_p (m : (ℓ : Loc Cert.Experts.nD Cert.Experts.τ Cert.Experts.sig) → Buf (Elt Bits) ℓ) (h : Cert.Pre_Experts m) : Cert.Experts.Run.InR m :=
  fun k => pre_at _ _ _ _ _ _ (h 0) k

theorem inR_pi (m : (ℓ : Loc Cert.ExpertsIdeal.nD Cert.ExpertsIdeal.τ Cert.ExpertsIdeal.sig) → Buf (Elt Ideal) ℓ) (h : Cert.Pre_ExpertsIdeal m) : Cert.ExpertsIdeal.Run.InR m :=
  fun k => pre_at _ _ _ _ _ _ (h 0) k

/-- The kernel runs, leaves its arguments unchanged and every counter at zero. -/
theorem frame_p : Cert.quiescent_Experts := fun m ρ h => Cert.Experts.Run.frame m ρ (Cert.Experts.Run.ok_of m (inR_p m h))

/-- The idealized kernel runs, leaves its arguments unchanged and every counter at zero. -/
theorem frame_pi : Cert.quiescent_ExpertsIdeal := fun m ρ h => Cert.ExpertsIdeal.Run.frame m ρ (Cert.ExpertsIdeal.Run.ok_of m (inR_pi m h))

/-- The idealized reference's run with its counters: it declares no semaphore. -/
theorem ref_run (m : (ℓ : Loc Cert.ExpertsRefIdeal.nD Cert.ExpertsRefIdeal.τ Cert.ExpertsRefIdeal.sig) → Buf (Elt Ideal) ℓ) (ρ : Dev Cert.ExpertsRefIdeal.nD → PrngReg) :
    θ_run (Cert.ExpertsRefIdeal.defs (F := Ideal)) (onTc (τ := Cert.ExpertsRefIdeal.τ) (Cert.ExpertsRefIdeal.main (F := Ideal))) ⟨m, fun _ => 0, ρ⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0) :=
  (θ_run Cert.ExpertsRefIdeal.defs _ _).mono (fun r h => ⟨fun c => (h c).2, sem_eq_zero_of_no_sems (by decide) r.2⟩) (Cert.ExpertsRefIdeal.Block.run m ρ)

/-- The idealized reference runs, leaves its arguments unchanged and every counter at zero. -/
theorem frame_ri : Cert.quiescent_ExpertsRefIdeal := fun m ρ _ => ref_run m ρ

/-- The same under the precondition of the value claim. -/
theorem frame_ri_pre : Cert.quiescent_ExpertsRefIdeal_pre_tables_in_range := fun m ρ _ => ref_run m ρ

/-- The idealized kernel and the idealized reference end with the same result. -/
theorem value : Cert.algebraic_ExpertsIdeal_ExpertsRefIdeal := by
  intro m ρ m' ρ' hpre hag
  refine ⟨fun c => Cert.ExpertsMath.G (Cert.ExpertsIdeal.Block.arrs m c), Cert.ExpertsIdeal.Block.run m (inR_pi m hpre) ρ, ?_⟩
  refine (θ_run Cert.ExpertsRefIdeal.defs _ _).mono (fun r h c => ⟨(h c).1.trans ?_, (h c).2⟩) (Cert.ExpertsRefIdeal.Block.run m' ρ')
  obtain ⟨h0, h1, h2, h3, h4, h5⟩ := hag c
  have e : Cert.ExpertsRefIdeal.Block.arrs m' c = Cert.ExpertsIdeal.Block.arrs m c := by
    unfold Cert.ExpertsRefIdeal.Block.arrs
    rw [h0, h1, h2, h3, h4, h5]
    rfl
  have hA : Cert.ExpertsMath.InRange (Cert.ExpertsIdeal.Block.arrs m c) := fun k => pre_at _ _ _ _ _ _ (hpre c) (ix1 k)
  rw [e, Cert.ExpertsRefIdeal.Block.ref_eq _ hA]

end Cert.Proof.Experts

end
-- ==== Proof.lean ====
module

public import proofs.«01_k».proof.Defs
public import proofs.«01_k».proof.Proof.Gen.Gqa
public import proofs.«01_k».proof.Proof.Gen.Gqa.Skeleton
public import proofs.«01_k».proof.Proof.Gen.Gqa.Launch
public import proofs.«01_k».proof.Proof.Gen.Gqa.Points
public import proofs.«01_k».proof.Proof.Gen.Gqa.Frame
public import proofs.«01_k».proof.Proof.Gen.GqaIdeal
public import proofs.«01_k».proof.Proof.Gen.GqaIdeal.Skeleton
public import proofs.«01_k».proof.Proof.Gen.GqaIdeal.Launch
public import proofs.«01_k».proof.Proof.Gen.GqaIdeal.Points
public import proofs.«01_k».proof.Proof.Gen.GqaIdeal.Frame
public import proofs.«01_k».proof.Proof.Gen.GqaRefIdeal
public import proofs.«01_k».proof.Proof.Gen.Mla
public import proofs.«01_k».proof.Proof.Gen.Mla.Skeleton
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaRefIdeal
public import proofs.«01_k».proof.Proof.Gen.Pre_gqa_finite
public import proofs.«01_k».proof.Proof.Gen.Pre_mla_finite
public import proofs.«01_k».proof.Proof.Gen.GqaIdeal.Value
public import proofs.«01_k».proof.Proof.Gen.GqaRefIdeal.Run
public import proofs.«01_k».proof.Proof.Gen.MlaIdeal.Value
public import proofs.«01_k».proof.Proof.Gen.MlaRefIdeal.Run
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailRefIdeal
public import proofs.«01_k».proof.Proof.Gen.TailIdeal.Value
public import proofs.«01_k».proof.Proof.Gen.TailRefIdeal.Run
public import proofs.«01_k».proof.Proof.GqaClaim
public import proofs.«01_k».proof.Proof.MlaClaim
public import proofs.«01_k».proof.Proof.TailClaim
public import proofs.«01_k».proof.Proof.CombineClaim
public import proofs.«01_k».proof.Proof.ExpertsClaim
public import Idealize.ShloMosaic.Adequacy
public import Idealize.ShloMosaic.Init

@[expose] public section

noncomputable section

namespace Cert.Proof

open Idealize.ShloMosaic

theorem claim : Cert.Claim := ⟨Cert.Gqa.Gen.facts, Cert.GqaIdeal.Gen.facts, Cert.GqaRefIdeal.Gen.facts, Cert.Mla.Gen.facts, Cert.MlaIdeal.Gen.facts, Cert.MlaRefIdeal.Gen.facts, Cert.Tail.Gen.facts, Cert.TailIdeal.Gen.facts, Cert.TailRefIdeal.Gen.facts, Cert.Combine.Gen.facts, Cert.CombineIdeal.Gen.facts, Cert.CombineRefIdeal.Gen.facts, Cert.Experts.Gen.facts, Cert.ExpertsIdeal.Gen.facts, Cert.ExpertsRefIdeal.Gen.facts, Cert.Pre_gqa_finite.Gen.facts, Cert.Pre_mla_finite.Gen.facts, Cert.Pre_tables_in_range.Gen.facts,
  Gqa.frame_p, Gqa.frame_pi, Gqa.frame_pi_pre, Gqa.frame_ri, Gqa.frame_ri_pre,
  Mla.frame_p, Mla.frame_pi, Mla.frame_pi_pre, Mla.frame_ri, Mla.frame_ri_pre,
  Tail.frame_p, Tail.frame_pi, Tail.frame_ri,
  Combine.frame_p, Combine.frame_pi, Combine.frame_ri,
  Experts.frame_p, Experts.frame_pi, Experts.frame_ri, Experts.frame_ri_pre,
  trivial, Gqa.value, trivial, Mla.value, trivial, Tail.value, trivial, Combine.value, trivial, Experts.value⟩

end Cert.Proof

end
